-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S2x1024x8x128 : Shape := ⟨4, ![2, 1024, 8, 128]⟩
abbrev S32x1024 : Shape := ⟨2, ![32, 1024]⟩
abbrev S31x32x1024 : Shape := ⟨3, ![31, 32, 1024]⟩
abbrev S2 : Shape := ⟨1, ![2]⟩
abbrev S31 : Shape := ⟨1, ![31]⟩
abbrev S1 : Shape := ⟨1, ![1]⟩
abbrev S_ : Shape := ⟨0, ![]⟩
abbrev S1x1024x8x128 : Shape := ⟨4, ![1, 1024, 8, 128]⟩
abbrev S1024x8x128 : Shape := ⟨3, ![1024, 8, 128]⟩
abbrev S1024x128 : Shape := ⟨2, ![1024, 128]⟩
abbrev S1x1024x1x128 : Shape := ⟨4, ![1, 1024, 1, 128]⟩
abbrev S1024 : Shape := ⟨1, ![1024]⟩
abbrev S1024x1 : Shape := ⟨2, ![1024, 1]⟩
abbrev S1x32x1024 : Shape := ⟨3, ![1, 32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x256x128, .f32⟩
  | .hbm, ⟨3, _⟩ => ⟨S1x1024x256x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x1024x8x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .bf16⟩
  | .local _ .vmem, ⟨9, _⟩ => ⟨S32x1024, .bf16⟩
  | .local _ .vmem, ⟨10, _⟩ => ⟨S31x32x1024, .bf16⟩
  | .local _ .vmem, ⟨11, _⟩ => ⟨S31x32x1024, .bf16⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let c0_i32_6 : BitVec 32 := 0#32
  ![0, 0, v3.toNat, 0]
def k0_dev1 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_196 : BitVec 32 := 1#32
  let v342 : BitVec 32 := Scalar.addi v2 c1_i32_196
  let c32_i32_197 : BitVec 32 := 32#32
  let c0_i32_198 : BitVec 32 := 0#32
  let v343 : BitVec 1 := Scalar.cmpi .eq c32_i32_197 c0_i32_198
  let c1_i32_199 : BitVec 32 := 1#32
  let v344 : BitVec 32 := Scalar.select v343 c1_i32_199 c32_i32_197
  let v345 : BitVec 32 := Scalar.remsi v342 v344
  let c0_i32_201 : BitVec 32 := 0#32
  let v347 : BitVec 1 := Scalar.cmpi .slt v345 c0_i32_201
  let c0_i32_202 : BitVec 32 := 0#32
  let v348 : BitVec 1 := Scalar.cmpi .slt v344 c0_i32_202
  let v349 : BitVec 1 := Scalar.xori v347 v348
  let c0_i32_200 : BitVec 32 := 0#32
  let v346 : BitVec 1 := Scalar.cmpi .ne v345 c0_i32_200
  let v350 : BitVec 1 := Scalar.andi v349 v346
  let v351 : BitVec 32 := Scalar.addi v345 v344
  let v352 : BitVec 32 := Scalar.select v350 v351 v345
  let c1_i32_204 : BitVec 32 := 1#32
  let v353 : BitVec 32 := Scalar.muli v352 c1_i32_204
  let v354 : BitVec 32 := Scalar.addi c0_i32_205 v353
  v354.toNat
def k0_dev2 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v355 : BitVec 32 := Scalar.addi v2 c2_i32
  let c32_i32_206 : BitVec 32 := 32#32
  let c0_i32_207 : BitVec 32 := 0#32
  let v356 : BitVec 1 := Scalar.cmpi .eq c32_i32_206 c0_i32_207
  let c1_i32_208 : BitVec 32 := 1#32
  let v357 : BitVec 32 := Scalar.select v356 c1_i32_208 c32_i32_206
  let v358 : BitVec 32 := Scalar.remsi v355 v357
  let c0_i32_210 : BitVec 32 := 0#32
  let v360 : BitVec 1 := Scalar.cmpi .slt v358 c0_i32_210
  let c0_i32_211 : BitVec 32 := 0#32
  let v361 : BitVec 1 := Scalar.cmpi .slt v357 c0_i32_211
  let v362 : BitVec 1 := Scalar.xori v360 v361
  let c0_i32_209 : BitVec 32 := 0#32
  let v359 : BitVec 1 := Scalar.cmpi .ne v358 c0_i32_209
  let v363 : BitVec 1 := Scalar.andi v362 v359
  let v364 : BitVec 32 := Scalar.addi v358 v357
  let v365 : BitVec 32 := Scalar.select v363 v364 v358
  let c1_i32_213 : BitVec 32 := 1#32
  let v366 : BitVec 32 := Scalar.muli v365 c1_i32_213
  let v367 : BitVec 32 := Scalar.addi c0_i32_214 v366
  v367.toNat
def k0_dev3 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_215 : BitVec 32 := 3#32
  let v368 : BitVec 32 := Scalar.addi v2 c3_i32_215
  let c32_i32_216 : BitVec 32 := 32#32
  let c0_i32_217 : BitVec 32 := 0#32
  let v369 : BitVec 1 := Scalar.cmpi .eq c32_i32_216 c0_i32_217
  let c1_i32_218 : BitVec 32 := 1#32
  let v370 : BitVec 32 := Scalar.select v369 c1_i32_218 c32_i32_216
  let v371 : BitVec 32 := Scalar.remsi v368 v370
  let c0_i32_220 : BitVec 32 := 0#32
  let v373 : BitVec 1 := Scalar.cmpi .slt v371 c0_i32_220
  let c0_i32_221 : BitVec 32 := 0#32
  let v374 : BitVec 1 := Scalar.cmpi .slt v370 c0_i32_221
  let v375 : BitVec 1 := Scalar.xori v373 v374
  let c0_i32_219 : BitVec 32 := 0#32
  let v372 : BitVec 1 := Scalar.cmpi .ne v371 c0_i32_219
  let v376 : BitVec 1 := Scalar.andi v375 v372
  let v377 : BitVec 32 := Scalar.addi v371 v370
  let v378 : BitVec 32 := Scalar.select v376 v377 v371
  let c1_i32_223 : BitVec 32 := 1#32
  let v379 : BitVec 32 := Scalar.muli v378 c1_i32_223
  let v380 : BitVec 32 := Scalar.addi c0_i32_224 v379
  v380.toNat
def k0_dev4 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v381 : BitVec 32 := Scalar.addi v2 c4_i32
  let c32_i32_225 : BitVec 32 := 32#32
  let c0_i32_226 : BitVec 32 := 0#32
  let v382 : BitVec 1 := Scalar.cmpi .eq c32_i32_225 c0_i32_226
  let c1_i32_227 : BitVec 32 := 1#32
  let v383 : BitVec 32 := Scalar.select v382 c1_i32_227 c32_i32_225
  let v384 : BitVec 32 := Scalar.remsi v381 v383
  let c0_i32_229 : BitVec 32 := 0#32
  let v386 : BitVec 1 := Scalar.cmpi .slt v384 c0_i32_229
  let c0_i32_230 : BitVec 32 := 0#32
  let v387 : BitVec 1 := Scalar.cmpi .slt v383 c0_i32_230
  let v388 : BitVec 1 := Scalar.xori v386 v387
  let c0_i32_228 : BitVec 32 := 0#32
  let v385 : BitVec 1 := Scalar.cmpi .ne v384 c0_i32_228
  let v389 : BitVec 1 := Scalar.andi v388 v385
  let v390 : BitVec 32 := Scalar.addi v384 v383
  let v391 : BitVec 32 := Scalar.select v389 v390 v384
  let c1_i32_232 : BitVec 32 := 1#32
  let v392 : BitVec 32 := Scalar.muli v391 c1_i32_232
  let v393 : BitVec 32 := Scalar.addi c0_i32_233 v392
  v393.toNat
def k0_dev5 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v394 : BitVec 32 := Scalar.addi v2 c5_i32
  let c32_i32_234 : BitVec 32 := 32#32
  let c0_i32_235 : BitVec 32 := 0#32
  let v395 : BitVec 1 := Scalar.cmpi .eq c32_i32_234 c0_i32_235
  let c1_i32_236 : BitVec 32 := 1#32
  let v396 : BitVec 32 := Scalar.select v395 c1_i32_236 c32_i32_234
  let v397 : BitVec 32 := Scalar.remsi v394 v396
  let c0_i32_238 : BitVec 32 := 0#32
  let v399 : BitVec 1 := Scalar.cmpi .slt v397 c0_i32_238
  let c0_i32_239 : BitVec 32 := 0#32
  let v400 : BitVec 1 := Scalar.cmpi .slt v396 c0_i32_239
  let v401 : BitVec 1 := Scalar.xori v399 v400
  let c0_i32_237 : BitVec 32 := 0#32
  let v398 : BitVec 1 := Scalar.cmpi .ne v397 c0_i32_237
  let v402 : BitVec 1 := Scalar.andi v401 v398
  let v403 : BitVec 32 := Scalar.addi v397 v396
  let v404 : BitVec 32 := Scalar.select v402 v403 v397
  let c1_i32_241 : BitVec 32 := 1#32
  let v405 : BitVec 32 := Scalar.muli v404 c1_i32_241
  let v406 : BitVec 32 := Scalar.addi c0_i32_242 v405
  v406.toNat
def k0_dev6 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v407 : BitVec 32 := Scalar.addi v2 c6_i32
  let c32_i32_243 : BitVec 32 := 32#32
  let c0_i32_244 : BitVec 32 := 0#32
  let v408 : BitVec 1 := Scalar.cmpi .eq c32_i32_243 c0_i32_244
  let c1_i32_245 : BitVec 32 := 1#32
  let v409 : BitVec 32 := Scalar.select v408 c1_i32_245 c32_i32_243
  let v410 : BitVec 32 := Scalar.remsi v407 v409
  let c0_i32_247 : BitVec 32 := 0#32
  let v412 : BitVec 1 := Scalar.cmpi .slt v410 c0_i32_247
  let c0_i32_248 : BitVec 32 := 0#32
  let v413 : BitVec 1 := Scalar.cmpi .slt v409 c0_i32_248
  let v414 : BitVec 1 := Scalar.xori v412 v413
  let c0_i32_246 : BitVec 32 := 0#32
  let v411 : BitVec 1 := Scalar.cmpi .ne v410 c0_i32_246
  let v415 : BitVec 1 := Scalar.andi v414 v411
  let v416 : BitVec 32 := Scalar.addi v410 v409
  let v417 : BitVec 32 := Scalar.select v415 v416 v410
  let c1_i32_250 : BitVec 32 := 1#32
  let v418 : BitVec 32 := Scalar.muli v417 c1_i32_250
  let v419 : BitVec 32 := Scalar.addi c0_i32_251 v418
  v419.toNat
def k0_dev7 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v420 : BitVec 32 := Scalar.addi v2 c7_i32
  let c32_i32_252 : BitVec 32 := 32#32
  let c0_i32_253 : BitVec 32 := 0#32
  let v421 : BitVec 1 := Scalar.cmpi .eq c32_i32_252 c0_i32_253
  let c1_i32_254 : BitVec 32 := 1#32
  let v422 : BitVec 32 := Scalar.select v421 c1_i32_254 c32_i32_252
  let v423 : BitVec 32 := Scalar.remsi v420 v422
  let c0_i32_256 : BitVec 32 := 0#32
  let v425 : BitVec 1 := Scalar.cmpi .slt v423 c0_i32_256
  let c0_i32_257 : BitVec 32 := 0#32
  let v426 : BitVec 1 := Scalar.cmpi .slt v422 c0_i32_257
  let v427 : BitVec 1 := Scalar.xori v425 v426
  let c0_i32_255 : BitVec 32 := 0#32
  let v424 : BitVec 1 := Scalar.cmpi .ne v423 c0_i32_255
  let v428 : BitVec 1 := Scalar.andi v427 v424
  let v429 : BitVec 32 := Scalar.addi v423 v422
  let v430 : BitVec 32 := Scalar.select v428 v429 v423
  let c1_i32_259 : BitVec 32 := 1#32
  let v431 : BitVec 32 := Scalar.muli v430 c1_i32_259
  let v432 : BitVec 32 := Scalar.addi c0_i32_260 v431
  v432.toNat
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_261 : BitVec 32 := 8#32
  let v433 : BitVec 32 := Scalar.addi v2 c8_i32_261
  let c32_i32_262 : BitVec 32 := 32#32
  let c0_i32_263 : BitVec 32 := 0#32
  let v434 : BitVec 1 := Scalar.cmpi .eq c32_i32_262 c0_i32_263
  let c1_i32_264 : BitVec 32 := 1#32
  let v435 : BitVec 32 := Scalar.select v434 c1_i32_264 c32_i32_262
  let v436 : BitVec 32 := Scalar.remsi v433 v435
  let c0_i32_266 : BitVec 32 := 0#32
  let v438 : BitVec 1 := Scalar.cmpi .slt v436 c0_i32_266
  let c0_i32_267 : BitVec 32 := 0#32
  let v439 : BitVec 1 := Scalar.cmpi .slt v435 c0_i32_267
  let v440 : BitVec 1 := Scalar.xori v438 v439
  let c0_i32_265 : BitVec 32 := 0#32
  let v437 : BitVec 1 := Scalar.cmpi .ne v436 c0_i32_265
  let v441 : BitVec 1 := Scalar.andi v440 v437
  let v442 : BitVec 32 := Scalar.addi v436 v435
  let v443 : BitVec 32 := Scalar.select v441 v442 v436
  let c1_i32_269 : BitVec 32 := 1#32
  let v444 : BitVec 32 := Scalar.muli v443 c1_i32_269
  let v445 : BitVec 32 := Scalar.addi c0_i32_270 v444
  v445.toNat
def k0_dev9 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v446 : BitVec 32 := Scalar.addi v2 c9_i32
  let c32_i32_271 : BitVec 32 := 32#32
  let c0_i32_272 : BitVec 32 := 0#32
  let v447 : BitVec 1 := Scalar.cmpi .eq c32_i32_271 c0_i32_272
  let c1_i32_273 : BitVec 32 := 1#32
  let v448 : BitVec 32 := Scalar.select v447 c1_i32_273 c32_i32_271
  let v449 : BitVec 32 := Scalar.remsi v446 v448
  let c0_i32_275 : BitVec 32 := 0#32
  let v451 : BitVec 1 := Scalar.cmpi .slt v449 c0_i32_275
  let c0_i32_276 : BitVec 32 := 0#32
  let v452 : BitVec 1 := Scalar.cmpi .slt v448 c0_i32_276
  let v453 : BitVec 1 := Scalar.xori v451 v452
  let c0_i32_274 : BitVec 32 := 0#32
  let v450 : BitVec 1 := Scalar.cmpi .ne v449 c0_i32_274
  let v454 : BitVec 1 := Scalar.andi v453 v450
  let v455 : BitVec 32 := Scalar.addi v449 v448
  let v456 : BitVec 32 := Scalar.select v454 v455 v449
  let c1_i32_278 : BitVec 32 := 1#32
  let v457 : BitVec 32 := Scalar.muli v456 c1_i32_278
  let v458 : BitVec 32 := Scalar.addi c0_i32_279 v457
  v458.toNat
def k0_dev10 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v459 : BitVec 32 := Scalar.addi v2 c10_i32
  let c32_i32_280 : BitVec 32 := 32#32
  let c0_i32_281 : BitVec 32 := 0#32
  let v460 : BitVec 1 := Scalar.cmpi .eq c32_i32_280 c0_i32_281
  let c1_i32_282 : BitVec 32 := 1#32
  let v461 : BitVec 32 := Scalar.select v460 c1_i32_282 c32_i32_280
  let v462 : BitVec 32 := Scalar.remsi v459 v461
  let c0_i32_284 : BitVec 32 := 0#32
  let v464 : BitVec 1 := Scalar.cmpi .slt v462 c0_i32_284
  let c0_i32_285 : BitVec 32 := 0#32
  let v465 : BitVec 1 := Scalar.cmpi .slt v461 c0_i32_285
  let v466 : BitVec 1 := Scalar.xori v464 v465
  let c0_i32_283 : BitVec 32 := 0#32
  let v463 : BitVec 1 := Scalar.cmpi .ne v462 c0_i32_283
  let v467 : BitVec 1 := Scalar.andi v466 v463
  let v468 : BitVec 32 := Scalar.addi v462 v461
  let v469 : BitVec 32 := Scalar.select v467 v468 v462
  let c1_i32_287 : BitVec 32 := 1#32
  let v470 : BitVec 32 := Scalar.muli v469 c1_i32_287
  let v471 : BitVec 32 := Scalar.addi c0_i32_288 v470
  v471.toNat
def k0_dev11 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v472 : BitVec 32 := Scalar.addi v2 c11_i32
  let c32_i32_289 : BitVec 32 := 32#32
  let c0_i32_290 : BitVec 32 := 0#32
  let v473 : BitVec 1 := Scalar.cmpi .eq c32_i32_289 c0_i32_290
  let c1_i32_291 : BitVec 32 := 1#32
  let v474 : BitVec 32 := Scalar.select v473 c1_i32_291 c32_i32_289
  let v475 : BitVec 32 := Scalar.remsi v472 v474
  let c0_i32_293 : BitVec 32 := 0#32
  let v477 : BitVec 1 := Scalar.cmpi .slt v475 c0_i32_293
  let c0_i32_294 : BitVec 32 := 0#32
  let v478 : BitVec 1 := Scalar.cmpi .slt v474 c0_i32_294
  let v479 : BitVec 1 := Scalar.xori v477 v478
  let c0_i32_292 : BitVec 32 := 0#32
  let v476 : BitVec 1 := Scalar.cmpi .ne v475 c0_i32_292
  let v480 : BitVec 1 := Scalar.andi v479 v476
  let v481 : BitVec 32 := Scalar.addi v475 v474
  let v482 : BitVec 32 := Scalar.select v480 v481 v475
  let c1_i32_296 : BitVec 32 := 1#32
  let v483 : BitVec 32 := Scalar.muli v482 c1_i32_296
  let v484 : BitVec 32 := Scalar.addi c0_i32_297 v483
  v484.toNat
def k0_dev12 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v485 : BitVec 32 := Scalar.addi v2 c12_i32
  let c32_i32_298 : BitVec 32 := 32#32
  let c0_i32_299 : BitVec 32 := 0#32
  let v486 : BitVec 1 := Scalar.cmpi .eq c32_i32_298 c0_i32_299
  let c1_i32_300 : BitVec 32 := 1#32
  let v487 : BitVec 32 := Scalar.select v486 c1_i32_300 c32_i32_298
  let v488 : BitVec 32 := Scalar.remsi v485 v487
  let c0_i32_302 : BitVec 32 := 0#32
  let v490 : BitVec 1 := Scalar.cmpi .slt v488 c0_i32_302
  let c0_i32_303 : BitVec 32 := 0#32
  let v491 : BitVec 1 := Scalar.cmpi .slt v487 c0_i32_303
  let v492 : BitVec 1 := Scalar.xori v490 v491
  let c0_i32_301 : BitVec 32 := 0#32
  let v489 : BitVec 1 := Scalar.cmpi .ne v488 c0_i32_301
  let v493 : BitVec 1 := Scalar.andi v492 v489
  let v494 : BitVec 32 := Scalar.addi v488 v487
  let v495 : BitVec 32 := Scalar.select v493 v494 v488
  let c1_i32_305 : BitVec 32 := 1#32
  let v496 : BitVec 32 := Scalar.muli v495 c1_i32_305
  let v497 : BitVec 32 := Scalar.addi c0_i32_306 v496
  v497.toNat
def k0_dev13 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v498 : BitVec 32 := Scalar.addi v2 c13_i32
  let c32_i32_307 : BitVec 32 := 32#32
  let c0_i32_308 : BitVec 32 := 0#32
  let v499 : BitVec 1 := Scalar.cmpi .eq c32_i32_307 c0_i32_308
  let c1_i32_309 : BitVec 32 := 1#32
  let v500 : BitVec 32 := Scalar.select v499 c1_i32_309 c32_i32_307
  let v501 : BitVec 32 := Scalar.remsi v498 v500
  let c0_i32_311 : BitVec 32 := 0#32
  let v503 : BitVec 1 := Scalar.cmpi .slt v501 c0_i32_311
  let c0_i32_312 : BitVec 32 := 0#32
  let v504 : BitVec 1 := Scalar.cmpi .slt v500 c0_i32_312
  let v505 : BitVec 1 := Scalar.xori v503 v504
  let c0_i32_310 : BitVec 32 := 0#32
  let v502 : BitVec 1 := Scalar.cmpi .ne v501 c0_i32_310
  let v506 : BitVec 1 := Scalar.andi v505 v502
  let v507 : BitVec 32 := Scalar.addi v501 v500
  let v508 : BitVec 32 := Scalar.select v506 v507 v501
  let c1_i32_314 : BitVec 32 := 1#32
  let v509 : BitVec 32 := Scalar.muli v508 c1_i32_314
  let v510 : BitVec 32 := Scalar.addi c0_i32_315 v509
  v510.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v511 : BitVec 32 := Scalar.addi v2 c14_i32
  let c32_i32_316 : BitVec 32 := 32#32
  let c0_i32_317 : BitVec 32 := 0#32
  let v512 : BitVec 1 := Scalar.cmpi .eq c32_i32_316 c0_i32_317
  let c1_i32_318 : BitVec 32 := 1#32
  let v513 : BitVec 32 := Scalar.select v512 c1_i32_318 c32_i32_316
  let v514 : BitVec 32 := Scalar.remsi v511 v513
  let c0_i32_320 : BitVec 32 := 0#32
  let v516 : BitVec 1 := Scalar.cmpi .slt v514 c0_i32_320
  let c0_i32_321 : BitVec 32 := 0#32
  let v517 : BitVec 1 := Scalar.cmpi .slt v513 c0_i32_321
  let v518 : BitVec 1 := Scalar.xori v516 v517
  let c0_i32_319 : BitVec 32 := 0#32
  let v515 : BitVec 1 := Scalar.cmpi .ne v514 c0_i32_319
  let v519 : BitVec 1 := Scalar.andi v518 v515
  let v520 : BitVec 32 := Scalar.addi v514 v513
  let v521 : BitVec 32 := Scalar.select v519 v520 v514
  let c1_i32_323 : BitVec 32 := 1#32
  let v522 : BitVec 32 := Scalar.muli v521 c1_i32_323
  let v523 : BitVec 32 := Scalar.addi c0_i32_324 v522
  v523.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v524 : BitVec 32 := Scalar.addi v2 c15_i32
  let c32_i32_325 : BitVec 32 := 32#32
  let c0_i32_326 : BitVec 32 := 0#32
  let v525 : BitVec 1 := Scalar.cmpi .eq c32_i32_325 c0_i32_326
  let c1_i32_327 : BitVec 32 := 1#32
  let v526 : BitVec 32 := Scalar.select v525 c1_i32_327 c32_i32_325
  let v527 : BitVec 32 := Scalar.remsi v524 v526
  let c0_i32_329 : BitVec 32 := 0#32
  let v529 : BitVec 1 := Scalar.cmpi .slt v527 c0_i32_329
  let c0_i32_330 : BitVec 32 := 0#32
  let v530 : BitVec 1 := Scalar.cmpi .slt v526 c0_i32_330
  let v531 : BitVec 1 := Scalar.xori v529 v530
  let c0_i32_328 : BitVec 32 := 0#32
  let v528 : BitVec 1 := Scalar.cmpi .ne v527 c0_i32_328
  let v532 : BitVec 1 := Scalar.andi v531 v528
  let v533 : BitVec 32 := Scalar.addi v527 v526
  let v534 : BitVec 32 := Scalar.select v532 v533 v527
  let c1_i32_332 : BitVec 32 := 1#32
  let v535 : BitVec 32 := Scalar.muli v534 c1_i32_332
  let v536 : BitVec 32 := Scalar.addi c0_i32_333 v535
  v536.toNat
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v537 : BitVec 32 := Scalar.addi v2 c16_i32
  let c32_i32_334 : BitVec 32 := 32#32
  let c0_i32_335 : BitVec 32 := 0#32
  let v538 : BitVec 1 := Scalar.cmpi .eq c32_i32_334 c0_i32_335
  let c1_i32_336 : BitVec 32 := 1#32
  let v539 : BitVec 32 := Scalar.select v538 c1_i32_336 c32_i32_334
  let v540 : BitVec 32 := Scalar.remsi v537 v539
  let c0_i32_338 : BitVec 32 := 0#32
  let v542 : BitVec 1 := Scalar.cmpi .slt v540 c0_i32_338
  let c0_i32_339 : BitVec 32 := 0#32
  let v543 : BitVec 1 := Scalar.cmpi .slt v539 c0_i32_339
  let v544 : BitVec 1 := Scalar.xori v542 v543
  let c0_i32_337 : BitVec 32 := 0#32
  let v541 : BitVec 1 := Scalar.cmpi .ne v540 c0_i32_337
  let v545 : BitVec 1 := Scalar.andi v544 v541
  let v546 : BitVec 32 := Scalar.addi v540 v539
  let v547 : BitVec 32 := Scalar.select v545 v546 v540
  let c1_i32_341 : BitVec 32 := 1#32
  let v548 : BitVec 32 := Scalar.muli v547 c1_i32_341
  let v549 : BitVec 32 := Scalar.addi c0_i32_342 v548
  v549.toNat
def k0_dev17 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v550 : BitVec 32 := Scalar.addi v2 c17_i32
  let c32_i32_343 : BitVec 32 := 32#32
  let c0_i32_344 : BitVec 32 := 0#32
  let v551 : BitVec 1 := Scalar.cmpi .eq c32_i32_343 c0_i32_344
  let c1_i32_345 : BitVec 32 := 1#32
  let v552 : BitVec 32 := Scalar.select v551 c1_i32_345 c32_i32_343
  let v553 : BitVec 32 := Scalar.remsi v550 v552
  let c0_i32_347 : BitVec 32 := 0#32
  let v555 : BitVec 1 := Scalar.cmpi .slt v553 c0_i32_347
  let c0_i32_348 : BitVec 32 := 0#32
  let v556 : BitVec 1 := Scalar.cmpi .slt v552 c0_i32_348
  let v557 : BitVec 1 := Scalar.xori v555 v556
  let c0_i32_346 : BitVec 32 := 0#32
  let v554 : BitVec 1 := Scalar.cmpi .ne v553 c0_i32_346
  let v558 : BitVec 1 := Scalar.andi v557 v554
  let v559 : BitVec 32 := Scalar.addi v553 v552
  let v560 : BitVec 32 := Scalar.select v558 v559 v553
  let c1_i32_350 : BitVec 32 := 1#32
  let v561 : BitVec 32 := Scalar.muli v560 c1_i32_350
  let v562 : BitVec 32 := Scalar.addi c0_i32_351 v561
  v562.toNat
def k0_dev18 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v563 : BitVec 32 := Scalar.addi v2 c18_i32
  let c32_i32_352 : BitVec 32 := 32#32
  let c0_i32_353 : BitVec 32 := 0#32
  let v564 : BitVec 1 := Scalar.cmpi .eq c32_i32_352 c0_i32_353
  let c1_i32_354 : BitVec 32 := 1#32
  let v565 : BitVec 32 := Scalar.select v564 c1_i32_354 c32_i32_352
  let v566 : BitVec 32 := Scalar.remsi v563 v565
  let c0_i32_356 : BitVec 32 := 0#32
  let v568 : BitVec 1 := Scalar.cmpi .slt v566 c0_i32_356
  let c0_i32_357 : BitVec 32 := 0#32
  let v569 : BitVec 1 := Scalar.cmpi .slt v565 c0_i32_357
  let v570 : BitVec 1 := Scalar.xori v568 v569
  let c0_i32_355 : BitVec 32 := 0#32
  let v567 : BitVec 1 := Scalar.cmpi .ne v566 c0_i32_355
  let v571 : BitVec 1 := Scalar.andi v570 v567
  let v572 : BitVec 32 := Scalar.addi v566 v565
  let v573 : BitVec 32 := Scalar.select v571 v572 v566
  let c1_i32_359 : BitVec 32 := 1#32
  let v574 : BitVec 32 := Scalar.muli v573 c1_i32_359
  let v575 : BitVec 32 := Scalar.addi c0_i32_360 v574
  v575.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v576 : BitVec 32 := Scalar.addi v2 c19_i32
  let c32_i32_361 : BitVec 32 := 32#32
  let c0_i32_362 : BitVec 32 := 0#32
  let v577 : BitVec 1 := Scalar.cmpi .eq c32_i32_361 c0_i32_362
  let c1_i32_363 : BitVec 32 := 1#32
  let v578 : BitVec 32 := Scalar.select v577 c1_i32_363 c32_i32_361
  let v579 : BitVec 32 := Scalar.remsi v576 v578
  let c0_i32_365 : BitVec 32 := 0#32
  let v581 : BitVec 1 := Scalar.cmpi .slt v579 c0_i32_365
  let c0_i32_366 : BitVec 32 := 0#32
  let v582 : BitVec 1 := Scalar.cmpi .slt v578 c0_i32_366
  let v583 : BitVec 1 := Scalar.xori v581 v582
  let c0_i32_364 : BitVec 32 := 0#32
  let v580 : BitVec 1 := Scalar.cmpi .ne v579 c0_i32_364
  let v584 : BitVec 1 := Scalar.andi v583 v580
  let v585 : BitVec 32 := Scalar.addi v579 v578
  let v586 : BitVec 32 := Scalar.select v584 v585 v579
  let c1_i32_368 : BitVec 32 := 1#32
  let v587 : BitVec 32 := Scalar.muli v586 c1_i32_368
  let v588 : BitVec 32 := Scalar.addi c0_i32_369 v587
  v588.toNat
def k0_dev20 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v589 : BitVec 32 := Scalar.addi v2 c20_i32
  let c32_i32_370 : BitVec 32 := 32#32
  let c0_i32_371 : BitVec 32 := 0#32
  let v590 : BitVec 1 := Scalar.cmpi .eq c32_i32_370 c0_i32_371
  let c1_i32_372 : BitVec 32 := 1#32
  let v591 : BitVec 32 := Scalar.select v590 c1_i32_372 c32_i32_370
  let v592 : BitVec 32 := Scalar.remsi v589 v591
  let c0_i32_374 : BitVec 32 := 0#32
  let v594 : BitVec 1 := Scalar.cmpi .slt v592 c0_i32_374
  let c0_i32_375 : BitVec 32 := 0#32
  let v595 : BitVec 1 := Scalar.cmpi .slt v591 c0_i32_375
  let v596 : BitVec 1 := Scalar.xori v594 v595
  let c0_i32_373 : BitVec 32 := 0#32
  let v593 : BitVec 1 := Scalar.cmpi .ne v592 c0_i32_373
  let v597 : BitVec 1 := Scalar.andi v596 v593
  let v598 : BitVec 32 := Scalar.addi v592 v591
  let v599 : BitVec 32 := Scalar.select v597 v598 v592
  let c1_i32_377 : BitVec 32 := 1#32
  let v600 : BitVec 32 := Scalar.muli v599 c1_i32_377
  let v601 : BitVec 32 := Scalar.addi c0_i32_378 v600
  v601.toNat
def k0_dev21 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v602 : BitVec 32 := Scalar.addi v2 c21_i32
  let c32_i32_379 : BitVec 32 := 32#32
  let c0_i32_380 : BitVec 32 := 0#32
  let v603 : BitVec 1 := Scalar.cmpi .eq c32_i32_379 c0_i32_380
  let c1_i32_381 : BitVec 32 := 1#32
  let v604 : BitVec 32 := Scalar.select v603 c1_i32_381 c32_i32_379
  let v605 : BitVec 32 := Scalar.remsi v602 v604
  let c0_i32_383 : BitVec 32 := 0#32
  let v607 : BitVec 1 := Scalar.cmpi .slt v605 c0_i32_383
  let c0_i32_384 : BitVec 32 := 0#32
  let v608 : BitVec 1 := Scalar.cmpi .slt v604 c0_i32_384
  let v609 : BitVec 1 := Scalar.xori v607 v608
  let c0_i32_382 : BitVec 32 := 0#32
  let v606 : BitVec 1 := Scalar.cmpi .ne v605 c0_i32_382
  let v610 : BitVec 1 := Scalar.andi v609 v606
  let v611 : BitVec 32 := Scalar.addi v605 v604
  let v612 : BitVec 32 := Scalar.select v610 v611 v605
  let c1_i32_386 : BitVec 32 := 1#32
  let v613 : BitVec 32 := Scalar.muli v612 c1_i32_386
  let v614 : BitVec 32 := Scalar.addi c0_i32_387 v613
  v614.toNat
def k0_dev22 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v615 : BitVec 32 := Scalar.addi v2 c22_i32
  let c32_i32_388 : BitVec 32 := 32#32
  let c0_i32_389 : BitVec 32 := 0#32
  let v616 : BitVec 1 := Scalar.cmpi .eq c32_i32_388 c0_i32_389
  let c1_i32_390 : BitVec 32 := 1#32
  let v617 : BitVec 32 := Scalar.select v616 c1_i32_390 c32_i32_388
  let v618 : BitVec 32 := Scalar.remsi v615 v617
  let c0_i32_392 : BitVec 32 := 0#32
  let v620 : BitVec 1 := Scalar.cmpi .slt v618 c0_i32_392
  let c0_i32_393 : BitVec 32 := 0#32
  let v621 : BitVec 1 := Scalar.cmpi .slt v617 c0_i32_393
  let v622 : BitVec 1 := Scalar.xori v620 v621
  let c0_i32_391 : BitVec 32 := 0#32
  let v619 : BitVec 1 := Scalar.cmpi .ne v618 c0_i32_391
  let v623 : BitVec 1 := Scalar.andi v622 v619
  let v624 : BitVec 32 := Scalar.addi v618 v617
  let v625 : BitVec 32 := Scalar.select v623 v624 v618
  let c1_i32_395 : BitVec 32 := 1#32
  let v626 : BitVec 32 := Scalar.muli v625 c1_i32_395
  let v627 : BitVec 32 := Scalar.addi c0_i32_396 v626
  v627.toNat
def k0_dev23 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v628 : BitVec 32 := Scalar.addi v2 c23_i32
  let c32_i32_397 : BitVec 32 := 32#32
  let c0_i32_398 : BitVec 32 := 0#32
  let v629 : BitVec 1 := Scalar.cmpi .eq c32_i32_397 c0_i32_398
  let c1_i32_399 : BitVec 32 := 1#32
  let v630 : BitVec 32 := Scalar.select v629 c1_i32_399 c32_i32_397
  let v631 : BitVec 32 := Scalar.remsi v628 v630
  let c0_i32_401 : BitVec 32 := 0#32
  let v633 : BitVec 1 := Scalar.cmpi .slt v631 c0_i32_401
  let c0_i32_402 : BitVec 32 := 0#32
  let v634 : BitVec 1 := Scalar.cmpi .slt v630 c0_i32_402
  let v635 : BitVec 1 := Scalar.xori v633 v634
  let c0_i32_400 : BitVec 32 := 0#32
  let v632 : BitVec 1 := Scalar.cmpi .ne v631 c0_i32_400
  let v636 : BitVec 1 := Scalar.andi v635 v632
  let v637 : BitVec 32 := Scalar.addi v631 v630
  let v638 : BitVec 32 := Scalar.select v636 v637 v631
  let c1_i32_404 : BitVec 32 := 1#32
  let v639 : BitVec 32 := Scalar.muli v638 c1_i32_404
  let v640 : BitVec 32 := Scalar.addi c0_i32_405 v639
  v640.toNat
def k0_dev24 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v641 : BitVec 32 := Scalar.addi v2 c24_i32
  let c32_i32_406 : BitVec 32 := 32#32
  let c0_i32_407 : BitVec 32 := 0#32
  let v642 : BitVec 1 := Scalar.cmpi .eq c32_i32_406 c0_i32_407
  let c1_i32_408 : BitVec 32 := 1#32
  let v643 : BitVec 32 := Scalar.select v642 c1_i32_408 c32_i32_406
  let v644 : BitVec 32 := Scalar.remsi v641 v643
  let c0_i32_410 : BitVec 32 := 0#32
  let v646 : BitVec 1 := Scalar.cmpi .slt v644 c0_i32_410
  let c0_i32_411 : BitVec 32 := 0#32
  let v647 : BitVec 1 := Scalar.cmpi .slt v643 c0_i32_411
  let v648 : BitVec 1 := Scalar.xori v646 v647
  let c0_i32_409 : BitVec 32 := 0#32
  let v645 : BitVec 1 := Scalar.cmpi .ne v644 c0_i32_409
  let v649 : BitVec 1 := Scalar.andi v648 v645
  let v650 : BitVec 32 := Scalar.addi v644 v643
  let v651 : BitVec 32 := Scalar.select v649 v650 v644
  let c1_i32_413 : BitVec 32 := 1#32
  let v652 : BitVec 32 := Scalar.muli v651 c1_i32_413
  let v653 : BitVec 32 := Scalar.addi c0_i32_414 v652
  v653.toNat
def k0_dev25 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v654 : BitVec 32 := Scalar.addi v2 c25_i32
  let c32_i32_415 : BitVec 32 := 32#32
  let c0_i32_416 : BitVec 32 := 0#32
  let v655 : BitVec 1 := Scalar.cmpi .eq c32_i32_415 c0_i32_416
  let c1_i32_417 : BitVec 32 := 1#32
  let v656 : BitVec 32 := Scalar.select v655 c1_i32_417 c32_i32_415
  let v657 : BitVec 32 := Scalar.remsi v654 v656
  let c0_i32_419 : BitVec 32 := 0#32
  let v659 : BitVec 1 := Scalar.cmpi .slt v657 c0_i32_419
  let c0_i32_420 : BitVec 32 := 0#32
  let v660 : BitVec 1 := Scalar.cmpi .slt v656 c0_i32_420
  let v661 : BitVec 1 := Scalar.xori v659 v660
  let c0_i32_418 : BitVec 32 := 0#32
  let v658 : BitVec 1 := Scalar.cmpi .ne v657 c0_i32_418
  let v662 : BitVec 1 := Scalar.andi v661 v658
  let v663 : BitVec 32 := Scalar.addi v657 v656
  let v664 : BitVec 32 := Scalar.select v662 v663 v657
  let c1_i32_422 : BitVec 32 := 1#32
  let v665 : BitVec 32 := Scalar.muli v664 c1_i32_422
  let v666 : BitVec 32 := Scalar.addi c0_i32_423 v665
  v666.toNat
def k0_dev26 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v667 : BitVec 32 := Scalar.addi v2 c26_i32
  let c32_i32_424 : BitVec 32 := 32#32
  let c0_i32_425 : BitVec 32 := 0#32
  let v668 : BitVec 1 := Scalar.cmpi .eq c32_i32_424 c0_i32_425
  let c1_i32_426 : BitVec 32 := 1#32
  let v669 : BitVec 32 := Scalar.select v668 c1_i32_426 c32_i32_424
  let v670 : BitVec 32 := Scalar.remsi v667 v669
  let c0_i32_428 : BitVec 32 := 0#32
  let v672 : BitVec 1 := Scalar.cmpi .slt v670 c0_i32_428
  let c0_i32_429 : BitVec 32 := 0#32
  let v673 : BitVec 1 := Scalar.cmpi .slt v669 c0_i32_429
  let v674 : BitVec 1 := Scalar.xori v672 v673
  let c0_i32_427 : BitVec 32 := 0#32
  let v671 : BitVec 1 := Scalar.cmpi .ne v670 c0_i32_427
  let v675 : BitVec 1 := Scalar.andi v674 v671
  let v676 : BitVec 32 := Scalar.addi v670 v669
  let v677 : BitVec 32 := Scalar.select v675 v676 v670
  let c1_i32_431 : BitVec 32 := 1#32
  let v678 : BitVec 32 := Scalar.muli v677 c1_i32_431
  let v679 : BitVec 32 := Scalar.addi c0_i32_432 v678
  v679.toNat
def k0_dev27 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v680 : BitVec 32 := Scalar.addi v2 c27_i32
  let c32_i32_433 : BitVec 32 := 32#32
  let c0_i32_434 : BitVec 32 := 0#32
  let v681 : BitVec 1 := Scalar.cmpi .eq c32_i32_433 c0_i32_434
  let c1_i32_435 : BitVec 32 := 1#32
  let v682 : BitVec 32 := Scalar.select v681 c1_i32_435 c32_i32_433
  let v683 : BitVec 32 := Scalar.remsi v680 v682
  let c0_i32_437 : BitVec 32 := 0#32
  let v685 : BitVec 1 := Scalar.cmpi .slt v683 c0_i32_437
  let c0_i32_438 : BitVec 32 := 0#32
  let v686 : BitVec 1 := Scalar.cmpi .slt v682 c0_i32_438
  let v687 : BitVec 1 := Scalar.xori v685 v686
  let c0_i32_436 : BitVec 32 := 0#32
  let v684 : BitVec 1 := Scalar.cmpi .ne v683 c0_i32_436
  let v688 : BitVec 1 := Scalar.andi v687 v684
  let v689 : BitVec 32 := Scalar.addi v683 v682
  let v690 : BitVec 32 := Scalar.select v688 v689 v683
  let c1_i32_440 : BitVec 32 := 1#32
  let v691 : BitVec 32 := Scalar.muli v690 c1_i32_440
  let v692 : BitVec 32 := Scalar.addi c0_i32_441 v691
  v692.toNat
def k0_dev28 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v693 : BitVec 32 := Scalar.addi v2 c28_i32
  let c32_i32_442 : BitVec 32 := 32#32
  let c0_i32_443 : BitVec 32 := 0#32
  let v694 : BitVec 1 := Scalar.cmpi .eq c32_i32_442 c0_i32_443
  let c1_i32_444 : BitVec 32 := 1#32
  let v695 : BitVec 32 := Scalar.select v694 c1_i32_444 c32_i32_442
  let v696 : BitVec 32 := Scalar.remsi v693 v695
  let c0_i32_446 : BitVec 32 := 0#32
  let v698 : BitVec 1 := Scalar.cmpi .slt v696 c0_i32_446
  let c0_i32_447 : BitVec 32 := 0#32
  let v699 : BitVec 1 := Scalar.cmpi .slt v695 c0_i32_447
  let v700 : BitVec 1 := Scalar.xori v698 v699
  let c0_i32_445 : BitVec 32 := 0#32
  let v697 : BitVec 1 := Scalar.cmpi .ne v696 c0_i32_445
  let v701 : BitVec 1 := Scalar.andi v700 v697
  let v702 : BitVec 32 := Scalar.addi v696 v695
  let v703 : BitVec 32 := Scalar.select v701 v702 v696
  let c1_i32_449 : BitVec 32 := 1#32
  let v704 : BitVec 32 := Scalar.muli v703 c1_i32_449
  let v705 : BitVec 32 := Scalar.addi c0_i32_450 v704
  v705.toNat
def k0_dev29 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v706 : BitVec 32 := Scalar.addi v2 c29_i32
  let c32_i32_451 : BitVec 32 := 32#32
  let c0_i32_452 : BitVec 32 := 0#32
  let v707 : BitVec 1 := Scalar.cmpi .eq c32_i32_451 c0_i32_452
  let c1_i32_453 : BitVec 32 := 1#32
  let v708 : BitVec 32 := Scalar.select v707 c1_i32_453 c32_i32_451
  let v709 : BitVec 32 := Scalar.remsi v706 v708
  let c0_i32_455 : BitVec 32 := 0#32
  let v711 : BitVec 1 := Scalar.cmpi .slt v709 c0_i32_455
  let c0_i32_456 : BitVec 32 := 0#32
  let v712 : BitVec 1 := Scalar.cmpi .slt v708 c0_i32_456
  let v713 : BitVec 1 := Scalar.xori v711 v712
  let c0_i32_454 : BitVec 32 := 0#32
  let v710 : BitVec 1 := Scalar.cmpi .ne v709 c0_i32_454
  let v714 : BitVec 1 := Scalar.andi v713 v710
  let v715 : BitVec 32 := Scalar.addi v709 v708
  let v716 : BitVec 32 := Scalar.select v714 v715 v709
  let c1_i32_458 : BitVec 32 := 1#32
  let v717 : BitVec 32 := Scalar.muli v716 c1_i32_458
  let v718 : BitVec 32 := Scalar.addi c0_i32_459 v717
  v718.toNat
def k0_dev30 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v719 : BitVec 32 := Scalar.addi v2 c30_i32
  let c32_i32_460 : BitVec 32 := 32#32
  let c0_i32_461 : BitVec 32 := 0#32
  let v720 : BitVec 1 := Scalar.cmpi .eq c32_i32_460 c0_i32_461
  let c1_i32_462 : BitVec 32 := 1#32
  let v721 : BitVec 32 := Scalar.select v720 c1_i32_462 c32_i32_460
  let v722 : BitVec 32 := Scalar.remsi v719 v721
  let c0_i32_464 : BitVec 32 := 0#32
  let v724 : BitVec 1 := Scalar.cmpi .slt v722 c0_i32_464
  let c0_i32_465 : BitVec 32 := 0#32
  let v725 : BitVec 1 := Scalar.cmpi .slt v721 c0_i32_465
  let v726 : BitVec 1 := Scalar.xori v724 v725
  let c0_i32_463 : BitVec 32 := 0#32
  let v723 : BitVec 1 := Scalar.cmpi .ne v722 c0_i32_463
  let v727 : BitVec 1 := Scalar.andi v726 v723
  let v728 : BitVec 32 := Scalar.addi v722 v721
  let v729 : BitVec 32 := Scalar.select v727 v728 v722
  let c1_i32_467 : BitVec 32 := 1#32
  let v730 : BitVec 32 := Scalar.muli v729 c1_i32_467
  let v731 : BitVec 32 := Scalar.addi c0_i32_468 v730
  v731.toNat
def k0_dev31 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v732 : BitVec 32 := Scalar.addi v2 c31_i32
  let c32_i32_469 : BitVec 32 := 32#32
  let c0_i32_470 : BitVec 32 := 0#32
  let v733 : BitVec 1 := Scalar.cmpi .eq c32_i32_469 c0_i32_470
  let c1_i32_471 : BitVec 32 := 1#32
  let v734 : BitVec 32 := Scalar.select v733 c1_i32_471 c32_i32_469
  let v735 : BitVec 32 := Scalar.remsi v732 v734
  let c0_i32_473 : BitVec 32 := 0#32
  let v737 : BitVec 1 := Scalar.cmpi .slt v735 c0_i32_473
  let c0_i32_474 : BitVec 32 := 0#32
  let v738 : BitVec 1 := Scalar.cmpi .slt v734 c0_i32_474
  let v739 : BitVec 1 := Scalar.xori v737 v738
  let c0_i32_472 : BitVec 32 := 0#32
  let v736 : BitVec 1 := Scalar.cmpi .ne v735 c0_i32_472
  let v740 : BitVec 1 := Scalar.andi v739 v736
  let v741 : BitVec 32 := Scalar.addi v735 v734
  let v742 : BitVec 32 := Scalar.select v740 v741 v735
  let c1_i32_476 : BitVec 32 := 1#32
  let v743 : BitVec 32 := Scalar.muli v742 c1_i32_476
  let v744 : BitVec 32 := Scalar.addi c0_i32_477 v743
  v744.toNat
def k0_off2 (d0 : Dev nD) (c1_i32_479 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v745 : BitVec 32 := Scalar.addi v2 c1_i32_479
  let c32_i32_480 : BitVec 32 := 32#32
  let c0_i32_481 : BitVec 32 := 0#32
  let v746 : BitVec 1 := Scalar.cmpi .eq c32_i32_480 c0_i32_481
  let c1_i32_482 : BitVec 32 := 1#32
  let v747 : BitVec 32 := Scalar.select v746 c1_i32_482 c32_i32_480
  let v748 : BitVec 32 := Scalar.remsi v745 v747
  let c0_i32_484 : BitVec 32 := 0#32
  let v750 : BitVec 1 := Scalar.cmpi .slt v748 c0_i32_484
  let c0_i32_485 : BitVec 32 := 0#32
  let v751 : BitVec 1 := Scalar.cmpi .slt v747 c0_i32_485
  let v752 : BitVec 1 := Scalar.xori v750 v751
  let c0_i32_483 : BitVec 32 := 0#32
  let v749 : BitVec 1 := Scalar.cmpi .ne v748 c0_i32_483
  let v753 : BitVec 1 := Scalar.andi v752 v749
  let v754 : BitVec 32 := Scalar.addi v748 v747
  let v755 : BitVec 32 := Scalar.select v753 v754 v748
  let c32_i32_486 : BitVec 32 := 32#32
  let v756 : BitVec 32 := Scalar.muli v755 c32_i32_486
  let c0_i32_494 : BitVec 32 := 0#32
  ![v756.toNat, 0]
def k0_dev32 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_479 : BitVec 32 := 1#32
  let v745 : BitVec 32 := Scalar.addi v2 c1_i32_479
  let c32_i32_480 : BitVec 32 := 32#32
  let c0_i32_481 : BitVec 32 := 0#32
  let v746 : BitVec 1 := Scalar.cmpi .eq c32_i32_480 c0_i32_481
  let c1_i32_482 : BitVec 32 := 1#32
  let v747 : BitVec 32 := Scalar.select v746 c1_i32_482 c32_i32_480
  let v748 : BitVec 32 := Scalar.remsi v745 v747
  let c0_i32_484 : BitVec 32 := 0#32
  let v750 : BitVec 1 := Scalar.cmpi .slt v748 c0_i32_484
  let c0_i32_485 : BitVec 32 := 0#32
  let v751 : BitVec 1 := Scalar.cmpi .slt v747 c0_i32_485
  let v752 : BitVec 1 := Scalar.xori v750 v751
  let c0_i32_483 : BitVec 32 := 0#32
  let v749 : BitVec 1 := Scalar.cmpi .ne v748 c0_i32_483
  let v753 : BitVec 1 := Scalar.andi v752 v749
  let v754 : BitVec 32 := Scalar.addi v748 v747
  let v755 : BitVec 32 := Scalar.select v753 v754 v748
  let c1_i32_490 : BitVec 32 := 1#32
  let v757 : BitVec 32 := Scalar.muli v755 c1_i32_490
  let v758 : BitVec 32 := Scalar.addi c0_i32_491 v757
  v758.toNat
def k0_dev33 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_495 : BitVec 32 := 2#32
  let v766 : BitVec 32 := Scalar.addi v2 c2_i32_495
  let c32_i32_496 : BitVec 32 := 32#32
  let c0_i32_497 : BitVec 32 := 0#32
  let v767 : BitVec 1 := Scalar.cmpi .eq c32_i32_496 c0_i32_497
  let c1_i32_498 : BitVec 32 := 1#32
  let v768 : BitVec 32 := Scalar.select v767 c1_i32_498 c32_i32_496
  let v769 : BitVec 32 := Scalar.remsi v766 v768
  let c0_i32_500 : BitVec 32 := 0#32
  let v771 : BitVec 1 := Scalar.cmpi .slt v769 c0_i32_500
  let c0_i32_501 : BitVec 32 := 0#32
  let v772 : BitVec 1 := Scalar.cmpi .slt v768 c0_i32_501
  let v773 : BitVec 1 := Scalar.xori v771 v772
  let c0_i32_499 : BitVec 32 := 0#32
  let v770 : BitVec 1 := Scalar.cmpi .ne v769 c0_i32_499
  let v774 : BitVec 1 := Scalar.andi v773 v770
  let v775 : BitVec 32 := Scalar.addi v769 v768
  let v776 : BitVec 32 := Scalar.select v774 v775 v769
  let c1_i32_506 : BitVec 32 := 1#32
  let v778 : BitVec 32 := Scalar.muli v776 c1_i32_506
  let v779 : BitVec 32 := Scalar.addi c0_i32_507 v778
  v779.toNat
def k0_dev34 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_511 : BitVec 32 := 3#32
  let v787 : BitVec 32 := Scalar.addi v2 c3_i32_511
  let c32_i32_512 : BitVec 32 := 32#32
  let c0_i32_513 : BitVec 32 := 0#32
  let v788 : BitVec 1 := Scalar.cmpi .eq c32_i32_512 c0_i32_513
  let c1_i32_514 : BitVec 32 := 1#32
  let v789 : BitVec 32 := Scalar.select v788 c1_i32_514 c32_i32_512
  let v790 : BitVec 32 := Scalar.remsi v787 v789
  let c0_i32_516 : BitVec 32 := 0#32
  let v792 : BitVec 1 := Scalar.cmpi .slt v790 c0_i32_516
  let c0_i32_517 : BitVec 32 := 0#32
  let v793 : BitVec 1 := Scalar.cmpi .slt v789 c0_i32_517
  let v794 : BitVec 1 := Scalar.xori v792 v793
  let c0_i32_515 : BitVec 32 := 0#32
  let v791 : BitVec 1 := Scalar.cmpi .ne v790 c0_i32_515
  let v795 : BitVec 1 := Scalar.andi v794 v791
  let v796 : BitVec 32 := Scalar.addi v790 v789
  let v797 : BitVec 32 := Scalar.select v795 v796 v790
  let c1_i32_522 : BitVec 32 := 1#32
  let v799 : BitVec 32 := Scalar.muli v797 c1_i32_522
  let v800 : BitVec 32 := Scalar.addi c0_i32_523 v799
  v800.toNat
def k0_dev35 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_527 : BitVec 32 := 4#32
  let v808 : BitVec 32 := Scalar.addi v2 c4_i32_527
  let c32_i32_528 : BitVec 32 := 32#32
  let c0_i32_529 : BitVec 32 := 0#32
  let v809 : BitVec 1 := Scalar.cmpi .eq c32_i32_528 c0_i32_529
  let c1_i32_530 : BitVec 32 := 1#32
  let v810 : BitVec 32 := Scalar.select v809 c1_i32_530 c32_i32_528
  let v811 : BitVec 32 := Scalar.remsi v808 v810
  let c0_i32_532 : BitVec 32 := 0#32
  let v813 : BitVec 1 := Scalar.cmpi .slt v811 c0_i32_532
  let c0_i32_533 : BitVec 32 := 0#32
  let v814 : BitVec 1 := Scalar.cmpi .slt v810 c0_i32_533
  let v815 : BitVec 1 := Scalar.xori v813 v814
  let c0_i32_531 : BitVec 32 := 0#32
  let v812 : BitVec 1 := Scalar.cmpi .ne v811 c0_i32_531
  let v816 : BitVec 1 := Scalar.andi v815 v812
  let v817 : BitVec 32 := Scalar.addi v811 v810
  let v818 : BitVec 32 := Scalar.select v816 v817 v811
  let c1_i32_538 : BitVec 32 := 1#32
  let v820 : BitVec 32 := Scalar.muli v818 c1_i32_538
  let v821 : BitVec 32 := Scalar.addi c0_i32_539 v820
  v821.toNat
def k0_dev36 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_543 : BitVec 32 := 5#32
  let v829 : BitVec 32 := Scalar.addi v2 c5_i32_543
  let c32_i32_544 : BitVec 32 := 32#32
  let c0_i32_545 : BitVec 32 := 0#32
  let v830 : BitVec 1 := Scalar.cmpi .eq c32_i32_544 c0_i32_545
  let c1_i32_546 : BitVec 32 := 1#32
  let v831 : BitVec 32 := Scalar.select v830 c1_i32_546 c32_i32_544
  let v832 : BitVec 32 := Scalar.remsi v829 v831
  let c0_i32_548 : BitVec 32 := 0#32
  let v834 : BitVec 1 := Scalar.cmpi .slt v832 c0_i32_548
  let c0_i32_549 : BitVec 32 := 0#32
  let v835 : BitVec 1 := Scalar.cmpi .slt v831 c0_i32_549
  let v836 : BitVec 1 := Scalar.xori v834 v835
  let c0_i32_547 : BitVec 32 := 0#32
  let v833 : BitVec 1 := Scalar.cmpi .ne v832 c0_i32_547
  let v837 : BitVec 1 := Scalar.andi v836 v833
  let v838 : BitVec 32 := Scalar.addi v832 v831
  let v839 : BitVec 32 := Scalar.select v837 v838 v832
  let c1_i32_554 : BitVec 32 := 1#32
  let v841 : BitVec 32 := Scalar.muli v839 c1_i32_554
  let v842 : BitVec 32 := Scalar.addi c0_i32_555 v841
  v842.toNat
def k0_dev37 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_559 : BitVec 32 := 6#32
  let v850 : BitVec 32 := Scalar.addi v2 c6_i32_559
  let c32_i32_560 : BitVec 32 := 32#32
  let c0_i32_561 : BitVec 32 := 0#32
  let v851 : BitVec 1 := Scalar.cmpi .eq c32_i32_560 c0_i32_561
  let c1_i32_562 : BitVec 32 := 1#32
  let v852 : BitVec 32 := Scalar.select v851 c1_i32_562 c32_i32_560
  let v853 : BitVec 32 := Scalar.remsi v850 v852
  let c0_i32_564 : BitVec 32 := 0#32
  let v855 : BitVec 1 := Scalar.cmpi .slt v853 c0_i32_564
  let c0_i32_565 : BitVec 32 := 0#32
  let v856 : BitVec 1 := Scalar.cmpi .slt v852 c0_i32_565
  let v857 : BitVec 1 := Scalar.xori v855 v856
  let c0_i32_563 : BitVec 32 := 0#32
  let v854 : BitVec 1 := Scalar.cmpi .ne v853 c0_i32_563
  let v858 : BitVec 1 := Scalar.andi v857 v854
  let v859 : BitVec 32 := Scalar.addi v853 v852
  let v860 : BitVec 32 := Scalar.select v858 v859 v853
  let c1_i32_570 : BitVec 32 := 1#32
  let v862 : BitVec 32 := Scalar.muli v860 c1_i32_570
  let v863 : BitVec 32 := Scalar.addi c0_i32_571 v862
  v863.toNat
def k0_dev38 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_575 : BitVec 32 := 7#32
  let v871 : BitVec 32 := Scalar.addi v2 c7_i32_575
  let c32_i32_576 : BitVec 32 := 32#32
  let c0_i32_577 : BitVec 32 := 0#32
  let v872 : BitVec 1 := Scalar.cmpi .eq c32_i32_576 c0_i32_577
  let c1_i32_578 : BitVec 32 := 1#32
  let v873 : BitVec 32 := Scalar.select v872 c1_i32_578 c32_i32_576
  let v874 : BitVec 32 := Scalar.remsi v871 v873
  let c0_i32_580 : BitVec 32 := 0#32
  let v876 : BitVec 1 := Scalar.cmpi .slt v874 c0_i32_580
  let c0_i32_581 : BitVec 32 := 0#32
  let v877 : BitVec 1 := Scalar.cmpi .slt v873 c0_i32_581
  let v878 : BitVec 1 := Scalar.xori v876 v877
  let c0_i32_579 : BitVec 32 := 0#32
  let v875 : BitVec 1 := Scalar.cmpi .ne v874 c0_i32_579
  let v879 : BitVec 1 := Scalar.andi v878 v875
  let v880 : BitVec 32 := Scalar.addi v874 v873
  let v881 : BitVec 32 := Scalar.select v879 v880 v874
  let c1_i32_586 : BitVec 32 := 1#32
  let v883 : BitVec 32 := Scalar.muli v881 c1_i32_586
  let v884 : BitVec 32 := Scalar.addi c0_i32_587 v883
  v884.toNat
def k0_dev39 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_591 : BitVec 32 := 8#32
  let v892 : BitVec 32 := Scalar.addi v2 c8_i32_591
  let c32_i32_592 : BitVec 32 := 32#32
  let c0_i32_593 : BitVec 32 := 0#32
  let v893 : BitVec 1 := Scalar.cmpi .eq c32_i32_592 c0_i32_593
  let c1_i32_594 : BitVec 32 := 1#32
  let v894 : BitVec 32 := Scalar.select v893 c1_i32_594 c32_i32_592
  let v895 : BitVec 32 := Scalar.remsi v892 v894
  let c0_i32_596 : BitVec 32 := 0#32
  let v897 : BitVec 1 := Scalar.cmpi .slt v895 c0_i32_596
  let c0_i32_597 : BitVec 32 := 0#32
  let v898 : BitVec 1 := Scalar.cmpi .slt v894 c0_i32_597
  let v899 : BitVec 1 := Scalar.xori v897 v898
  let c0_i32_595 : BitVec 32 := 0#32
  let v896 : BitVec 1 := Scalar.cmpi .ne v895 c0_i32_595
  let v900 : BitVec 1 := Scalar.andi v899 v896
  let v901 : BitVec 32 := Scalar.addi v895 v894
  let v902 : BitVec 32 := Scalar.select v900 v901 v895
  let c1_i32_602 : BitVec 32 := 1#32
  let v904 : BitVec 32 := Scalar.muli v902 c1_i32_602
  let v905 : BitVec 32 := Scalar.addi c0_i32_603 v904
  v905.toNat
def k0_dev40 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_607 : BitVec 32 := 9#32
  let v913 : BitVec 32 := Scalar.addi v2 c9_i32_607
  let c32_i32_608 : BitVec 32 := 32#32
  let c0_i32_609 : BitVec 32 := 0#32
  let v914 : BitVec 1 := Scalar.cmpi .eq c32_i32_608 c0_i32_609
  let c1_i32_610 : BitVec 32 := 1#32
  let v915 : BitVec 32 := Scalar.select v914 c1_i32_610 c32_i32_608
  let v916 : BitVec 32 := Scalar.remsi v913 v915
  let c0_i32_612 : BitVec 32 := 0#32
  let v918 : BitVec 1 := Scalar.cmpi .slt v916 c0_i32_612
  let c0_i32_613 : BitVec 32 := 0#32
  let v919 : BitVec 1 := Scalar.cmpi .slt v915 c0_i32_613
  let v920 : BitVec 1 := Scalar.xori v918 v919
  let c0_i32_611 : BitVec 32 := 0#32
  let v917 : BitVec 1 := Scalar.cmpi .ne v916 c0_i32_611
  let v921 : BitVec 1 := Scalar.andi v920 v917
  let v922 : BitVec 32 := Scalar.addi v916 v915
  let v923 : BitVec 32 := Scalar.select v921 v922 v916
  let c1_i32_618 : BitVec 32 := 1#32
  let v925 : BitVec 32 := Scalar.muli v923 c1_i32_618
  let v926 : BitVec 32 := Scalar.addi c0_i32_619 v925
  v926.toNat
def k0_dev41 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_623 : BitVec 32 := 10#32
  let v934 : BitVec 32 := Scalar.addi v2 c10_i32_623
  let c32_i32_624 : BitVec 32 := 32#32
  let c0_i32_625 : BitVec 32 := 0#32
  let v935 : BitVec 1 := Scalar.cmpi .eq c32_i32_624 c0_i32_625
  let c1_i32_626 : BitVec 32 := 1#32
  let v936 : BitVec 32 := Scalar.select v935 c1_i32_626 c32_i32_624
  let v937 : BitVec 32 := Scalar.remsi v934 v936
  let c0_i32_628 : BitVec 32 := 0#32
  let v939 : BitVec 1 := Scalar.cmpi .slt v937 c0_i32_628
  let c0_i32_629 : BitVec 32 := 0#32
  let v940 : BitVec 1 := Scalar.cmpi .slt v936 c0_i32_629
  let v941 : BitVec 1 := Scalar.xori v939 v940
  let c0_i32_627 : BitVec 32 := 0#32
  let v938 : BitVec 1 := Scalar.cmpi .ne v937 c0_i32_627
  let v942 : BitVec 1 := Scalar.andi v941 v938
  let v943 : BitVec 32 := Scalar.addi v937 v936
  let v944 : BitVec 32 := Scalar.select v942 v943 v937
  let c1_i32_634 : BitVec 32 := 1#32
  let v946 : BitVec 32 := Scalar.muli v944 c1_i32_634
  let v947 : BitVec 32 := Scalar.addi c0_i32_635 v946
  v947.toNat
def k0_dev42 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_639 : BitVec 32 := 11#32
  let v955 : BitVec 32 := Scalar.addi v2 c11_i32_639
  let c32_i32_640 : BitVec 32 := 32#32
  let c0_i32_641 : BitVec 32 := 0#32
  let v956 : BitVec 1 := Scalar.cmpi .eq c32_i32_640 c0_i32_641
  let c1_i32_642 : BitVec 32 := 1#32
  let v957 : BitVec 32 := Scalar.select v956 c1_i32_642 c32_i32_640
  let v958 : BitVec 32 := Scalar.remsi v955 v957
  let c0_i32_644 : BitVec 32 := 0#32
  let v960 : BitVec 1 := Scalar.cmpi .slt v958 c0_i32_644
  let c0_i32_645 : BitVec 32 := 0#32
  let v961 : BitVec 1 := Scalar.cmpi .slt v957 c0_i32_645
  let v962 : BitVec 1 := Scalar.xori v960 v961
  let c0_i32_643 : BitVec 32 := 0#32
  let v959 : BitVec 1 := Scalar.cmpi .ne v958 c0_i32_643
  let v963 : BitVec 1 := Scalar.andi v962 v959
  let v964 : BitVec 32 := Scalar.addi v958 v957
  let v965 : BitVec 32 := Scalar.select v963 v964 v958
  let c1_i32_650 : BitVec 32 := 1#32
  let v967 : BitVec 32 := Scalar.muli v965 c1_i32_650
  let v968 : BitVec 32 := Scalar.addi c0_i32_651 v967
  v968.toNat
def k0_dev43 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_655 : BitVec 32 := 12#32
  let v976 : BitVec 32 := Scalar.addi v2 c12_i32_655
  let c32_i32_656 : BitVec 32 := 32#32
  let c0_i32_657 : BitVec 32 := 0#32
  let v977 : BitVec 1 := Scalar.cmpi .eq c32_i32_656 c0_i32_657
  let c1_i32_658 : BitVec 32 := 1#32
  let v978 : BitVec 32 := Scalar.select v977 c1_i32_658 c32_i32_656
  let v979 : BitVec 32 := Scalar.remsi v976 v978
  let c0_i32_660 : BitVec 32 := 0#32
  let v981 : BitVec 1 := Scalar.cmpi .slt v979 c0_i32_660
  let c0_i32_661 : BitVec 32 := 0#32
  let v982 : BitVec 1 := Scalar.cmpi .slt v978 c0_i32_661
  let v983 : BitVec 1 := Scalar.xori v981 v982
  let c0_i32_659 : BitVec 32 := 0#32
  let v980 : BitVec 1 := Scalar.cmpi .ne v979 c0_i32_659
  let v984 : BitVec 1 := Scalar.andi v983 v980
  let v985 : BitVec 32 := Scalar.addi v979 v978
  let v986 : BitVec 32 := Scalar.select v984 v985 v979
  let c1_i32_666 : BitVec 32 := 1#32
  let v988 : BitVec 32 := Scalar.muli v986 c1_i32_666
  let v989 : BitVec 32 := Scalar.addi c0_i32_667 v988
  v989.toNat
def k0_dev44 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_671 : BitVec 32 := 13#32
  let v997 : BitVec 32 := Scalar.addi v2 c13_i32_671
  let c32_i32_672 : BitVec 32 := 32#32
  let c0_i32_673 : BitVec 32 := 0#32
  let v998 : BitVec 1 := Scalar.cmpi .eq c32_i32_672 c0_i32_673
  let c1_i32_674 : BitVec 32 := 1#32
  let v999 : BitVec 32 := Scalar.select v998 c1_i32_674 c32_i32_672
  let v1000 : BitVec 32 := Scalar.remsi v997 v999
  let c0_i32_676 : BitVec 32 := 0#32
  let v1002 : BitVec 1 := Scalar.cmpi .slt v1000 c0_i32_676
  let c0_i32_677 : BitVec 32 := 0#32
  let v1003 : BitVec 1 := Scalar.cmpi .slt v999 c0_i32_677
  let v1004 : BitVec 1 := Scalar.xori v1002 v1003
  let c0_i32_675 : BitVec 32 := 0#32
  let v1001 : BitVec 1 := Scalar.cmpi .ne v1000 c0_i32_675
  let v1005 : BitVec 1 := Scalar.andi v1004 v1001
  let v1006 : BitVec 32 := Scalar.addi v1000 v999
  let v1007 : BitVec 32 := Scalar.select v1005 v1006 v1000
  let c1_i32_682 : BitVec 32 := 1#32
  let v1009 : BitVec 32 := Scalar.muli v1007 c1_i32_682
  let v1010 : BitVec 32 := Scalar.addi c0_i32_683 v1009
  v1010.toNat
def k0_dev45 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_687 : BitVec 32 := 14#32
  let v1018 : BitVec 32 := Scalar.addi v2 c14_i32_687
  let c32_i32_688 : BitVec 32 := 32#32
  let c0_i32_689 : BitVec 32 := 0#32
  let v1019 : BitVec 1 := Scalar.cmpi .eq c32_i32_688 c0_i32_689
  let c1_i32_690 : BitVec 32 := 1#32
  let v1020 : BitVec 32 := Scalar.select v1019 c1_i32_690 c32_i32_688
  let v1021 : BitVec 32 := Scalar.remsi v1018 v1020
  let c0_i32_692 : BitVec 32 := 0#32
  let v1023 : BitVec 1 := Scalar.cmpi .slt v1021 c0_i32_692
  let c0_i32_693 : BitVec 32 := 0#32
  let v1024 : BitVec 1 := Scalar.cmpi .slt v1020 c0_i32_693
  let v1025 : BitVec 1 := Scalar.xori v1023 v1024
  let c0_i32_691 : BitVec 32 := 0#32
  let v1022 : BitVec 1 := Scalar.cmpi .ne v1021 c0_i32_691
  let v1026 : BitVec 1 := Scalar.andi v1025 v1022
  let v1027 : BitVec 32 := Scalar.addi v1021 v1020
  let v1028 : BitVec 32 := Scalar.select v1026 v1027 v1021
  let c1_i32_698 : BitVec 32 := 1#32
  let v1030 : BitVec 32 := Scalar.muli v1028 c1_i32_698
  let v1031 : BitVec 32 := Scalar.addi c0_i32_699 v1030
  v1031.toNat
def k0_dev46 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_703 : BitVec 32 := 15#32
  let v1039 : BitVec 32 := Scalar.addi v2 c15_i32_703
  let c32_i32_704 : BitVec 32 := 32#32
  let c0_i32_705 : BitVec 32 := 0#32
  let v1040 : BitVec 1 := Scalar.cmpi .eq c32_i32_704 c0_i32_705
  let c1_i32_706 : BitVec 32 := 1#32
  let v1041 : BitVec 32 := Scalar.select v1040 c1_i32_706 c32_i32_704
  let v1042 : BitVec 32 := Scalar.remsi v1039 v1041
  let c0_i32_708 : BitVec 32 := 0#32
  let v1044 : BitVec 1 := Scalar.cmpi .slt v1042 c0_i32_708
  let c0_i32_709 : BitVec 32 := 0#32
  let v1045 : BitVec 1 := Scalar.cmpi .slt v1041 c0_i32_709
  let v1046 : BitVec 1 := Scalar.xori v1044 v1045
  let c0_i32_707 : BitVec 32 := 0#32
  let v1043 : BitVec 1 := Scalar.cmpi .ne v1042 c0_i32_707
  let v1047 : BitVec 1 := Scalar.andi v1046 v1043
  let v1048 : BitVec 32 := Scalar.addi v1042 v1041
  let v1049 : BitVec 32 := Scalar.select v1047 v1048 v1042
  let c1_i32_714 : BitVec 32 := 1#32
  let v1051 : BitVec 32 := Scalar.muli v1049 c1_i32_714
  let v1052 : BitVec 32 := Scalar.addi c0_i32_715 v1051
  v1052.toNat
def k0_dev47 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_719 : BitVec 32 := 16#32
  let v1060 : BitVec 32 := Scalar.addi v2 c16_i32_719
  let c32_i32_720 : BitVec 32 := 32#32
  let c0_i32_721 : BitVec 32 := 0#32
  let v1061 : BitVec 1 := Scalar.cmpi .eq c32_i32_720 c0_i32_721
  let c1_i32_722 : BitVec 32 := 1#32
  let v1062 : BitVec 32 := Scalar.select v1061 c1_i32_722 c32_i32_720
  let v1063 : BitVec 32 := Scalar.remsi v1060 v1062
  let c0_i32_724 : BitVec 32 := 0#32
  let v1065 : BitVec 1 := Scalar.cmpi .slt v1063 c0_i32_724
  let c0_i32_725 : BitVec 32 := 0#32
  let v1066 : BitVec 1 := Scalar.cmpi .slt v1062 c0_i32_725
  let v1067 : BitVec 1 := Scalar.xori v1065 v1066
  let c0_i32_723 : BitVec 32 := 0#32
  let v1064 : BitVec 1 := Scalar.cmpi .ne v1063 c0_i32_723
  let v1068 : BitVec 1 := Scalar.andi v1067 v1064
  let v1069 : BitVec 32 := Scalar.addi v1063 v1062
  let v1070 : BitVec 32 := Scalar.select v1068 v1069 v1063
  let c1_i32_730 : BitVec 32 := 1#32
  let v1072 : BitVec 32 := Scalar.muli v1070 c1_i32_730
  let v1073 : BitVec 32 := Scalar.addi c0_i32_731 v1072
  v1073.toNat
def k0_dev48 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_735 : BitVec 32 := 17#32
  let v1081 : BitVec 32 := Scalar.addi v2 c17_i32_735
  let c32_i32_736 : BitVec 32 := 32#32
  let c0_i32_737 : BitVec 32 := 0#32
  let v1082 : BitVec 1 := Scalar.cmpi .eq c32_i32_736 c0_i32_737
  let c1_i32_738 : BitVec 32 := 1#32
  let v1083 : BitVec 32 := Scalar.select v1082 c1_i32_738 c32_i32_736
  let v1084 : BitVec 32 := Scalar.remsi v1081 v1083
  let c0_i32_740 : BitVec 32 := 0#32
  let v1086 : BitVec 1 := Scalar.cmpi .slt v1084 c0_i32_740
  let c0_i32_741 : BitVec 32 := 0#32
  let v1087 : BitVec 1 := Scalar.cmpi .slt v1083 c0_i32_741
  let v1088 : BitVec 1 := Scalar.xori v1086 v1087
  let c0_i32_739 : BitVec 32 := 0#32
  let v1085 : BitVec 1 := Scalar.cmpi .ne v1084 c0_i32_739
  let v1089 : BitVec 1 := Scalar.andi v1088 v1085
  let v1090 : BitVec 32 := Scalar.addi v1084 v1083
  let v1091 : BitVec 32 := Scalar.select v1089 v1090 v1084
  let c1_i32_746 : BitVec 32 := 1#32
  let v1093 : BitVec 32 := Scalar.muli v1091 c1_i32_746
  let v1094 : BitVec 32 := Scalar.addi c0_i32_747 v1093
  v1094.toNat
def k0_dev49 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_751 : BitVec 32 := 18#32
  let v1102 : BitVec 32 := Scalar.addi v2 c18_i32_751
  let c32_i32_752 : BitVec 32 := 32#32
  let c0_i32_753 : BitVec 32 := 0#32
  let v1103 : BitVec 1 := Scalar.cmpi .eq c32_i32_752 c0_i32_753
  let c1_i32_754 : BitVec 32 := 1#32
  let v1104 : BitVec 32 := Scalar.select v1103 c1_i32_754 c32_i32_752
  let v1105 : BitVec 32 := Scalar.remsi v1102 v1104
  let c0_i32_756 : BitVec 32 := 0#32
  let v1107 : BitVec 1 := Scalar.cmpi .slt v1105 c0_i32_756
  let c0_i32_757 : BitVec 32 := 0#32
  let v1108 : BitVec 1 := Scalar.cmpi .slt v1104 c0_i32_757
  let v1109 : BitVec 1 := Scalar.xori v1107 v1108
  let c0_i32_755 : BitVec 32 := 0#32
  let v1106 : BitVec 1 := Scalar.cmpi .ne v1105 c0_i32_755
  let v1110 : BitVec 1 := Scalar.andi v1109 v1106
  let v1111 : BitVec 32 := Scalar.addi v1105 v1104
  let v1112 : BitVec 32 := Scalar.select v1110 v1111 v1105
  let c1_i32_762 : BitVec 32 := 1#32
  let v1114 : BitVec 32 := Scalar.muli v1112 c1_i32_762
  let v1115 : BitVec 32 := Scalar.addi c0_i32_763 v1114
  v1115.toNat
def k0_dev50 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_767 : BitVec 32 := 19#32
  let v1123 : BitVec 32 := Scalar.addi v2 c19_i32_767
  let c32_i32_768 : BitVec 32 := 32#32
  let c0_i32_769 : BitVec 32 := 0#32
  let v1124 : BitVec 1 := Scalar.cmpi .eq c32_i32_768 c0_i32_769
  let c1_i32_770 : BitVec 32 := 1#32
  let v1125 : BitVec 32 := Scalar.select v1124 c1_i32_770 c32_i32_768
  let v1126 : BitVec 32 := Scalar.remsi v1123 v1125
  let c0_i32_772 : BitVec 32 := 0#32
  let v1128 : BitVec 1 := Scalar.cmpi .slt v1126 c0_i32_772
  let c0_i32_773 : BitVec 32 := 0#32
  let v1129 : BitVec 1 := Scalar.cmpi .slt v1125 c0_i32_773
  let v1130 : BitVec 1 := Scalar.xori v1128 v1129
  let c0_i32_771 : BitVec 32 := 0#32
  let v1127 : BitVec 1 := Scalar.cmpi .ne v1126 c0_i32_771
  let v1131 : BitVec 1 := Scalar.andi v1130 v1127
  let v1132 : BitVec 32 := Scalar.addi v1126 v1125
  let v1133 : BitVec 32 := Scalar.select v1131 v1132 v1126
  let c1_i32_778 : BitVec 32 := 1#32
  let v1135 : BitVec 32 := Scalar.muli v1133 c1_i32_778
  let v1136 : BitVec 32 := Scalar.addi c0_i32_779 v1135
  v1136.toNat
def k0_dev51 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_783 : BitVec 32 := 20#32
  let v1144 : BitVec 32 := Scalar.addi v2 c20_i32_783
  let c32_i32_784 : BitVec 32 := 32#32
  let c0_i32_785 : BitVec 32 := 0#32
  let v1145 : BitVec 1 := Scalar.cmpi .eq c32_i32_784 c0_i32_785
  let c1_i32_786 : BitVec 32 := 1#32
  let v1146 : BitVec 32 := Scalar.select v1145 c1_i32_786 c32_i32_784
  let v1147 : BitVec 32 := Scalar.remsi v1144 v1146
  let c0_i32_788 : BitVec 32 := 0#32
  let v1149 : BitVec 1 := Scalar.cmpi .slt v1147 c0_i32_788
  let c0_i32_789 : BitVec 32 := 0#32
  let v1150 : BitVec 1 := Scalar.cmpi .slt v1146 c0_i32_789
  let v1151 : BitVec 1 := Scalar.xori v1149 v1150
  let c0_i32_787 : BitVec 32 := 0#32
  let v1148 : BitVec 1 := Scalar.cmpi .ne v1147 c0_i32_787
  let v1152 : BitVec 1 := Scalar.andi v1151 v1148
  let v1153 : BitVec 32 := Scalar.addi v1147 v1146
  let v1154 : BitVec 32 := Scalar.select v1152 v1153 v1147
  let c1_i32_794 : BitVec 32 := 1#32
  let v1156 : BitVec 32 := Scalar.muli v1154 c1_i32_794
  let v1157 : BitVec 32 := Scalar.addi c0_i32_795 v1156
  v1157.toNat
def k0_dev52 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_799 : BitVec 32 := 21#32
  let v1165 : BitVec 32 := Scalar.addi v2 c21_i32_799
  let c32_i32_800 : BitVec 32 := 32#32
  let c0_i32_801 : BitVec 32 := 0#32
  let v1166 : BitVec 1 := Scalar.cmpi .eq c32_i32_800 c0_i32_801
  let c1_i32_802 : BitVec 32 := 1#32
  let v1167 : BitVec 32 := Scalar.select v1166 c1_i32_802 c32_i32_800
  let v1168 : BitVec 32 := Scalar.remsi v1165 v1167
  let c0_i32_804 : BitVec 32 := 0#32
  let v1170 : BitVec 1 := Scalar.cmpi .slt v1168 c0_i32_804
  let c0_i32_805 : BitVec 32 := 0#32
  let v1171 : BitVec 1 := Scalar.cmpi .slt v1167 c0_i32_805
  let v1172 : BitVec 1 := Scalar.xori v1170 v1171
  let c0_i32_803 : BitVec 32 := 0#32
  let v1169 : BitVec 1 := Scalar.cmpi .ne v1168 c0_i32_803
  let v1173 : BitVec 1 := Scalar.andi v1172 v1169
  let v1174 : BitVec 32 := Scalar.addi v1168 v1167
  let v1175 : BitVec 32 := Scalar.select v1173 v1174 v1168
  let c1_i32_810 : BitVec 32 := 1#32
  let v1177 : BitVec 32 := Scalar.muli v1175 c1_i32_810
  let v1178 : BitVec 32 := Scalar.addi c0_i32_811 v1177
  v1178.toNat
def k0_dev53 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_815 : BitVec 32 := 22#32
  let v1186 : BitVec 32 := Scalar.addi v2 c22_i32_815
  let c32_i32_816 : BitVec 32 := 32#32
  let c0_i32_817 : BitVec 32 := 0#32
  let v1187 : BitVec 1 := Scalar.cmpi .eq c32_i32_816 c0_i32_817
  let c1_i32_818 : BitVec 32 := 1#32
  let v1188 : BitVec 32 := Scalar.select v1187 c1_i32_818 c32_i32_816
  let v1189 : BitVec 32 := Scalar.remsi v1186 v1188
  let c0_i32_820 : BitVec 32 := 0#32
  let v1191 : BitVec 1 := Scalar.cmpi .slt v1189 c0_i32_820
  let c0_i32_821 : BitVec 32 := 0#32
  let v1192 : BitVec 1 := Scalar.cmpi .slt v1188 c0_i32_821
  let v1193 : BitVec 1 := Scalar.xori v1191 v1192
  let c0_i32_819 : BitVec 32 := 0#32
  let v1190 : BitVec 1 := Scalar.cmpi .ne v1189 c0_i32_819
  let v1194 : BitVec 1 := Scalar.andi v1193 v1190
  let v1195 : BitVec 32 := Scalar.addi v1189 v1188
  let v1196 : BitVec 32 := Scalar.select v1194 v1195 v1189
  let c1_i32_826 : BitVec 32 := 1#32
  let v1198 : BitVec 32 := Scalar.muli v1196 c1_i32_826
  let v1199 : BitVec 32 := Scalar.addi c0_i32_827 v1198
  v1199.toNat
def k0_dev54 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_831 : BitVec 32 := 23#32
  let v1207 : BitVec 32 := Scalar.addi v2 c23_i32_831
  let c32_i32_832 : BitVec 32 := 32#32
  let c0_i32_833 : BitVec 32 := 0#32
  let v1208 : BitVec 1 := Scalar.cmpi .eq c32_i32_832 c0_i32_833
  let c1_i32_834 : BitVec 32 := 1#32
  let v1209 : BitVec 32 := Scalar.select v1208 c1_i32_834 c32_i32_832
  let v1210 : BitVec 32 := Scalar.remsi v1207 v1209
  let c0_i32_836 : BitVec 32 := 0#32
  let v1212 : BitVec 1 := Scalar.cmpi .slt v1210 c0_i32_836
  let c0_i32_837 : BitVec 32 := 0#32
  let v1213 : BitVec 1 := Scalar.cmpi .slt v1209 c0_i32_837
  let v1214 : BitVec 1 := Scalar.xori v1212 v1213
  let c0_i32_835 : BitVec 32 := 0#32
  let v1211 : BitVec 1 := Scalar.cmpi .ne v1210 c0_i32_835
  let v1215 : BitVec 1 := Scalar.andi v1214 v1211
  let v1216 : BitVec 32 := Scalar.addi v1210 v1209
  let v1217 : BitVec 32 := Scalar.select v1215 v1216 v1210
  let c1_i32_842 : BitVec 32 := 1#32
  let v1219 : BitVec 32 := Scalar.muli v1217 c1_i32_842
  let v1220 : BitVec 32 := Scalar.addi c0_i32_843 v1219
  v1220.toNat
def k0_dev55 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_847 : BitVec 32 := 24#32
  let v1228 : BitVec 32 := Scalar.addi v2 c24_i32_847
  let c32_i32_848 : BitVec 32 := 32#32
  let c0_i32_849 : BitVec 32 := 0#32
  let v1229 : BitVec 1 := Scalar.cmpi .eq c32_i32_848 c0_i32_849
  let c1_i32_850 : BitVec 32 := 1#32
  let v1230 : BitVec 32 := Scalar.select v1229 c1_i32_850 c32_i32_848
  let v1231 : BitVec 32 := Scalar.remsi v1228 v1230
  let c0_i32_852 : BitVec 32 := 0#32
  let v1233 : BitVec 1 := Scalar.cmpi .slt v1231 c0_i32_852
  let c0_i32_853 : BitVec 32 := 0#32
  let v1234 : BitVec 1 := Scalar.cmpi .slt v1230 c0_i32_853
  let v1235 : BitVec 1 := Scalar.xori v1233 v1234
  let c0_i32_851 : BitVec 32 := 0#32
  let v1232 : BitVec 1 := Scalar.cmpi .ne v1231 c0_i32_851
  let v1236 : BitVec 1 := Scalar.andi v1235 v1232
  let v1237 : BitVec 32 := Scalar.addi v1231 v1230
  let v1238 : BitVec 32 := Scalar.select v1236 v1237 v1231
  let c1_i32_858 : BitVec 32 := 1#32
  let v1240 : BitVec 32 := Scalar.muli v1238 c1_i32_858
  let v1241 : BitVec 32 := Scalar.addi c0_i32_859 v1240
  v1241.toNat
def k0_dev56 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_863 : BitVec 32 := 25#32
  let v1249 : BitVec 32 := Scalar.addi v2 c25_i32_863
  let c32_i32_864 : BitVec 32 := 32#32
  let c0_i32_865 : BitVec 32 := 0#32
  let v1250 : BitVec 1 := Scalar.cmpi .eq c32_i32_864 c0_i32_865
  let c1_i32_866 : BitVec 32 := 1#32
  let v1251 : BitVec 32 := Scalar.select v1250 c1_i32_866 c32_i32_864
  let v1252 : BitVec 32 := Scalar.remsi v1249 v1251
  let c0_i32_868 : BitVec 32 := 0#32
  let v1254 : BitVec 1 := Scalar.cmpi .slt v1252 c0_i32_868
  let c0_i32_869 : BitVec 32 := 0#32
  let v1255 : BitVec 1 := Scalar.cmpi .slt v1251 c0_i32_869
  let v1256 : BitVec 1 := Scalar.xori v1254 v1255
  let c0_i32_867 : BitVec 32 := 0#32
  let v1253 : BitVec 1 := Scalar.cmpi .ne v1252 c0_i32_867
  let v1257 : BitVec 1 := Scalar.andi v1256 v1253
  let v1258 : BitVec 32 := Scalar.addi v1252 v1251
  let v1259 : BitVec 32 := Scalar.select v1257 v1258 v1252
  let c1_i32_874 : BitVec 32 := 1#32
  let v1261 : BitVec 32 := Scalar.muli v1259 c1_i32_874
  let v1262 : BitVec 32 := Scalar.addi c0_i32_875 v1261
  v1262.toNat
def k0_dev57 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_879 : BitVec 32 := 26#32
  let v1270 : BitVec 32 := Scalar.addi v2 c26_i32_879
  let c32_i32_880 : BitVec 32 := 32#32
  let c0_i32_881 : BitVec 32 := 0#32
  let v1271 : BitVec 1 := Scalar.cmpi .eq c32_i32_880 c0_i32_881
  let c1_i32_882 : BitVec 32 := 1#32
  let v1272 : BitVec 32 := Scalar.select v1271 c1_i32_882 c32_i32_880
  let v1273 : BitVec 32 := Scalar.remsi v1270 v1272
  let c0_i32_884 : BitVec 32 := 0#32
  let v1275 : BitVec 1 := Scalar.cmpi .slt v1273 c0_i32_884
  let c0_i32_885 : BitVec 32 := 0#32
  let v1276 : BitVec 1 := Scalar.cmpi .slt v1272 c0_i32_885
  let v1277 : BitVec 1 := Scalar.xori v1275 v1276
  let c0_i32_883 : BitVec 32 := 0#32
  let v1274 : BitVec 1 := Scalar.cmpi .ne v1273 c0_i32_883
  let v1278 : BitVec 1 := Scalar.andi v1277 v1274
  let v1279 : BitVec 32 := Scalar.addi v1273 v1272
  let v1280 : BitVec 32 := Scalar.select v1278 v1279 v1273
  let c1_i32_890 : BitVec 32 := 1#32
  let v1282 : BitVec 32 := Scalar.muli v1280 c1_i32_890
  let v1283 : BitVec 32 := Scalar.addi c0_i32_891 v1282
  v1283.toNat
def k0_dev58 (d0 : Dev nD) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_895 : BitVec 32 := 27#32
  let v1291 : BitVec 32 := Scalar.addi v2 c27_i32_895
  let c32_i32_896 : BitVec 32 := 32#32
  let c0_i32_897 : BitVec 32 := 0#32
  let v1292 : BitVec 1 := Scalar.cmpi .eq c32_i32_896 c0_i32_897
  let c1_i32_898 : BitVec 32 := 1#32
  let v1293 : BitVec 32 := Scalar.select v1292 c1_i32_898 c32_i32_896
  let v1294 : BitVec 32 := Scalar.remsi v1291 v1293
  let c0_i32_900 : BitVec 32 := 0#32
  let v1296 : BitVec 1 := Scalar.cmpi .slt v1294 c0_i32_900
  let c0_i32_901 : BitVec 32 := 0#32
  let v1297 : BitVec 1 := Scalar.cmpi .slt v1293 c0_i32_901
  let v1298 : BitVec 1 := Scalar.xori v1296 v1297
  let c0_i32_899 : BitVec 32 := 0#32
  let v1295 : BitVec 1 := Scalar.cmpi .ne v1294 c0_i32_899
  let v1299 : BitVec 1 := Scalar.andi v1298 v1295
  let v1300 : BitVec 32 := Scalar.addi v1294 v1293
  let v1301 : BitVec 32 := Scalar.select v1299 v1300 v1294
  let c1_i32_906 : BitVec 32 := 1#32
  let v1303 : BitVec 32 := Scalar.muli v1301 c1_i32_906
  let v1304 : BitVec 32 := Scalar.addi c0_i32_907 v1303
  v1304.toNat
def k0_dev59 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_911 : BitVec 32 := 28#32
  let v1312 : BitVec 32 := Scalar.addi v2 c28_i32_911
  let c32_i32_912 : BitVec 32 := 32#32
  let c0_i32_913 : BitVec 32 := 0#32
  let v1313 : BitVec 1 := Scalar.cmpi .eq c32_i32_912 c0_i32_913
  let c1_i32_914 : BitVec 32 := 1#32
  let v1314 : BitVec 32 := Scalar.select v1313 c1_i32_914 c32_i32_912
  let v1315 : BitVec 32 := Scalar.remsi v1312 v1314
  let c0_i32_916 : BitVec 32 := 0#32
  let v1317 : BitVec 1 := Scalar.cmpi .slt v1315 c0_i32_916
  let c0_i32_917 : BitVec 32 := 0#32
  let v1318 : BitVec 1 := Scalar.cmpi .slt v1314 c0_i32_917
  let v1319 : BitVec 1 := Scalar.xori v1317 v1318
  let c0_i32_915 : BitVec 32 := 0#32
  let v1316 : BitVec 1 := Scalar.cmpi .ne v1315 c0_i32_915
  let v1320 : BitVec 1 := Scalar.andi v1319 v1316
  let v1321 : BitVec 32 := Scalar.addi v1315 v1314
  let v1322 : BitVec 32 := Scalar.select v1320 v1321 v1315
  let c1_i32_922 : BitVec 32 := 1#32
  let v1324 : BitVec 32 := Scalar.muli v1322 c1_i32_922
  let v1325 : BitVec 32 := Scalar.addi c0_i32_923 v1324
  v1325.toNat
def k0_dev60 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_927 : BitVec 32 := 29#32
  let v1333 : BitVec 32 := Scalar.addi v2 c29_i32_927
  let c32_i32_928 : BitVec 32 := 32#32
  let c0_i32_929 : BitVec 32 := 0#32
  let v1334 : BitVec 1 := Scalar.cmpi .eq c32_i32_928 c0_i32_929
  let c1_i32_930 : BitVec 32 := 1#32
  let v1335 : BitVec 32 := Scalar.select v1334 c1_i32_930 c32_i32_928
  let v1336 : BitVec 32 := Scalar.remsi v1333 v1335
  let c0_i32_932 : BitVec 32 := 0#32
  let v1338 : BitVec 1 := Scalar.cmpi .slt v1336 c0_i32_932
  let c0_i32_933 : BitVec 32 := 0#32
  let v1339 : BitVec 1 := Scalar.cmpi .slt v1335 c0_i32_933
  let v1340 : BitVec 1 := Scalar.xori v1338 v1339
  let c0_i32_931 : BitVec 32 := 0#32
  let v1337 : BitVec 1 := Scalar.cmpi .ne v1336 c0_i32_931
  let v1341 : BitVec 1 := Scalar.andi v1340 v1337
  let v1342 : BitVec 32 := Scalar.addi v1336 v1335
  let v1343 : BitVec 32 := Scalar.select v1341 v1342 v1336
  let c1_i32_938 : BitVec 32 := 1#32
  let v1345 : BitVec 32 := Scalar.muli v1343 c1_i32_938
  let v1346 : BitVec 32 := Scalar.addi c0_i32_939 v1345
  v1346.toNat
def k0_dev61 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_943 : BitVec 32 := 30#32
  let v1354 : BitVec 32 := Scalar.addi v2 c30_i32_943
  let c32_i32_944 : BitVec 32 := 32#32
  let c0_i32_945 : BitVec 32 := 0#32
  let v1355 : BitVec 1 := Scalar.cmpi .eq c32_i32_944 c0_i32_945
  let c1_i32_946 : BitVec 32 := 1#32
  let v1356 : BitVec 32 := Scalar.select v1355 c1_i32_946 c32_i32_944
  let v1357 : BitVec 32 := Scalar.remsi v1354 v1356
  let c0_i32_948 : BitVec 32 := 0#32
  let v1359 : BitVec 1 := Scalar.cmpi .slt v1357 c0_i32_948
  let c0_i32_949 : BitVec 32 := 0#32
  let v1360 : BitVec 1 := Scalar.cmpi .slt v1356 c0_i32_949
  let v1361 : BitVec 1 := Scalar.xori v1359 v1360
  let c0_i32_947 : BitVec 32 := 0#32
  let v1358 : BitVec 1 := Scalar.cmpi .ne v1357 c0_i32_947
  let v1362 : BitVec 1 := Scalar.andi v1361 v1358
  let v1363 : BitVec 32 := Scalar.addi v1357 v1356
  let v1364 : BitVec 32 := Scalar.select v1362 v1363 v1357
  let c1_i32_954 : BitVec 32 := 1#32
  let v1366 : BitVec 32 := Scalar.muli v1364 c1_i32_954
  let v1367 : BitVec 32 := Scalar.addi c0_i32_955 v1366
  v1367.toNat
def k0_dev62 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_959 : BitVec 32 := 31#32
  let v1375 : BitVec 32 := Scalar.addi v2 c31_i32_959
  let c32_i32_960 : BitVec 32 := 32#32
  let c0_i32_961 : BitVec 32 := 0#32
  let v1376 : BitVec 1 := Scalar.cmpi .eq c32_i32_960 c0_i32_961
  let c1_i32_962 : BitVec 32 := 1#32
  let v1377 : BitVec 32 := Scalar.select v1376 c1_i32_962 c32_i32_960
  let v1378 : BitVec 32 := Scalar.remsi v1375 v1377
  let c0_i32_964 : BitVec 32 := 0#32
  let v1380 : BitVec 1 := Scalar.cmpi .slt v1378 c0_i32_964
  let c0_i32_965 : BitVec 32 := 0#32
  let v1381 : BitVec 1 := Scalar.cmpi .slt v1377 c0_i32_965
  let v1382 : BitVec 1 := Scalar.xori v1380 v1381
  let c0_i32_963 : BitVec 32 := 0#32
  let v1379 : BitVec 1 := Scalar.cmpi .ne v1378 c0_i32_963
  let v1383 : BitVec 1 := Scalar.andi v1382 v1379
  let v1384 : BitVec 32 := Scalar.addi v1378 v1377
  let v1385 : BitVec 32 := Scalar.select v1383 v1384 v1378
  let c1_i32_970 : BitVec 32 := 1#32
  let v1387 : BitVec 32 := Scalar.muli v1385 c1_i32_970
  let v1388 : BitVec 32 := Scalar.addi c0_i32_971 v1387
  v1388.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_975 : BitVec 32 := 32#32
  let v1396 : BitVec 32 := Scalar.muli v2 c32_i32_975
  let v1397 : Index := Scalar.indexCast v1396
  let c0_976 : Index := 0#32
  ![v1397.toNat, 0]
def k0_off4 (d0 : Dev nD) : Fin 3 → Nat :=
  let c0_1577 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1576 : BitVec 32 := 32#32
  let v1930 : BitVec 32 := Scalar.muli v2 c32_i32_1576
  let v1931 : Index := Scalar.indexCast v1930
  let c0_1578 : Index := 0#32
  ![0, v1931.toNat, 0]
def k0_dev63 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1579 : BitVec 32 := 1#32
  let v1935 : BitVec 32 := Scalar.addi v2 c1_i32_1579
  let c32_i32_1580 : BitVec 32 := 32#32
  let c0_i32_1581 : BitVec 32 := 0#32
  let v1936 : BitVec 1 := Scalar.cmpi .eq c32_i32_1580 c0_i32_1581
  let c1_i32_1582 : BitVec 32 := 1#32
  let v1937 : BitVec 32 := Scalar.select v1936 c1_i32_1582 c32_i32_1580
  let v1938 : BitVec 32 := Scalar.remsi v1935 v1937
  let c0_i32_1584 : BitVec 32 := 0#32
  let v1940 : BitVec 1 := Scalar.cmpi .slt v1938 c0_i32_1584
  let c0_i32_1585 : BitVec 32 := 0#32
  let v1941 : BitVec 1 := Scalar.cmpi .slt v1937 c0_i32_1585
  let v1942 : BitVec 1 := Scalar.xori v1940 v1941
  let c0_i32_1583 : BitVec 32 := 0#32
  let v1939 : BitVec 1 := Scalar.cmpi .ne v1938 c0_i32_1583
  let v1943 : BitVec 1 := Scalar.andi v1942 v1939
  let v1944 : BitVec 32 := Scalar.addi v1938 v1937
  let v1945 : BitVec 32 := Scalar.select v1943 v1944 v1938
  let c1_i32_1589 : BitVec 32 := 1#32
  let v1946 : BitVec 32 := Scalar.muli v1945 c1_i32_1589
  let v1947 : BitVec 32 := Scalar.addi c0_i32_1590 v1946
  v1947.toNat
def k0_dev64 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1593 : BitVec 32 := 2#32
  let v1954 : BitVec 32 := Scalar.addi v2 c2_i32_1593
  let c32_i32_1594 : BitVec 32 := 32#32
  let c0_i32_1595 : BitVec 32 := 0#32
  let v1955 : BitVec 1 := Scalar.cmpi .eq c32_i32_1594 c0_i32_1595
  let c1_i32_1596 : BitVec 32 := 1#32
  let v1956 : BitVec 32 := Scalar.select v1955 c1_i32_1596 c32_i32_1594
  let v1957 : BitVec 32 := Scalar.remsi v1954 v1956
  let c0_i32_1598 : BitVec 32 := 0#32
  let v1959 : BitVec 1 := Scalar.cmpi .slt v1957 c0_i32_1598
  let c0_i32_1599 : BitVec 32 := 0#32
  let v1960 : BitVec 1 := Scalar.cmpi .slt v1956 c0_i32_1599
  let v1961 : BitVec 1 := Scalar.xori v1959 v1960
  let c0_i32_1597 : BitVec 32 := 0#32
  let v1958 : BitVec 1 := Scalar.cmpi .ne v1957 c0_i32_1597
  let v1962 : BitVec 1 := Scalar.andi v1961 v1958
  let v1963 : BitVec 32 := Scalar.addi v1957 v1956
  let v1964 : BitVec 32 := Scalar.select v1962 v1963 v1957
  let c1_i32_1603 : BitVec 32 := 1#32
  let v1965 : BitVec 32 := Scalar.muli v1964 c1_i32_1603
  let v1966 : BitVec 32 := Scalar.addi c0_i32_1604 v1965
  v1966.toNat
def k0_dev65 (d0 : Dev nD) : Nat :=
  let c0_i32_1618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1607 : BitVec 32 := 3#32
  let v1973 : BitVec 32 := Scalar.addi v2 c3_i32_1607
  let c32_i32_1608 : BitVec 32 := 32#32
  let c0_i32_1609 : BitVec 32 := 0#32
  let v1974 : BitVec 1 := Scalar.cmpi .eq c32_i32_1608 c0_i32_1609
  let c1_i32_1610 : BitVec 32 := 1#32
  let v1975 : BitVec 32 := Scalar.select v1974 c1_i32_1610 c32_i32_1608
  let v1976 : BitVec 32 := Scalar.remsi v1973 v1975
  let c0_i32_1612 : BitVec 32 := 0#32
  let v1978 : BitVec 1 := Scalar.cmpi .slt v1976 c0_i32_1612
  let c0_i32_1613 : BitVec 32 := 0#32
  let v1979 : BitVec 1 := Scalar.cmpi .slt v1975 c0_i32_1613
  let v1980 : BitVec 1 := Scalar.xori v1978 v1979
  let c0_i32_1611 : BitVec 32 := 0#32
  let v1977 : BitVec 1 := Scalar.cmpi .ne v1976 c0_i32_1611
  let v1981 : BitVec 1 := Scalar.andi v1980 v1977
  let v1982 : BitVec 32 := Scalar.addi v1976 v1975
  let v1983 : BitVec 32 := Scalar.select v1981 v1982 v1976
  let c1_i32_1617 : BitVec 32 := 1#32
  let v1984 : BitVec 32 := Scalar.muli v1983 c1_i32_1617
  let v1985 : BitVec 32 := Scalar.addi c0_i32_1618 v1984
  v1985.toNat
def k0_dev66 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1621 : BitVec 32 := 4#32
  let v1992 : BitVec 32 := Scalar.addi v2 c4_i32_1621
  let c32_i32_1622 : BitVec 32 := 32#32
  let c0_i32_1623 : BitVec 32 := 0#32
  let v1993 : BitVec 1 := Scalar.cmpi .eq c32_i32_1622 c0_i32_1623
  let c1_i32_1624 : BitVec 32 := 1#32
  let v1994 : BitVec 32 := Scalar.select v1993 c1_i32_1624 c32_i32_1622
  let v1995 : BitVec 32 := Scalar.remsi v1992 v1994
  let c0_i32_1626 : BitVec 32 := 0#32
  let v1997 : BitVec 1 := Scalar.cmpi .slt v1995 c0_i32_1626
  let c0_i32_1627 : BitVec 32 := 0#32
  let v1998 : BitVec 1 := Scalar.cmpi .slt v1994 c0_i32_1627
  let v1999 : BitVec 1 := Scalar.xori v1997 v1998
  let c0_i32_1625 : BitVec 32 := 0#32
  let v1996 : BitVec 1 := Scalar.cmpi .ne v1995 c0_i32_1625
  let v2000 : BitVec 1 := Scalar.andi v1999 v1996
  let v2001 : BitVec 32 := Scalar.addi v1995 v1994
  let v2002 : BitVec 32 := Scalar.select v2000 v2001 v1995
  let c1_i32_1631 : BitVec 32 := 1#32
  let v2003 : BitVec 32 := Scalar.muli v2002 c1_i32_1631
  let v2004 : BitVec 32 := Scalar.addi c0_i32_1632 v2003
  v2004.toNat
def k0_dev67 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1635 : BitVec 32 := 5#32
  let v2011 : BitVec 32 := Scalar.addi v2 c5_i32_1635
  let c32_i32_1636 : BitVec 32 := 32#32
  let c0_i32_1637 : BitVec 32 := 0#32
  let v2012 : BitVec 1 := Scalar.cmpi .eq c32_i32_1636 c0_i32_1637
  let c1_i32_1638 : BitVec 32 := 1#32
  let v2013 : BitVec 32 := Scalar.select v2012 c1_i32_1638 c32_i32_1636
  let v2014 : BitVec 32 := Scalar.remsi v2011 v2013
  let c0_i32_1640 : BitVec 32 := 0#32
  let v2016 : BitVec 1 := Scalar.cmpi .slt v2014 c0_i32_1640
  let c0_i32_1641 : BitVec 32 := 0#32
  let v2017 : BitVec 1 := Scalar.cmpi .slt v2013 c0_i32_1641
  let v2018 : BitVec 1 := Scalar.xori v2016 v2017
  let c0_i32_1639 : BitVec 32 := 0#32
  let v2015 : BitVec 1 := Scalar.cmpi .ne v2014 c0_i32_1639
  let v2019 : BitVec 1 := Scalar.andi v2018 v2015
  let v2020 : BitVec 32 := Scalar.addi v2014 v2013
  let v2021 : BitVec 32 := Scalar.select v2019 v2020 v2014
  let c1_i32_1645 : BitVec 32 := 1#32
  let v2022 : BitVec 32 := Scalar.muli v2021 c1_i32_1645
  let v2023 : BitVec 32 := Scalar.addi c0_i32_1646 v2022
  v2023.toNat
def k0_dev68 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1649 : BitVec 32 := 6#32
  let v2030 : BitVec 32 := Scalar.addi v2 c6_i32_1649
  let c32_i32_1650 : BitVec 32 := 32#32
  let c0_i32_1651 : BitVec 32 := 0#32
  let v2031 : BitVec 1 := Scalar.cmpi .eq c32_i32_1650 c0_i32_1651
  let c1_i32_1652 : BitVec 32 := 1#32
  let v2032 : BitVec 32 := Scalar.select v2031 c1_i32_1652 c32_i32_1650
  let v2033 : BitVec 32 := Scalar.remsi v2030 v2032
  let c0_i32_1654 : BitVec 32 := 0#32
  let v2035 : BitVec 1 := Scalar.cmpi .slt v2033 c0_i32_1654
  let c0_i32_1655 : BitVec 32 := 0#32
  let v2036 : BitVec 1 := Scalar.cmpi .slt v2032 c0_i32_1655
  let v2037 : BitVec 1 := Scalar.xori v2035 v2036
  let c0_i32_1653 : BitVec 32 := 0#32
  let v2034 : BitVec 1 := Scalar.cmpi .ne v2033 c0_i32_1653
  let v2038 : BitVec 1 := Scalar.andi v2037 v2034
  let v2039 : BitVec 32 := Scalar.addi v2033 v2032
  let v2040 : BitVec 32 := Scalar.select v2038 v2039 v2033
  let c1_i32_1659 : BitVec 32 := 1#32
  let v2041 : BitVec 32 := Scalar.muli v2040 c1_i32_1659
  let v2042 : BitVec 32 := Scalar.addi c0_i32_1660 v2041
  v2042.toNat
def k0_dev69 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1663 : BitVec 32 := 7#32
  let v2049 : BitVec 32 := Scalar.addi v2 c7_i32_1663
  let c32_i32_1664 : BitVec 32 := 32#32
  let c0_i32_1665 : BitVec 32 := 0#32
  let v2050 : BitVec 1 := Scalar.cmpi .eq c32_i32_1664 c0_i32_1665
  let c1_i32_1666 : BitVec 32 := 1#32
  let v2051 : BitVec 32 := Scalar.select v2050 c1_i32_1666 c32_i32_1664
  let v2052 : BitVec 32 := Scalar.remsi v2049 v2051
  let c0_i32_1668 : BitVec 32 := 0#32
  let v2054 : BitVec 1 := Scalar.cmpi .slt v2052 c0_i32_1668
  let c0_i32_1669 : BitVec 32 := 0#32
  let v2055 : BitVec 1 := Scalar.cmpi .slt v2051 c0_i32_1669
  let v2056 : BitVec 1 := Scalar.xori v2054 v2055
  let c0_i32_1667 : BitVec 32 := 0#32
  let v2053 : BitVec 1 := Scalar.cmpi .ne v2052 c0_i32_1667
  let v2057 : BitVec 1 := Scalar.andi v2056 v2053
  let v2058 : BitVec 32 := Scalar.addi v2052 v2051
  let v2059 : BitVec 32 := Scalar.select v2057 v2058 v2052
  let c1_i32_1673 : BitVec 32 := 1#32
  let v2060 : BitVec 32 := Scalar.muli v2059 c1_i32_1673
  let v2061 : BitVec 32 := Scalar.addi c0_i32_1674 v2060
  v2061.toNat
def k0_dev70 (d0 : Dev nD) : Nat :=
  let c0_i32_1688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1677 : BitVec 32 := 8#32
  let v2068 : BitVec 32 := Scalar.addi v2 c8_i32_1677
  let c32_i32_1678 : BitVec 32 := 32#32
  let c0_i32_1679 : BitVec 32 := 0#32
  let v2069 : BitVec 1 := Scalar.cmpi .eq c32_i32_1678 c0_i32_1679
  let c1_i32_1680 : BitVec 32 := 1#32
  let v2070 : BitVec 32 := Scalar.select v2069 c1_i32_1680 c32_i32_1678
  let v2071 : BitVec 32 := Scalar.remsi v2068 v2070
  let c0_i32_1682 : BitVec 32 := 0#32
  let v2073 : BitVec 1 := Scalar.cmpi .slt v2071 c0_i32_1682
  let c0_i32_1683 : BitVec 32 := 0#32
  let v2074 : BitVec 1 := Scalar.cmpi .slt v2070 c0_i32_1683
  let v2075 : BitVec 1 := Scalar.xori v2073 v2074
  let c0_i32_1681 : BitVec 32 := 0#32
  let v2072 : BitVec 1 := Scalar.cmpi .ne v2071 c0_i32_1681
  let v2076 : BitVec 1 := Scalar.andi v2075 v2072
  let v2077 : BitVec 32 := Scalar.addi v2071 v2070
  let v2078 : BitVec 32 := Scalar.select v2076 v2077 v2071
  let c1_i32_1687 : BitVec 32 := 1#32
  let v2079 : BitVec 32 := Scalar.muli v2078 c1_i32_1687
  let v2080 : BitVec 32 := Scalar.addi c0_i32_1688 v2079
  v2080.toNat
def k0_dev71 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1691 : BitVec 32 := 9#32
  let v2087 : BitVec 32 := Scalar.addi v2 c9_i32_1691
  let c32_i32_1692 : BitVec 32 := 32#32
  let c0_i32_1693 : BitVec 32 := 0#32
  let v2088 : BitVec 1 := Scalar.cmpi .eq c32_i32_1692 c0_i32_1693
  let c1_i32_1694 : BitVec 32 := 1#32
  let v2089 : BitVec 32 := Scalar.select v2088 c1_i32_1694 c32_i32_1692
  let v2090 : BitVec 32 := Scalar.remsi v2087 v2089
  let c0_i32_1696 : BitVec 32 := 0#32
  let v2092 : BitVec 1 := Scalar.cmpi .slt v2090 c0_i32_1696
  let c0_i32_1697 : BitVec 32 := 0#32
  let v2093 : BitVec 1 := Scalar.cmpi .slt v2089 c0_i32_1697
  let v2094 : BitVec 1 := Scalar.xori v2092 v2093
  let c0_i32_1695 : BitVec 32 := 0#32
  let v2091 : BitVec 1 := Scalar.cmpi .ne v2090 c0_i32_1695
  let v2095 : BitVec 1 := Scalar.andi v2094 v2091
  let v2096 : BitVec 32 := Scalar.addi v2090 v2089
  let v2097 : BitVec 32 := Scalar.select v2095 v2096 v2090
  let c1_i32_1701 : BitVec 32 := 1#32
  let v2098 : BitVec 32 := Scalar.muli v2097 c1_i32_1701
  let v2099 : BitVec 32 := Scalar.addi c0_i32_1702 v2098
  v2099.toNat
def k0_dev72 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1705 : BitVec 32 := 10#32
  let v2106 : BitVec 32 := Scalar.addi v2 c10_i32_1705
  let c32_i32_1706 : BitVec 32 := 32#32
  let c0_i32_1707 : BitVec 32 := 0#32
  let v2107 : BitVec 1 := Scalar.cmpi .eq c32_i32_1706 c0_i32_1707
  let c1_i32_1708 : BitVec 32 := 1#32
  let v2108 : BitVec 32 := Scalar.select v2107 c1_i32_1708 c32_i32_1706
  let v2109 : BitVec 32 := Scalar.remsi v2106 v2108
  let c0_i32_1710 : BitVec 32 := 0#32
  let v2111 : BitVec 1 := Scalar.cmpi .slt v2109 c0_i32_1710
  let c0_i32_1711 : BitVec 32 := 0#32
  let v2112 : BitVec 1 := Scalar.cmpi .slt v2108 c0_i32_1711
  let v2113 : BitVec 1 := Scalar.xori v2111 v2112
  let c0_i32_1709 : BitVec 32 := 0#32
  let v2110 : BitVec 1 := Scalar.cmpi .ne v2109 c0_i32_1709
  let v2114 : BitVec 1 := Scalar.andi v2113 v2110
  let v2115 : BitVec 32 := Scalar.addi v2109 v2108
  let v2116 : BitVec 32 := Scalar.select v2114 v2115 v2109
  let c1_i32_1715 : BitVec 32 := 1#32
  let v2117 : BitVec 32 := Scalar.muli v2116 c1_i32_1715
  let v2118 : BitVec 32 := Scalar.addi c0_i32_1716 v2117
  v2118.toNat
def k0_dev73 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1719 : BitVec 32 := 11#32
  let v2125 : BitVec 32 := Scalar.addi v2 c11_i32_1719
  let c32_i32_1720 : BitVec 32 := 32#32
  let c0_i32_1721 : BitVec 32 := 0#32
  let v2126 : BitVec 1 := Scalar.cmpi .eq c32_i32_1720 c0_i32_1721
  let c1_i32_1722 : BitVec 32 := 1#32
  let v2127 : BitVec 32 := Scalar.select v2126 c1_i32_1722 c32_i32_1720
  let v2128 : BitVec 32 := Scalar.remsi v2125 v2127
  let c0_i32_1724 : BitVec 32 := 0#32
  let v2130 : BitVec 1 := Scalar.cmpi .slt v2128 c0_i32_1724
  let c0_i32_1725 : BitVec 32 := 0#32
  let v2131 : BitVec 1 := Scalar.cmpi .slt v2127 c0_i32_1725
  let v2132 : BitVec 1 := Scalar.xori v2130 v2131
  let c0_i32_1723 : BitVec 32 := 0#32
  let v2129 : BitVec 1 := Scalar.cmpi .ne v2128 c0_i32_1723
  let v2133 : BitVec 1 := Scalar.andi v2132 v2129
  let v2134 : BitVec 32 := Scalar.addi v2128 v2127
  let v2135 : BitVec 32 := Scalar.select v2133 v2134 v2128
  let c1_i32_1729 : BitVec 32 := 1#32
  let v2136 : BitVec 32 := Scalar.muli v2135 c1_i32_1729
  let v2137 : BitVec 32 := Scalar.addi c0_i32_1730 v2136
  v2137.toNat
def k0_dev74 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1733 : BitVec 32 := 12#32
  let v2144 : BitVec 32 := Scalar.addi v2 c12_i32_1733
  let c32_i32_1734 : BitVec 32 := 32#32
  let c0_i32_1735 : BitVec 32 := 0#32
  let v2145 : BitVec 1 := Scalar.cmpi .eq c32_i32_1734 c0_i32_1735
  let c1_i32_1736 : BitVec 32 := 1#32
  let v2146 : BitVec 32 := Scalar.select v2145 c1_i32_1736 c32_i32_1734
  let v2147 : BitVec 32 := Scalar.remsi v2144 v2146
  let c0_i32_1738 : BitVec 32 := 0#32
  let v2149 : BitVec 1 := Scalar.cmpi .slt v2147 c0_i32_1738
  let c0_i32_1739 : BitVec 32 := 0#32
  let v2150 : BitVec 1 := Scalar.cmpi .slt v2146 c0_i32_1739
  let v2151 : BitVec 1 := Scalar.xori v2149 v2150
  let c0_i32_1737 : BitVec 32 := 0#32
  let v2148 : BitVec 1 := Scalar.cmpi .ne v2147 c0_i32_1737
  let v2152 : BitVec 1 := Scalar.andi v2151 v2148
  let v2153 : BitVec 32 := Scalar.addi v2147 v2146
  let v2154 : BitVec 32 := Scalar.select v2152 v2153 v2147
  let c1_i32_1743 : BitVec 32 := 1#32
  let v2155 : BitVec 32 := Scalar.muli v2154 c1_i32_1743
  let v2156 : BitVec 32 := Scalar.addi c0_i32_1744 v2155
  v2156.toNat
def k0_dev75 (d0 : Dev nD) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1747 : BitVec 32 := 13#32
  let v2163 : BitVec 32 := Scalar.addi v2 c13_i32_1747
  let c32_i32_1748 : BitVec 32 := 32#32
  let c0_i32_1749 : BitVec 32 := 0#32
  let v2164 : BitVec 1 := Scalar.cmpi .eq c32_i32_1748 c0_i32_1749
  let c1_i32_1750 : BitVec 32 := 1#32
  let v2165 : BitVec 32 := Scalar.select v2164 c1_i32_1750 c32_i32_1748
  let v2166 : BitVec 32 := Scalar.remsi v2163 v2165
  let c0_i32_1752 : BitVec 32 := 0#32
  let v2168 : BitVec 1 := Scalar.cmpi .slt v2166 c0_i32_1752
  let c0_i32_1753 : BitVec 32 := 0#32
  let v2169 : BitVec 1 := Scalar.cmpi .slt v2165 c0_i32_1753
  let v2170 : BitVec 1 := Scalar.xori v2168 v2169
  let c0_i32_1751 : BitVec 32 := 0#32
  let v2167 : BitVec 1 := Scalar.cmpi .ne v2166 c0_i32_1751
  let v2171 : BitVec 1 := Scalar.andi v2170 v2167
  let v2172 : BitVec 32 := Scalar.addi v2166 v2165
  let v2173 : BitVec 32 := Scalar.select v2171 v2172 v2166
  let c1_i32_1757 : BitVec 32 := 1#32
  let v2174 : BitVec 32 := Scalar.muli v2173 c1_i32_1757
  let v2175 : BitVec 32 := Scalar.addi c0_i32_1758 v2174
  v2175.toNat
def k0_dev76 (d0 : Dev nD) : Nat :=
  let c0_i32_1772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1761 : BitVec 32 := 14#32
  let v2182 : BitVec 32 := Scalar.addi v2 c14_i32_1761
  let c32_i32_1762 : BitVec 32 := 32#32
  let c0_i32_1763 : BitVec 32 := 0#32
  let v2183 : BitVec 1 := Scalar.cmpi .eq c32_i32_1762 c0_i32_1763
  let c1_i32_1764 : BitVec 32 := 1#32
  let v2184 : BitVec 32 := Scalar.select v2183 c1_i32_1764 c32_i32_1762
  let v2185 : BitVec 32 := Scalar.remsi v2182 v2184
  let c0_i32_1766 : BitVec 32 := 0#32
  let v2187 : BitVec 1 := Scalar.cmpi .slt v2185 c0_i32_1766
  let c0_i32_1767 : BitVec 32 := 0#32
  let v2188 : BitVec 1 := Scalar.cmpi .slt v2184 c0_i32_1767
  let v2189 : BitVec 1 := Scalar.xori v2187 v2188
  let c0_i32_1765 : BitVec 32 := 0#32
  let v2186 : BitVec 1 := Scalar.cmpi .ne v2185 c0_i32_1765
  let v2190 : BitVec 1 := Scalar.andi v2189 v2186
  let v2191 : BitVec 32 := Scalar.addi v2185 v2184
  let v2192 : BitVec 32 := Scalar.select v2190 v2191 v2185
  let c1_i32_1771 : BitVec 32 := 1#32
  let v2193 : BitVec 32 := Scalar.muli v2192 c1_i32_1771
  let v2194 : BitVec 32 := Scalar.addi c0_i32_1772 v2193
  v2194.toNat
def k0_dev77 (d0 : Dev nD) : Nat :=
  let c0_i32_1786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1775 : BitVec 32 := 15#32
  let v2201 : BitVec 32 := Scalar.addi v2 c15_i32_1775
  let c32_i32_1776 : BitVec 32 := 32#32
  let c0_i32_1777 : BitVec 32 := 0#32
  let v2202 : BitVec 1 := Scalar.cmpi .eq c32_i32_1776 c0_i32_1777
  let c1_i32_1778 : BitVec 32 := 1#32
  let v2203 : BitVec 32 := Scalar.select v2202 c1_i32_1778 c32_i32_1776
  let v2204 : BitVec 32 := Scalar.remsi v2201 v2203
  let c0_i32_1780 : BitVec 32 := 0#32
  let v2206 : BitVec 1 := Scalar.cmpi .slt v2204 c0_i32_1780
  let c0_i32_1781 : BitVec 32 := 0#32
  let v2207 : BitVec 1 := Scalar.cmpi .slt v2203 c0_i32_1781
  let v2208 : BitVec 1 := Scalar.xori v2206 v2207
  let c0_i32_1779 : BitVec 32 := 0#32
  let v2205 : BitVec 1 := Scalar.cmpi .ne v2204 c0_i32_1779
  let v2209 : BitVec 1 := Scalar.andi v2208 v2205
  let v2210 : BitVec 32 := Scalar.addi v2204 v2203
  let v2211 : BitVec 32 := Scalar.select v2209 v2210 v2204
  let c1_i32_1785 : BitVec 32 := 1#32
  let v2212 : BitVec 32 := Scalar.muli v2211 c1_i32_1785
  let v2213 : BitVec 32 := Scalar.addi c0_i32_1786 v2212
  v2213.toNat
def k0_dev78 (d0 : Dev nD) : Nat :=
  let c0_i32_1800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1789 : BitVec 32 := 16#32
  let v2220 : BitVec 32 := Scalar.addi v2 c16_i32_1789
  let c32_i32_1790 : BitVec 32 := 32#32
  let c0_i32_1791 : BitVec 32 := 0#32
  let v2221 : BitVec 1 := Scalar.cmpi .eq c32_i32_1790 c0_i32_1791
  let c1_i32_1792 : BitVec 32 := 1#32
  let v2222 : BitVec 32 := Scalar.select v2221 c1_i32_1792 c32_i32_1790
  let v2223 : BitVec 32 := Scalar.remsi v2220 v2222
  let c0_i32_1794 : BitVec 32 := 0#32
  let v2225 : BitVec 1 := Scalar.cmpi .slt v2223 c0_i32_1794
  let c0_i32_1795 : BitVec 32 := 0#32
  let v2226 : BitVec 1 := Scalar.cmpi .slt v2222 c0_i32_1795
  let v2227 : BitVec 1 := Scalar.xori v2225 v2226
  let c0_i32_1793 : BitVec 32 := 0#32
  let v2224 : BitVec 1 := Scalar.cmpi .ne v2223 c0_i32_1793
  let v2228 : BitVec 1 := Scalar.andi v2227 v2224
  let v2229 : BitVec 32 := Scalar.addi v2223 v2222
  let v2230 : BitVec 32 := Scalar.select v2228 v2229 v2223
  let c1_i32_1799 : BitVec 32 := 1#32
  let v2231 : BitVec 32 := Scalar.muli v2230 c1_i32_1799
  let v2232 : BitVec 32 := Scalar.addi c0_i32_1800 v2231
  v2232.toNat
def k0_dev79 (d0 : Dev nD) : Nat :=
  let c0_i32_1814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1803 : BitVec 32 := 17#32
  let v2239 : BitVec 32 := Scalar.addi v2 c17_i32_1803
  let c32_i32_1804 : BitVec 32 := 32#32
  let c0_i32_1805 : BitVec 32 := 0#32
  let v2240 : BitVec 1 := Scalar.cmpi .eq c32_i32_1804 c0_i32_1805
  let c1_i32_1806 : BitVec 32 := 1#32
  let v2241 : BitVec 32 := Scalar.select v2240 c1_i32_1806 c32_i32_1804
  let v2242 : BitVec 32 := Scalar.remsi v2239 v2241
  let c0_i32_1808 : BitVec 32 := 0#32
  let v2244 : BitVec 1 := Scalar.cmpi .slt v2242 c0_i32_1808
  let c0_i32_1809 : BitVec 32 := 0#32
  let v2245 : BitVec 1 := Scalar.cmpi .slt v2241 c0_i32_1809
  let v2246 : BitVec 1 := Scalar.xori v2244 v2245
  let c0_i32_1807 : BitVec 32 := 0#32
  let v2243 : BitVec 1 := Scalar.cmpi .ne v2242 c0_i32_1807
  let v2247 : BitVec 1 := Scalar.andi v2246 v2243
  let v2248 : BitVec 32 := Scalar.addi v2242 v2241
  let v2249 : BitVec 32 := Scalar.select v2247 v2248 v2242
  let c1_i32_1813 : BitVec 32 := 1#32
  let v2250 : BitVec 32 := Scalar.muli v2249 c1_i32_1813
  let v2251 : BitVec 32 := Scalar.addi c0_i32_1814 v2250
  v2251.toNat
def k0_dev80 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1817 : BitVec 32 := 18#32
  let v2258 : BitVec 32 := Scalar.addi v2 c18_i32_1817
  let c32_i32_1818 : BitVec 32 := 32#32
  let c0_i32_1819 : BitVec 32 := 0#32
  let v2259 : BitVec 1 := Scalar.cmpi .eq c32_i32_1818 c0_i32_1819
  let c1_i32_1820 : BitVec 32 := 1#32
  let v2260 : BitVec 32 := Scalar.select v2259 c1_i32_1820 c32_i32_1818
  let v2261 : BitVec 32 := Scalar.remsi v2258 v2260
  let c0_i32_1822 : BitVec 32 := 0#32
  let v2263 : BitVec 1 := Scalar.cmpi .slt v2261 c0_i32_1822
  let c0_i32_1823 : BitVec 32 := 0#32
  let v2264 : BitVec 1 := Scalar.cmpi .slt v2260 c0_i32_1823
  let v2265 : BitVec 1 := Scalar.xori v2263 v2264
  let c0_i32_1821 : BitVec 32 := 0#32
  let v2262 : BitVec 1 := Scalar.cmpi .ne v2261 c0_i32_1821
  let v2266 : BitVec 1 := Scalar.andi v2265 v2262
  let v2267 : BitVec 32 := Scalar.addi v2261 v2260
  let v2268 : BitVec 32 := Scalar.select v2266 v2267 v2261
  let c1_i32_1827 : BitVec 32 := 1#32
  let v2269 : BitVec 32 := Scalar.muli v2268 c1_i32_1827
  let v2270 : BitVec 32 := Scalar.addi c0_i32_1828 v2269
  v2270.toNat
def k0_dev81 (d0 : Dev nD) : Nat :=
  let c0_i32_1842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1831 : BitVec 32 := 19#32
  let v2277 : BitVec 32 := Scalar.addi v2 c19_i32_1831
  let c32_i32_1832 : BitVec 32 := 32#32
  let c0_i32_1833 : BitVec 32 := 0#32
  let v2278 : BitVec 1 := Scalar.cmpi .eq c32_i32_1832 c0_i32_1833
  let c1_i32_1834 : BitVec 32 := 1#32
  let v2279 : BitVec 32 := Scalar.select v2278 c1_i32_1834 c32_i32_1832
  let v2280 : BitVec 32 := Scalar.remsi v2277 v2279
  let c0_i32_1836 : BitVec 32 := 0#32
  let v2282 : BitVec 1 := Scalar.cmpi .slt v2280 c0_i32_1836
  let c0_i32_1837 : BitVec 32 := 0#32
  let v2283 : BitVec 1 := Scalar.cmpi .slt v2279 c0_i32_1837
  let v2284 : BitVec 1 := Scalar.xori v2282 v2283
  let c0_i32_1835 : BitVec 32 := 0#32
  let v2281 : BitVec 1 := Scalar.cmpi .ne v2280 c0_i32_1835
  let v2285 : BitVec 1 := Scalar.andi v2284 v2281
  let v2286 : BitVec 32 := Scalar.addi v2280 v2279
  let v2287 : BitVec 32 := Scalar.select v2285 v2286 v2280
  let c1_i32_1841 : BitVec 32 := 1#32
  let v2288 : BitVec 32 := Scalar.muli v2287 c1_i32_1841
  let v2289 : BitVec 32 := Scalar.addi c0_i32_1842 v2288
  v2289.toNat
def k0_dev82 (d0 : Dev nD) : Nat :=
  let c0_i32_1856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1845 : BitVec 32 := 20#32
  let v2296 : BitVec 32 := Scalar.addi v2 c20_i32_1845
  let c32_i32_1846 : BitVec 32 := 32#32
  let c0_i32_1847 : BitVec 32 := 0#32
  let v2297 : BitVec 1 := Scalar.cmpi .eq c32_i32_1846 c0_i32_1847
  let c1_i32_1848 : BitVec 32 := 1#32
  let v2298 : BitVec 32 := Scalar.select v2297 c1_i32_1848 c32_i32_1846
  let v2299 : BitVec 32 := Scalar.remsi v2296 v2298
  let c0_i32_1850 : BitVec 32 := 0#32
  let v2301 : BitVec 1 := Scalar.cmpi .slt v2299 c0_i32_1850
  let c0_i32_1851 : BitVec 32 := 0#32
  let v2302 : BitVec 1 := Scalar.cmpi .slt v2298 c0_i32_1851
  let v2303 : BitVec 1 := Scalar.xori v2301 v2302
  let c0_i32_1849 : BitVec 32 := 0#32
  let v2300 : BitVec 1 := Scalar.cmpi .ne v2299 c0_i32_1849
  let v2304 : BitVec 1 := Scalar.andi v2303 v2300
  let v2305 : BitVec 32 := Scalar.addi v2299 v2298
  let v2306 : BitVec 32 := Scalar.select v2304 v2305 v2299
  let c1_i32_1855 : BitVec 32 := 1#32
  let v2307 : BitVec 32 := Scalar.muli v2306 c1_i32_1855
  let v2308 : BitVec 32 := Scalar.addi c0_i32_1856 v2307
  v2308.toNat
def k0_dev83 (d0 : Dev nD) : Nat :=
  let c0_i32_1870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1859 : BitVec 32 := 21#32
  let v2315 : BitVec 32 := Scalar.addi v2 c21_i32_1859
  let c32_i32_1860 : BitVec 32 := 32#32
  let c0_i32_1861 : BitVec 32 := 0#32
  let v2316 : BitVec 1 := Scalar.cmpi .eq c32_i32_1860 c0_i32_1861
  let c1_i32_1862 : BitVec 32 := 1#32
  let v2317 : BitVec 32 := Scalar.select v2316 c1_i32_1862 c32_i32_1860
  let v2318 : BitVec 32 := Scalar.remsi v2315 v2317
  let c0_i32_1864 : BitVec 32 := 0#32
  let v2320 : BitVec 1 := Scalar.cmpi .slt v2318 c0_i32_1864
  let c0_i32_1865 : BitVec 32 := 0#32
  let v2321 : BitVec 1 := Scalar.cmpi .slt v2317 c0_i32_1865
  let v2322 : BitVec 1 := Scalar.xori v2320 v2321
  let c0_i32_1863 : BitVec 32 := 0#32
  let v2319 : BitVec 1 := Scalar.cmpi .ne v2318 c0_i32_1863
  let v2323 : BitVec 1 := Scalar.andi v2322 v2319
  let v2324 : BitVec 32 := Scalar.addi v2318 v2317
  let v2325 : BitVec 32 := Scalar.select v2323 v2324 v2318
  let c1_i32_1869 : BitVec 32 := 1#32
  let v2326 : BitVec 32 := Scalar.muli v2325 c1_i32_1869
  let v2327 : BitVec 32 := Scalar.addi c0_i32_1870 v2326
  v2327.toNat
def k0_dev84 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1873 : BitVec 32 := 22#32
  let v2334 : BitVec 32 := Scalar.addi v2 c22_i32_1873
  let c32_i32_1874 : BitVec 32 := 32#32
  let c0_i32_1875 : BitVec 32 := 0#32
  let v2335 : BitVec 1 := Scalar.cmpi .eq c32_i32_1874 c0_i32_1875
  let c1_i32_1876 : BitVec 32 := 1#32
  let v2336 : BitVec 32 := Scalar.select v2335 c1_i32_1876 c32_i32_1874
  let v2337 : BitVec 32 := Scalar.remsi v2334 v2336
  let c0_i32_1878 : BitVec 32 := 0#32
  let v2339 : BitVec 1 := Scalar.cmpi .slt v2337 c0_i32_1878
  let c0_i32_1879 : BitVec 32 := 0#32
  let v2340 : BitVec 1 := Scalar.cmpi .slt v2336 c0_i32_1879
  let v2341 : BitVec 1 := Scalar.xori v2339 v2340
  let c0_i32_1877 : BitVec 32 := 0#32
  let v2338 : BitVec 1 := Scalar.cmpi .ne v2337 c0_i32_1877
  let v2342 : BitVec 1 := Scalar.andi v2341 v2338
  let v2343 : BitVec 32 := Scalar.addi v2337 v2336
  let v2344 : BitVec 32 := Scalar.select v2342 v2343 v2337
  let c1_i32_1883 : BitVec 32 := 1#32
  let v2345 : BitVec 32 := Scalar.muli v2344 c1_i32_1883
  let v2346 : BitVec 32 := Scalar.addi c0_i32_1884 v2345
  v2346.toNat
def k0_dev85 (d0 : Dev nD) : Nat :=
  let c0_i32_1898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1887 : BitVec 32 := 23#32
  let v2353 : BitVec 32 := Scalar.addi v2 c23_i32_1887
  let c32_i32_1888 : BitVec 32 := 32#32
  let c0_i32_1889 : BitVec 32 := 0#32
  let v2354 : BitVec 1 := Scalar.cmpi .eq c32_i32_1888 c0_i32_1889
  let c1_i32_1890 : BitVec 32 := 1#32
  let v2355 : BitVec 32 := Scalar.select v2354 c1_i32_1890 c32_i32_1888
  let v2356 : BitVec 32 := Scalar.remsi v2353 v2355
  let c0_i32_1892 : BitVec 32 := 0#32
  let v2358 : BitVec 1 := Scalar.cmpi .slt v2356 c0_i32_1892
  let c0_i32_1893 : BitVec 32 := 0#32
  let v2359 : BitVec 1 := Scalar.cmpi .slt v2355 c0_i32_1893
  let v2360 : BitVec 1 := Scalar.xori v2358 v2359
  let c0_i32_1891 : BitVec 32 := 0#32
  let v2357 : BitVec 1 := Scalar.cmpi .ne v2356 c0_i32_1891
  let v2361 : BitVec 1 := Scalar.andi v2360 v2357
  let v2362 : BitVec 32 := Scalar.addi v2356 v2355
  let v2363 : BitVec 32 := Scalar.select v2361 v2362 v2356
  let c1_i32_1897 : BitVec 32 := 1#32
  let v2364 : BitVec 32 := Scalar.muli v2363 c1_i32_1897
  let v2365 : BitVec 32 := Scalar.addi c0_i32_1898 v2364
  v2365.toNat
def k0_dev86 (d0 : Dev nD) : Nat :=
  let c0_i32_1912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1901 : BitVec 32 := 24#32
  let v2372 : BitVec 32 := Scalar.addi v2 c24_i32_1901
  let c32_i32_1902 : BitVec 32 := 32#32
  let c0_i32_1903 : BitVec 32 := 0#32
  let v2373 : BitVec 1 := Scalar.cmpi .eq c32_i32_1902 c0_i32_1903
  let c1_i32_1904 : BitVec 32 := 1#32
  let v2374 : BitVec 32 := Scalar.select v2373 c1_i32_1904 c32_i32_1902
  let v2375 : BitVec 32 := Scalar.remsi v2372 v2374
  let c0_i32_1906 : BitVec 32 := 0#32
  let v2377 : BitVec 1 := Scalar.cmpi .slt v2375 c0_i32_1906
  let c0_i32_1907 : BitVec 32 := 0#32
  let v2378 : BitVec 1 := Scalar.cmpi .slt v2374 c0_i32_1907
  let v2379 : BitVec 1 := Scalar.xori v2377 v2378
  let c0_i32_1905 : BitVec 32 := 0#32
  let v2376 : BitVec 1 := Scalar.cmpi .ne v2375 c0_i32_1905
  let v2380 : BitVec 1 := Scalar.andi v2379 v2376
  let v2381 : BitVec 32 := Scalar.addi v2375 v2374
  let v2382 : BitVec 32 := Scalar.select v2380 v2381 v2375
  let c1_i32_1911 : BitVec 32 := 1#32
  let v2383 : BitVec 32 := Scalar.muli v2382 c1_i32_1911
  let v2384 : BitVec 32 := Scalar.addi c0_i32_1912 v2383
  v2384.toNat
def k0_dev87 (d0 : Dev nD) : Nat :=
  let c0_i32_1926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1915 : BitVec 32 := 25#32
  let v2391 : BitVec 32 := Scalar.addi v2 c25_i32_1915
  let c32_i32_1916 : BitVec 32 := 32#32
  let c0_i32_1917 : BitVec 32 := 0#32
  let v2392 : BitVec 1 := Scalar.cmpi .eq c32_i32_1916 c0_i32_1917
  let c1_i32_1918 : BitVec 32 := 1#32
  let v2393 : BitVec 32 := Scalar.select v2392 c1_i32_1918 c32_i32_1916
  let v2394 : BitVec 32 := Scalar.remsi v2391 v2393
  let c0_i32_1920 : BitVec 32 := 0#32
  let v2396 : BitVec 1 := Scalar.cmpi .slt v2394 c0_i32_1920
  let c0_i32_1921 : BitVec 32 := 0#32
  let v2397 : BitVec 1 := Scalar.cmpi .slt v2393 c0_i32_1921
  let v2398 : BitVec 1 := Scalar.xori v2396 v2397
  let c0_i32_1919 : BitVec 32 := 0#32
  let v2395 : BitVec 1 := Scalar.cmpi .ne v2394 c0_i32_1919
  let v2399 : BitVec 1 := Scalar.andi v2398 v2395
  let v2400 : BitVec 32 := Scalar.addi v2394 v2393
  let v2401 : BitVec 32 := Scalar.select v2399 v2400 v2394
  let c1_i32_1925 : BitVec 32 := 1#32
  let v2402 : BitVec 32 := Scalar.muli v2401 c1_i32_1925
  let v2403 : BitVec 32 := Scalar.addi c0_i32_1926 v2402
  v2403.toNat
def k0_dev88 (d0 : Dev nD) : Nat :=
  let c0_i32_1940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1929 : BitVec 32 := 26#32
  let v2410 : BitVec 32 := Scalar.addi v2 c26_i32_1929
  let c32_i32_1930 : BitVec 32 := 32#32
  let c0_i32_1931 : BitVec 32 := 0#32
  let v2411 : BitVec 1 := Scalar.cmpi .eq c32_i32_1930 c0_i32_1931
  let c1_i32_1932 : BitVec 32 := 1#32
  let v2412 : BitVec 32 := Scalar.select v2411 c1_i32_1932 c32_i32_1930
  let v2413 : BitVec 32 := Scalar.remsi v2410 v2412
  let c0_i32_1934 : BitVec 32 := 0#32
  let v2415 : BitVec 1 := Scalar.cmpi .slt v2413 c0_i32_1934
  let c0_i32_1935 : BitVec 32 := 0#32
  let v2416 : BitVec 1 := Scalar.cmpi .slt v2412 c0_i32_1935
  let v2417 : BitVec 1 := Scalar.xori v2415 v2416
  let c0_i32_1933 : BitVec 32 := 0#32
  let v2414 : BitVec 1 := Scalar.cmpi .ne v2413 c0_i32_1933
  let v2418 : BitVec 1 := Scalar.andi v2417 v2414
  let v2419 : BitVec 32 := Scalar.addi v2413 v2412
  let v2420 : BitVec 32 := Scalar.select v2418 v2419 v2413
  let c1_i32_1939 : BitVec 32 := 1#32
  let v2421 : BitVec 32 := Scalar.muli v2420 c1_i32_1939
  let v2422 : BitVec 32 := Scalar.addi c0_i32_1940 v2421
  v2422.toNat
def k0_dev89 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1943 : BitVec 32 := 27#32
  let v2429 : BitVec 32 := Scalar.addi v2 c27_i32_1943
  let c32_i32_1944 : BitVec 32 := 32#32
  let c0_i32_1945 : BitVec 32 := 0#32
  let v2430 : BitVec 1 := Scalar.cmpi .eq c32_i32_1944 c0_i32_1945
  let c1_i32_1946 : BitVec 32 := 1#32
  let v2431 : BitVec 32 := Scalar.select v2430 c1_i32_1946 c32_i32_1944
  let v2432 : BitVec 32 := Scalar.remsi v2429 v2431
  let c0_i32_1948 : BitVec 32 := 0#32
  let v2434 : BitVec 1 := Scalar.cmpi .slt v2432 c0_i32_1948
  let c0_i32_1949 : BitVec 32 := 0#32
  let v2435 : BitVec 1 := Scalar.cmpi .slt v2431 c0_i32_1949
  let v2436 : BitVec 1 := Scalar.xori v2434 v2435
  let c0_i32_1947 : BitVec 32 := 0#32
  let v2433 : BitVec 1 := Scalar.cmpi .ne v2432 c0_i32_1947
  let v2437 : BitVec 1 := Scalar.andi v2436 v2433
  let v2438 : BitVec 32 := Scalar.addi v2432 v2431
  let v2439 : BitVec 32 := Scalar.select v2437 v2438 v2432
  let c1_i32_1953 : BitVec 32 := 1#32
  let v2440 : BitVec 32 := Scalar.muli v2439 c1_i32_1953
  let v2441 : BitVec 32 := Scalar.addi c0_i32_1954 v2440
  v2441.toNat
def k0_dev90 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1957 : BitVec 32 := 28#32
  let v2448 : BitVec 32 := Scalar.addi v2 c28_i32_1957
  let c32_i32_1958 : BitVec 32 := 32#32
  let c0_i32_1959 : BitVec 32 := 0#32
  let v2449 : BitVec 1 := Scalar.cmpi .eq c32_i32_1958 c0_i32_1959
  let c1_i32_1960 : BitVec 32 := 1#32
  let v2450 : BitVec 32 := Scalar.select v2449 c1_i32_1960 c32_i32_1958
  let v2451 : BitVec 32 := Scalar.remsi v2448 v2450
  let c0_i32_1962 : BitVec 32 := 0#32
  let v2453 : BitVec 1 := Scalar.cmpi .slt v2451 c0_i32_1962
  let c0_i32_1963 : BitVec 32 := 0#32
  let v2454 : BitVec 1 := Scalar.cmpi .slt v2450 c0_i32_1963
  let v2455 : BitVec 1 := Scalar.xori v2453 v2454
  let c0_i32_1961 : BitVec 32 := 0#32
  let v2452 : BitVec 1 := Scalar.cmpi .ne v2451 c0_i32_1961
  let v2456 : BitVec 1 := Scalar.andi v2455 v2452
  let v2457 : BitVec 32 := Scalar.addi v2451 v2450
  let v2458 : BitVec 32 := Scalar.select v2456 v2457 v2451
  let c1_i32_1967 : BitVec 32 := 1#32
  let v2459 : BitVec 32 := Scalar.muli v2458 c1_i32_1967
  let v2460 : BitVec 32 := Scalar.addi c0_i32_1968 v2459
  v2460.toNat
def k0_dev91 (d0 : Dev nD) : Nat :=
  let c0_i32_1982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1971 : BitVec 32 := 29#32
  let v2467 : BitVec 32 := Scalar.addi v2 c29_i32_1971
  let c32_i32_1972 : BitVec 32 := 32#32
  let c0_i32_1973 : BitVec 32 := 0#32
  let v2468 : BitVec 1 := Scalar.cmpi .eq c32_i32_1972 c0_i32_1973
  let c1_i32_1974 : BitVec 32 := 1#32
  let v2469 : BitVec 32 := Scalar.select v2468 c1_i32_1974 c32_i32_1972
  let v2470 : BitVec 32 := Scalar.remsi v2467 v2469
  let c0_i32_1976 : BitVec 32 := 0#32
  let v2472 : BitVec 1 := Scalar.cmpi .slt v2470 c0_i32_1976
  let c0_i32_1977 : BitVec 32 := 0#32
  let v2473 : BitVec 1 := Scalar.cmpi .slt v2469 c0_i32_1977
  let v2474 : BitVec 1 := Scalar.xori v2472 v2473
  let c0_i32_1975 : BitVec 32 := 0#32
  let v2471 : BitVec 1 := Scalar.cmpi .ne v2470 c0_i32_1975
  let v2475 : BitVec 1 := Scalar.andi v2474 v2471
  let v2476 : BitVec 32 := Scalar.addi v2470 v2469
  let v2477 : BitVec 32 := Scalar.select v2475 v2476 v2470
  let c1_i32_1981 : BitVec 32 := 1#32
  let v2478 : BitVec 32 := Scalar.muli v2477 c1_i32_1981
  let v2479 : BitVec 32 := Scalar.addi c0_i32_1982 v2478
  v2479.toNat
def k0_dev92 (d0 : Dev nD) : Nat :=
  let c0_i32_1996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1985 : BitVec 32 := 30#32
  let v2486 : BitVec 32 := Scalar.addi v2 c30_i32_1985
  let c32_i32_1986 : BitVec 32 := 32#32
  let c0_i32_1987 : BitVec 32 := 0#32
  let v2487 : BitVec 1 := Scalar.cmpi .eq c32_i32_1986 c0_i32_1987
  let c1_i32_1988 : BitVec 32 := 1#32
  let v2488 : BitVec 32 := Scalar.select v2487 c1_i32_1988 c32_i32_1986
  let v2489 : BitVec 32 := Scalar.remsi v2486 v2488
  let c0_i32_1990 : BitVec 32 := 0#32
  let v2491 : BitVec 1 := Scalar.cmpi .slt v2489 c0_i32_1990
  let c0_i32_1991 : BitVec 32 := 0#32
  let v2492 : BitVec 1 := Scalar.cmpi .slt v2488 c0_i32_1991
  let v2493 : BitVec 1 := Scalar.xori v2491 v2492
  let c0_i32_1989 : BitVec 32 := 0#32
  let v2490 : BitVec 1 := Scalar.cmpi .ne v2489 c0_i32_1989
  let v2494 : BitVec 1 := Scalar.andi v2493 v2490
  let v2495 : BitVec 32 := Scalar.addi v2489 v2488
  let v2496 : BitVec 32 := Scalar.select v2494 v2495 v2489
  let c1_i32_1995 : BitVec 32 := 1#32
  let v2497 : BitVec 32 := Scalar.muli v2496 c1_i32_1995
  let v2498 : BitVec 32 := Scalar.addi c0_i32_1996 v2497
  v2498.toNat
def k0_dev93 (d0 : Dev nD) : Nat :=
  let c0_i32_2010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1999 : BitVec 32 := 31#32
  let v2505 : BitVec 32 := Scalar.addi v2 c31_i32_1999
  let c32_i32_2000 : BitVec 32 := 32#32
  let c0_i32_2001 : BitVec 32 := 0#32
  let v2506 : BitVec 1 := Scalar.cmpi .eq c32_i32_2000 c0_i32_2001
  let c1_i32_2002 : BitVec 32 := 1#32
  let v2507 : BitVec 32 := Scalar.select v2506 c1_i32_2002 c32_i32_2000
  let v2508 : BitVec 32 := Scalar.remsi v2505 v2507
  let c0_i32_2004 : BitVec 32 := 0#32
  let v2510 : BitVec 1 := Scalar.cmpi .slt v2508 c0_i32_2004
  let c0_i32_2005 : BitVec 32 := 0#32
  let v2511 : BitVec 1 := Scalar.cmpi .slt v2507 c0_i32_2005
  let v2512 : BitVec 1 := Scalar.xori v2510 v2511
  let c0_i32_2003 : BitVec 32 := 0#32
  let v2509 : BitVec 1 := Scalar.cmpi .ne v2508 c0_i32_2003
  let v2513 : BitVec 1 := Scalar.andi v2512 v2509
  let v2514 : BitVec 32 := Scalar.addi v2508 v2507
  let v2515 : BitVec 32 := Scalar.select v2513 v2514 v2508
  let c1_i32_2009 : BitVec 32 := 1#32
  let v2516 : BitVec 32 := Scalar.muli v2515 c1_i32_2009
  let v2517 : BitVec 32 := Scalar.addi c0_i32_2010 v2516
  v2517.toNat
def k0_off5 (d0 : Dev nD) (c1_i32_2023 : BitVec 32) : Fin 3 → Nat :=
  let c0_2034 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2532 : BitVec 32 := Scalar.subi v2 c1_i32_2023
  let c32_i32_2024 : BitVec 32 := 32#32
  let c0_i32_2025 : BitVec 32 := 0#32
  let v2533 : BitVec 1 := Scalar.cmpi .eq c32_i32_2024 c0_i32_2025
  let c1_i32_2026 : BitVec 32 := 1#32
  let v2534 : BitVec 32 := Scalar.select v2533 c1_i32_2026 c32_i32_2024
  let v2535 : BitVec 32 := Scalar.remsi v2532 v2534
  let c0_i32_2028 : BitVec 32 := 0#32
  let v2537 : BitVec 1 := Scalar.cmpi .slt v2535 c0_i32_2028
  let c0_i32_2029 : BitVec 32 := 0#32
  let v2538 : BitVec 1 := Scalar.cmpi .slt v2534 c0_i32_2029
  let v2539 : BitVec 1 := Scalar.xori v2537 v2538
  let c0_i32_2027 : BitVec 32 := 0#32
  let v2536 : BitVec 1 := Scalar.cmpi .ne v2535 c0_i32_2027
  let v2540 : BitVec 1 := Scalar.andi v2539 v2536
  let v2541 : BitVec 32 := Scalar.addi v2535 v2534
  let v2542 : BitVec 32 := Scalar.select v2540 v2541 v2535
  let c32_i32_2033 : BitVec 32 := 32#32
  let v2546 : BitVec 32 := Scalar.muli v2542 c32_i32_2033
  let v2547 : Index := Scalar.indexCast v2546
  let c0_2035 : Index := 0#32
  ![0, v2547.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x256x1024x1024, .f32⟩
  | .hbm, ⟨85, _⟩ => ⟨S_, .f32⟩
  | .hbm, ⟨86, _⟩ => ⟨S1x256x1024x1024, .f32⟩
  | .hbm, ⟨87, _⟩ => ⟨S1x256x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x256x1024x1024, .i1⟩
  | .hbm, ⟨92, _⟩ => ⟨S1x256x1024x1024, .f32⟩
  | .hbm, ⟨93, _⟩ => ⟨S1x256x1024x1024, .f32⟩
  | .hbm, ⟨94, _⟩ => ⟨S_, .f32⟩
  | .hbm, ⟨95, _⟩ => ⟨S1x256x1024, .f32⟩
  | .hbm, ⟨96, _⟩ => ⟨S1x256x1024x1, .f32⟩
  | .hbm, ⟨97, _⟩ => ⟨S1x256x1024x1024, .f32⟩
  | .hbm, ⟨98, _⟩ => ⟨S1x256x1024x1024, .f32⟩
  | .hbm, ⟨99, _⟩ => ⟨S1x256x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x256x1024, .f32⟩
  | .hbm, ⟨105, _⟩ => ⟨S1x256x1024x1, .f32⟩
  | .hbm, ⟨106, _⟩ => ⟨S_, .f32⟩
  | .hbm, ⟨107, _⟩ => ⟨S_, .f32⟩
  | .hbm, ⟨108, _⟩ => ⟨S1x256x1024x1, .i1⟩
  | .hbm, ⟨109, _⟩ => ⟨S1x256x1024x1, .f32⟩
  | .hbm, ⟨110, _⟩ => ⟨S1x256x1024x1, .f32⟩
  | .hbm, ⟨111, _⟩ => ⟨S1x256x1024x1024, .f32⟩
  | .hbm, ⟨112, _⟩ => ⟨S1x256x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x256x1024x1024, .i1⟩
  | .hbm, ⟨117, _⟩ => ⟨S1x256x1024x1024, .f32⟩
  | .hbm, ⟨118, _⟩ => ⟨S1x256x1024x1024, .f32⟩
  | .hbm, ⟨119, _⟩ => ⟨S1x256x128x1024, .f32⟩
  | .hbm, ⟨120, _⟩ => ⟨S1x1024x256x128, .f32⟩
  | .hbm, ⟨121, _⟩ => ⟨S1x1024x32768, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Prog.lean ====
/-
# The kernel's body as loops

The printed body is unrolled: eight heads, then six stretches of thirty-one steps each, one per other device. Here the
same body is written with recursion over the heads and over the steps, and `body_eq` says that the two are one program
(it holds by unfolding). Everything proved about the body is then proved once per kind of step.
-/
module

public import proofs.«01_k».proof.Proof.Gen.KernelIdeal
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL.Sem

variable {F : FTy → Type} [FloatOps F]

/-! ## The buffers -/

abbrev xM : Memref sig .tc .vmem S1x1024x1024 .f32 := Memref.whole cc0_stg0_0
abbrev wqM : Memref sig .tc .vmem S1024x1024 .f32 := Memref.whole cc0_stg1_0
abbrev kM : Memref sig .tc .hbm S1x1024x256x128 .f32 := Memref.whole main_arg2
abbrev vM : Memref sig .tc .hbm S1x1024x256x128 .f32 := Memref.whole main_arg3
abbrev woM : Memref sig .tc .vmem S1024x1024 .f32 := Memref.whole cc0_stg2_0
abbrev outM : Memref sig .tc .vmem S1x1024x1024 .f32 := Memref.whole cc0_stg3_0
abbrev kvM : Memref sig .tc .vmem S2x1024x8x128 .f32 := Memref.whole cc0_scratch0
abbrev qM : Memref sig .tc .vmem S1024x1024 .bf16 := Memref.whole cc0_scratch1
abbrev ctxM : Memref sig .tc .vmem S1024x1024 .bf16 := Memref.whole cc0_scratch2
abbrev pfM : Memref sig .tc .vmem S1024x1024 .f32 := Memref.whole cc0_scratch3
abbrev pbM : Memref sig .tc .vmem S1024x1024 .bf16 := Memref.whole cc0_scratch4
abbrev agM : Memref sig .tc .vmem S32x1024 .bf16 := Memref.whole cc0_scratch5
abbrev rsB : Memref sig .tc .vmem S31x32x1024 .bf16 := Memref.whole cc0_scratch6
abbrev agB : Memref sig .tc .vmem S31x32x1024 .bf16 := Memref.whole cc0_scratch7

/-! ## Offsets and semaphores of a step -/

theorem sem_inb (r : Fin 31) : ∀ a, (![r.val] : Fin 1 → Nat) a + S1.size a ≤ S31.size a := by revert r; decide
theorem slot_inb (r : Fin 31) : ∀ a, (![r.val, 0, 0] : Fin 3 → Nat) a + S1x32x1024.size a ≤ S31x32x1024.size a := by revert r; decide
theorem kv_inb (s : Fin 2) : ∀ a, (![s.val, 0, 0, 0] : Fin 4 → Nat) a + S1x1024x8x128.size a ≤ S2x1024x8x128.size a := by revert s; decide
theorem semL_inb (s : Fin 2) : ∀ a, (![s.val] : Fin 1 → Nat) a + S1.size a ≤ S2.size a := by revert s; decide
theorem head_inb (h : Fin 8) : ∀ a, (![0, h.val * 128] : Fin 2 → Nat) a + S1024x128.size a ≤ S1024x1024.size a := by revert h; decide
theorem kvh_inb (s : Fin 2) (h : Fin 8) : ∀ a, (![s.val, 0, h.val, 0] : Fin 4 → Nat) a + S1x1024x1x128.size a ≤ S2x1024x8x128.size a := by
  revert s h; decide

theorem slot_words (r : Fin 31) : (Rect.unit (s := S31x32x1024) ![r.val, 0, 0] S1x32x1024.size (slot_inb r)).WholeWords (EltTy.packing .bf16) := by
  revert r; decide +kernel
theorem head_packed (h : Fin 8) : (Rect.unit (s := S1024x1024) ![0, h.val * 128] S1024x128.size (head_inb h)).PackedRows (EltTy.packing .bf16) := by
  revert h; decide +kernel

/-- The receive slot `r` of a buffer of thirty-one slots. -/
abbrev slot (b : Memref sig .tc .vmem S31x32x1024 .bf16) (r : Fin 31) : Memref sig .tc .vmem S32x1024 .bf16 :=
  (b.slice (Rect.unit (s := S31x32x1024) ![r.val, 0, 0] S1x32x1024.size (slot_inb r)) (fun _ => rfl)).squeeze S32x1024 squeezes_S1x32x1024_S32x1024
theorem slot_word (b : Memref sig .tc .vmem S31x32x1024 .bf16) (hb : b.IsWhole) (r : Fin 31) : (slot b r).view.WordExact :=
  (hb.wordExact_slice rfl _ (slot_words r)).reshape _ _

/-- The rows of the partial product step `r` sends. -/
abbrev srcM (c : Dev nD) (r : Fin 31) : Memref sig .tc .vmem S32x1024 .bf16 :=
  pbM.slice (Rect.unit (s := S1024x1024) (k0_off2 c (BitVec.ofNat 32 (1 + r.val))) S32x1024.size (k0_off2_inb c r)) (fun _ => rfl)
theorem srcM_word (c : Dev nD) (r : Fin 31) : (srcM c r).view.WordExact :=
  (Memref.isWhole_whole cc0_scratch4).wordExact_slice rfl _ (k0_off2_wordsbf16 c r)

/-- The semaphore of step `r` in an array of thirty-one. -/
abbrev semAt (a : DmaSems sig S31) (r : Fin 31) : DmaSem sig :=
  ((a.slice (Rect.unit (s := S31) ![r.val] S1.size (sem_inb r))).squeeze S_ squeezes_S1_S_).sem
abbrev semL (s : Fin 2) : DmaSem sig :=
  ((cc0_scratch8.slice (Rect.unit (s := S2) ![s.val] S1.size (semL_inb s))).squeeze S_ squeezes_S1_S_).sem
abbrev barS : Sem sig := (SemArray.scalar (sig.barrier 0 rfl) : Sems sig S_).sem

/-- The device each step of the handshake, of the reduce-scatter and of the all-gather addresses. -/
def bDev (c : Dev nD) : Fin 31 → Dev nD := ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
def rsDev (c : Dev nD) : Fin 31 → Dev nD := ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]
def agDev (c : Dev nD) : Fin 31 → Dev nD := ![⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩, ⟨k0_dev76 c, k0_dev76_lt c⟩, ⟨k0_dev77 c, k0_dev77_lt c⟩, ⟨k0_dev78 c, k0_dev78_lt c⟩, ⟨k0_dev79 c, k0_dev79_lt c⟩, ⟨k0_dev80 c, k0_dev80_lt c⟩, ⟨k0_dev81 c, k0_dev81_lt c⟩, ⟨k0_dev82 c, k0_dev82_lt c⟩, ⟨k0_dev83 c, k0_dev83_lt c⟩, ⟨k0_dev84 c, k0_dev84_lt c⟩, ⟨k0_dev85 c, k0_dev85_lt c⟩, ⟨k0_dev86 c, k0_dev86_lt c⟩, ⟨k0_dev87 c, k0_dev87_lt c⟩, ⟨k0_dev88 c, k0_dev88_lt c⟩, ⟨k0_dev89 c, k0_dev89_lt c⟩, ⟨k0_dev90 c, k0_dev90_lt c⟩, ⟨k0_dev91 c, k0_dev91_lt c⟩, ⟨k0_dev92 c, k0_dev92_lt c⟩, ⟨k0_dev93 c, k0_dev93_lt c⟩]

/-- The slot `s` of the buffer of keys and values, and the eight heads of the argument it is filled with. -/
abbrev kvDst (s : Fin 2) : Memref sig .tc .vmem S1024x8x128 .f32 :=
  (kvM.slice (Rect.unit (s := S2x1024x8x128) ![s.val, 0, 0, 0] S1x1024x8x128.size (kv_inb s)) (fun _ => rfl)).squeeze S1024x8x128 squeezes_S1x1024x8x128_S1024x8x128
abbrev kvSrc (b : Memref sig .tc .hbm S1x1024x256x128 .f32) (c : Dev nD) : Memref sig .tc .hbm S1024x8x128 .f32 :=
  (b.slice (Rect.unit (s := S1x1024x256x128) (k0_off1 c) S1x1024x8x128.size (k0_off1_inb c)) (fun _ => rfl)).squeeze S1024x8x128 squeezes_S1x1024x8x128_S1024x8x128

/-! ## The computations between the loads -/

/-- The block mask. -/
def mask : IVec S1024x1024 1 :=
  have v39 : IVec S1024x1024 32 := iota .tc S1024x1024 32 [0] iota_S1024x1024_d0_w32
  let c64_i32 : BitVec 32 := 64#32
  have v40 : IVec S1024x1024 32 := broadcast S1024x1024 c64_i32
  have v41 : IVec S1024x1024 32 := divsi v39 v40
  let c0_i32_37 : BitVec 32 := 0#32
  have v42 : IVec S1024x1024 32 := broadcast S1024x1024 c0_i32_37
  have v43 : IVec S1024x1024 1 := cmpi .sgt v39 v42
  have v44 : IVec S1024x1024 32 := extui 32 v43 natLt_1_32
  let c0_i32_38 : BitVec 32 := 0#32
  have v45 : IVec S1024x1024 32 := broadcast S1024x1024 c0_i32_38
  have v46 : IVec S1024x1024 1 := cmpi .slt v39 v45
  have v47 : IVec S1024x1024 32 := extui 32 v46 natLt_1_32
  have v48 : IVec S1024x1024 32 := subi v44 v47
  let c0_i32_39 : BitVec 32 := 0#32
  let v49 : BitVec 1 := Scalar.cmpi .sgt c64_i32 c0_i32_39
  let v50 : BitVec 32 := Scalar.extui v49
  let c0_i32_40 : BitVec 32 := 0#32
  let v51 : BitVec 1 := Scalar.cmpi .slt c64_i32 c0_i32_40
  let v52 : BitVec 32 := Scalar.extui v51
  let v53 : BitVec 32 := Scalar.subi v50 v52
  have v54 : IVec S1024x1024 32 := broadcast S1024x1024 v53
  have v55 : IVec S1024x1024 1 := cmpi .ne v48 v54
  have v56 : IVec S1024x1024 32 := broadcast S1024x1024 c64_i32
  have v57 : IVec S1024x1024 32 := remsi v39 v56
  let c0_i32_41 : BitVec 32 := 0#32
  have v58 : IVec S1024x1024 32 := broadcast S1024x1024 c0_i32_41
  have v59 : IVec S1024x1024 1 := cmpi .ne v57 v58
  have v60 : IVec S1024x1024 1 := andi v55 v59
  let c1_i32_42 : BitVec 32 := 1#32
  have v61 : IVec S1024x1024 32 := broadcast S1024x1024 c1_i32_42
  have v62 : IVec S1024x1024 32 := subi v41 v61
  have v63 : IVec S1024x1024 32 := select v60 v62 v41
  have v64 : IVec S1024x1024 32 := iota .tc S1024x1024 32 [1] iota_S1024x1024_d1_w32
  let c64_i32_43 : BitVec 32 := 64#32
  have v65 : IVec S1024x1024 32 := broadcast S1024x1024 c64_i32_43
  have v66 : IVec S1024x1024 32 := divsi v64 v65
  let c0_i32_44 : BitVec 32 := 0#32
  have v67 : IVec S1024x1024 32 := broadcast S1024x1024 c0_i32_44
  have v68 : IVec S1024x1024 1 := cmpi .sgt v64 v67
  have v69 : IVec S1024x1024 32 := extui 32 v68 natLt_1_32
  let c0_i32_45 : BitVec 32 := 0#32
  have v70 : IVec S1024x1024 32 := broadcast S1024x1024 c0_i32_45
  have v71 : IVec S1024x1024 1 := cmpi .slt v64 v70
  have v72 : IVec S1024x1024 32 := extui 32 v71 natLt_1_32
  have v73 : IVec S1024x1024 32 := subi v69 v72
  let c0_i32_46 : BitVec 32 := 0#32
  let v74 : BitVec 1 := Scalar.cmpi .sgt c64_i32_43 c0_i32_46
  let v75 : BitVec 32 := Scalar.extui v74
  let c0_i32_47 : BitVec 32 := 0#32
  let v76 : BitVec 1 := Scalar.cmpi .slt c64_i32_43 c0_i32_47
  let v77 : BitVec 32 := Scalar.extui v76
  let v78 : BitVec 32 := Scalar.subi v75 v77
  have v79 : IVec S1024x1024 32 := broadcast S1024x1024 v78
  have v80 : IVec S1024x1024 1 := cmpi .ne v73 v79
  have v81 : IVec S1024x1024 32 := broadcast S1024x1024 c64_i32_43
  have v82 : IVec S1024x1024 32 := remsi v64 v81
  let c0_i32_48 : BitVec 32 := 0#32
  have v83 : IVec S1024x1024 32 := broadcast S1024x1024 c0_i32_48
  have v84 : IVec S1024x1024 1 := cmpi .ne v82 v83
  have v85 : IVec S1024x1024 1 := andi v80 v84
  let c1_i32_49 : BitVec 32 := 1#32
  have v86 : IVec S1024x1024 32 := broadcast S1024x1024 c1_i32_49
  have v87 : IVec S1024x1024 32 := subi v66 v86
  have v88 : IVec S1024x1024 32 := select v85 v87 v66
  have v89 : IVec S1024x1024 1 := cmpi .eq v63 v88
  let c0_i32_50 : BitVec 32 := 0#32
  have v90 : IVec S1024x1024 32 := broadcast S1024x1024 c0_i32_50
  have v91 : IVec S1024x1024 1 := cmpi .eq v88 v90
  have v92 : IVec S1024x1024 1 := ori v89 v91
  have v93 : IVec S1024x1024 32 := addi v63 v88
  let c3_i32 : BitVec 32 := 3#32
  let c0_i32_51 : BitVec 32 := 0#32
  let v94 : BitVec 1 := Scalar.cmpi .eq c3_i32 c0_i32_51
  let c1_i32_52 : BitVec 32 := 1#32
  let v95 : BitVec 32 := Scalar.select v94 c1_i32_52 c3_i32
  have v96 : IVec S1024x1024 32 := broadcast S1024x1024 v95
  have v97 : IVec S1024x1024 32 := remsi v93 v96
  let c0_i32_53 : BitVec 32 := 0#32
  have v98 : IVec S1024x1024 32 := broadcast S1024x1024 c0_i32_53
  have v99 : IVec S1024x1024 1 := cmpi .ne v97 v98
  let c0_i32_54 : BitVec 32 := 0#32
  have v100 : IVec S1024x1024 32 := broadcast S1024x1024 c0_i32_54
  have v101 : IVec S1024x1024 1 := cmpi .slt v97 v100
  let c0_i32_55 : BitVec 32 := 0#32
  let v102 : BitVec 1 := Scalar.cmpi .slt v95 c0_i32_55
  have v103 : IVec S1024x1024 1 := broadcast S1024x1024 v102
  have v104 : IVec S1024x1024 1 := broadcastTo S1024x1024 v103 broadcasts_S1024x1024_S1024x1024
  have v105 : IVec S1024x1024 1 := xori v101 v104
  have v106 : IVec S1024x1024 1 := andi v105 v99
  have v107 : IVec S1024x1024 32 := broadcast S1024x1024 v95
  have v108 : IVec S1024x1024 32 := addi v97 v107
  have v109 : IVec S1024x1024 32 := select v106 v108 v97
  let c0_i32_56 : BitVec 32 := 0#32
  have v110 : IVec S1024x1024 32 := broadcast S1024x1024 c0_i32_56
  have v111 : IVec S1024x1024 1 := cmpi .eq v109 v110
  have v112 : IVec S1024x1024 1 := ori v92 v111
  v112

/-- The projection of the queries. -/
def qProj (v16 : Vec F S1x1024x1024 .f32) (v19 : Vec F S1024x1024 .f32) : FVec F S1024x1024 .bf16 :=
  have v17 : FVec F S1024x1024 .f32 := shapeCast S1024x1024 v16 shapeCasts_S1x1024x1024_S1024x1024
  have v18 : FVec F S1024x1024 .bf16 := truncf .bf16 v17 bitsLt_bf16_f32
  have v20 : FVec F S1024x1024 .f32 := shapeCast S1024x1024 v19 shapeCasts_S1024x1024_S1024x1024
  have v21 : FVec F S1024x1024 .bf16 := truncf .bf16 v20 bitsLt_bf16_f32
  have cst : FVec F S1024x1024 .f32 := constant S1024x1024 .f32 0x00000000#32
  have v22 : FVec F S1024x1024 .f32 := matmul dot_S1024x1024_S1024x1024_S1024x1024_1_0_0_1_n_n none v18 v21 cst
  have v23 : FVec F S1024x1024 .bf16 := truncf .bf16 v22 bitsLt_bf16_f32
  v23

/-- One head: scores, mask, softmax, weighted values. -/
def headF (v112 : IVec S1024x1024 1) (v113 : Vec F S1024x128 .bf16) (v114 : Vec F S1x1024x1x128 .f32) (v117 : Vec F S1x1024x1x128 .f32) : FVec F S1024x128 .bf16 :=
  have v115 : FVec F S1024x128 .f32 := shapeCast S1024x128 v114 shapeCasts_S1x1024x1x128_S1024x128
  have v116 : FVec F S1024x128 .bf16 := truncf .bf16 v115 bitsLt_bf16_f32
  have v118 : FVec F S1024x128 .f32 := shapeCast S1024x128 v117 shapeCasts_S1x1024x1x128_S1024x128
  have v119 : FVec F S1024x128 .bf16 := truncf .bf16 v118 bitsLt_bf16_f32
  have cst_66 : FVec F S1024x1024 .f32 := constant S1024x1024 .f32 0x00000000#32
  have v120 : FVec F S1024x1024 .f32 := matmul dot_S1024x128_S1024x128_S1024x1024_1_1_0_0_n_n none v113 v116 cst_66
  have cst_67 : F .f32 := Scalar.ofBits .f32 0x3DB504F3#32
  have v121 : FVec F S1024x1024 .f32 := broadcast S1024x1024 cst_67
  have v122 : FVec F S1024x1024 .f32 := mulf v120 v121
  have cst_68 : F .f32 := Scalar.ofBits .f32 0xCE6E6B28#32
  have v123 : FVec F S1024x1024 .f32 := broadcast S1024x1024 cst_68
  have v124 : FVec F S1024x1024 .f32 := select v112 v122 v123
  have cst_69 : FVec F S1024 .f32 := constant S1024 .f32 0xFF800000#32
  have v125 : FVec F S1024 .f32 := multiReduction .maximumf [1] S1024 v124 0xFF800000#32 reduces_S1024x1024_S1024 (.inl rfl) rfl
  have v126 : FVec F S1024x1 .f32 := shapeCast S1024x1 v125 shapeCasts_S1024_S1024x1
  have v127 : FVec F S1024x1024 .f32 := broadcastTo S1024x1024 v126 broadcasts_S1024x1_S1024x1024
  have v128 : FVec F S1024x1024 .f32 := subf v124 v127
  have v129 : FVec F S1024x1024 .f32 := exp v128
  have cst_70 : FVec F S1024 .f32 := constant S1024 .f32 0x00000000#32
  have v130 : FVec F S1024 .f32 := multiReduction .add [1] S1024 v129 0x00000000#32 reduces_S1024x1024_S1024 (.inl rfl) rfl
  have v131 : FVec F S1024x1 .f32 := shapeCast S1024x1 v130 shapeCasts_S1024_S1024x1
  have v132 : FVec F S1024x1024 .f32 := broadcastTo S1024x1024 v131 broadcasts_S1024x1_S1024x1024
  have v133 : FVec F S1024x1024 .f32 := divf v129 v132
  have v134 : FVec F S1024x1024 .bf16 := truncf .bf16 v133 bitsLt_bf16_f32
  have cst_71 : FVec F S1024x128 .f32 := constant S1024x128 .f32 0x00000000#32
  have v135 : FVec F S1024x128 .f32 := matmul dot_S1024x1024_S1024x128_S1024x128_1_0_0_1_n_n none v134 v119 cst_71
  have v136 : FVec F S1024x128 .bf16 := truncf .bf16 v135 bitsLt_bf16_f32
  v136

/-- The partial product with this device's rows of the output weights. -/
def outProj (v332 : Vec F S1024x1024 .bf16) (v329 : Vec F S1024x1024 .f32) : FVec F S1024x1024 .f32 :=
  have v330 : FVec F S1024x1024 .f32 := shapeCast S1024x1024 v329 shapeCasts_S1024x1024_S1024x1024
  have v331 : FVec F S1024x1024 .bf16 := truncf .bf16 v330 bitsLt_bf16_f32
  have cst_191 : FVec F S1024x1024 .f32 := constant S1024x1024 .f32 0x00000000#32
  have v333 : FVec F S1024x1024 .f32 := matmul dot_S1024x1024_S1024x1024_S1024x1024_1_0_0_1_n_n none v332 v331 cst_191
  v333

/-! ## The body -/

/-- Programs one after the other, one per member of a list. -/
def each {I : Type} (f : I → Prog (TpuEff nD τ sig (Elt F) Λ₀ .tc) PUnit) : List I → Prog (TpuEff nD τ sig (Elt F) Λ₀ .tc) PUnit
  | [] => pure ⟨⟩
  | r :: l => f r >>= fun _ => each f l

/-- The same with a value passed on. -/
def eachA {I A : Type} (f : I → A → Prog (TpuEff nD τ sig (Elt F) Λ₀ .tc) A) : List I → A → Prog (TpuEff nD τ sig (Elt F) Λ₀ .tc) A
  | [], a => pure a
  | r :: l, a => f r a >>= fun a => eachA f l a

/-- The eight heads, and the thirty-one other devices. -/
abbrev heads : List (Fin 8) := [0, 1, 2, 3, 4, 5, 6, 7]
abbrev steps : List (Fin 31) := [0, 1, 2, 3, 4, 5, 6, 7, 8, 9, 10, 11, 12, 13, 14, 15, 16, 17, 18, 19, 20, 21, 22, 23, 24, 25, 26, 27, 28, 29, 30]

def headStep (h : Fin 8) : Prog (TpuEff nD τ sig (Elt F) Λ₀ .tc) PUnit := do
  let q : Vec F S1024x128 .bf16 ← Prog.lift (.load qM (Rect.unit (s := S1024x1024) ![0, h.val * 128] S1024x128.size (head_inb h)).toLoadRect (View.loadsAt_vmem h_S1024x128))
  let k : Vec F S1x1024x1x128 .f32 ← Prog.lift (.load kvM (Rect.unit (s := S2x1024x8x128) ![0, 0, h.val, 0] S1x1024x1x128.size (kvh_inb 0 h)).toLoadRect (View.loadsAt_vmem h_S1x1024x1x128))
  let v : Vec F S1x1024x1x128 .f32 ← Prog.lift (.load kvM (Rect.unit (s := S2x1024x8x128) ![1, 0, h.val, 0] S1x1024x1x128.size (kvh_inb 1 h)).toLoadRect (View.loadsAt_vmem h_S1x1024x1x128))
  let _ : Vec F S1024x128 .bf16 ← Prog.lift (.load ctxM (Rect.unit (s := S1024x1024) ![0, h.val * 128] S1024x128.size (head_inb h)).toLoadRect (View.loadsAt_vmem h_S1024x128))
  Prog.lift (.store ctxM (Rect.unit (s := S1024x1024) ![0, h.val * 128] S1024x128.size (head_inb h)) (shapeCast S1024x128 (headF mask q k v) shapeCasts_S1024x128_S1024x128) Finset.univ
    (View.stores_vmem h_S1024x128 ((Memref.isWhole_whole cc0_scratch2).storeExact_slice rfl _ (head_packed h)) (fun _ => rfl)) (.inl rfl))

/-- The queries, the keys and values, the heads, the partial product. -/
def localPart (c : Dev nD) : Prog (TpuEff nD τ sig (Elt F) Λ₀ .tc) PUnit := do
  Prog.lift (.enqueueDma (kvSrc kM c) (.here (kvDst 0)) (.dma (semL 0)) ((View.wordExact_bits rfl).reshape _ _) ((View.wordExact_bits rfl).reshape _ _) ⟨Or.inl rfl, trivial⟩)
  Prog.lift (.enqueueDma (kvSrc vM c) (.here (kvDst 1)) (.dma (semL 1)) ((View.wordExact_bits rfl).reshape _ _) ((View.wordExact_bits rfl).reshape _ _) ⟨Or.inl rfl, trivial⟩)
  let x : Vec F S1x1024x1024 .f32 ← Prog.lift (.load xM (Rect.unit (s := S1x1024x1024) ![0, 0, 0] S1x1024x1024.size inb_S1x1024x1024_S1x1024x1024_0_0_0).toLoadRect (View.loadsAt_vmem h_S1x1024x1024))
  let wq : Vec F S1024x1024 .f32 ← Prog.lift (.load wqM (Rect.unit (s := S1024x1024) ![0, 0] S1024x1024.size inb_S1024x1024_S1024x1024_0_0).toLoadRect (View.loadsAt_vmem h_S1024x1024))
  let _ : Vec F S1024x1024 .bf16 ← Prog.lift (.load qM (Rect.unit (s := S1024x1024) ![0, 0] S1024x1024.size inb_S1024x1024_S1024x1024_0_0).toLoadRect (View.loadsAt_vmem h_S1024x1024))
  Prog.lift (.store qM (Rect.unit (s := S1024x1024) ![0, 0] S1024x1024.size inb_S1024x1024_S1024x1024_0_0) (shapeCast S1024x1024 (qProj x wq) shapeCasts_S1024x1024_S1024x1024) Finset.univ
    (View.stores_vmem h_S1024x1024 ((Memref.isWhole_whole cc0_scratch1).storeExact_slice rfl _ packedbf16_S1024x1024_S1024x1024_0_0) (fun _ => rfl)) (.inl rfl))
  Prog.lift (.waitDma2 (semL 0) (kvSrc kM c) (kvDst 0) ((View.wordExact_bits rfl).reshape _ _) ((View.wordExact_bits rfl).reshape _ _))
  Prog.lift (.waitDma2 (semL 1) (kvSrc vM c) (kvDst 1) ((View.wordExact_bits rfl).reshape _ _) ((View.wordExact_bits rfl).reshape _ _))
  each headStep heads
  let wo : Vec F S1024x1024 .f32 ← Prog.lift (.load woM (Rect.unit (s := S1024x1024) ![0, 0] S1024x1024.size inb_S1024x1024_S1024x1024_0_0).toLoadRect (View.loadsAt_vmem h_S1024x1024))
  let ctx : Vec F S1024x1024 .bf16 ← Prog.lift (.load ctxM (Rect.unit (s := S1024x1024) ![0, 0] S1024x1024.size inb_S1024x1024_S1024x1024_0_0).toLoadRect (View.loadsAt_vmem h_S1024x1024))
  let _ : Vec F S1024x1024 .f32 ← Prog.lift (.load pfM (Rect.unit (s := S1024x1024) ![0, 0] S1024x1024.size inb_S1024x1024_S1024x1024_0_0).toLoadRect (View.loadsAt_vmem h_S1024x1024))
  Prog.lift (.store pfM (Rect.unit (s := S1024x1024) ![0, 0] S1024x1024.size inb_S1024x1024_S1024x1024_0_0) (shapeCast S1024x1024 (outProj ctx wo) shapeCasts_S1024x1024_S1024x1024) Finset.univ
    (View.stores_vmem_bits_univ h_S1024x1024 rfl) (.inl rfl))
  let _ : Vec F S1024x1024 .bf16 ← Prog.lift (.load pbM (Rect.unit (s := S1024x1024) ![0, 0] S1024x1024.size inb_S1024x1024_S1024x1024_0_0).toLoadRect (View.loadsAt_vmem h_S1024x1024))
  Prog.lift (.store pbM (Rect.unit (s := S1024x1024) ![0, 0] S1024x1024.size inb_S1024x1024_S1024x1024_0_0) (shapeCast S1024x1024 (truncf .bf16 (outProj ctx wo) bitsLt_bf16_f32) shapeCasts_S1024x1024_S1024x1024) Finset.univ
    (View.stores_vmem h_S1024x1024 ((Memref.isWhole_whole cc0_scratch4).storeExact_slice rfl _ packedbf16_S1024x1024_S1024x1024_0_0) (fun _ => rfl)) (.inl rfl))

/-- One signal of the handshake. -/
def barStep (c : Dev nD) (r : Fin 31) : Prog (TpuEff nD τ sig (Elt F) Λ₀ .tc) PUnit := semSignalWord (bDev c r) barS 1#32

/-- One copy of the reduce-scatter. -/
def rsStep (c : Dev nD) (r : Fin 31) : Prog (TpuEff nD τ sig (Elt F) Λ₀ .tc) PUnit :=
  Prog.lift (.enqueueDma (srcM c r) (.remote (Dev.tc (rsDev c r)) (slot rsB r) (.dma (semAt cc0_scratch9 r))) (.dma (semAt cc0_scratch10 r)) (srcM_word c r)
    (slot_word rsB (Memref.isWhole_whole _) r) ⟨⟨rfl, Or.inl rfl⟩, trivial⟩)

/-- One arrival of the reduce-scatter, added to the sum so far. -/
def accStep (r : Fin 31) (acc : FVec F S32x1024 .f32) : Prog (TpuEff nD τ sig (Elt F) Λ₀ .tc) (FVec F S32x1024 .f32) := do
  Prog.lift (.waitDma2 (semAt cc0_scratch10 r) (slot rsB r) (slot rsB r) (slot_word rsB (Memref.isWhole_whole _) r) (slot_word rsB (Memref.isWhole_whole _) r))
  let b : Vec F S1x32x1024 .bf16 ← Prog.lift (.load rsB (Rect.unit (s := S31x32x1024) ![r.val, 0, 0] S1x32x1024.size (slot_inb r)).toLoadRect (View.loadsAt_vmem h_S1x32x1024))
  pure (addf acc (extf .f32 (shapeCast S32x1024 b shapeCasts_S1x32x1024_S32x1024) bitsLt_bf16_f32))

/-- The end of one copy of the reduce-scatter at its sender. -/
def rsDone (c : Dev nD) (r : Fin 31) : Prog (TpuEff nD τ sig (Elt F) Λ₀ .tc) PUnit :=
  Prog.lift (.waitDma2 (semAt cc0_scratch9 r) (slot rsB r) (srcM c r) (slot_word rsB (Memref.isWhole_whole _) r) (srcM_word c r))

/-- One copy of the all-gather. -/
def agStep (c : Dev nD) (r : Fin 31) : Prog (TpuEff nD τ sig (Elt F) Λ₀ .tc) PUnit :=
  Prog.lift (.enqueueDma agM (.remote (Dev.tc (agDev c r)) (slot agB r) (.dma (semAt cc0_scratch11 r))) (.dma (semAt cc0_scratch12 r)) (Memref.isWhole_whole cc0_scratch5).wordExact
    (slot_word agB (Memref.isWhole_whole _) r) ⟨⟨rfl, Or.inl rfl⟩, trivial⟩)

/-- One arrival of the all-gather, stored into the result. -/
def outStep (c : Dev nD) (r : Fin 31) : Prog (TpuEff nD τ sig (Elt F) Λ₀ .tc) PUnit := do
  Prog.lift (.waitDma2 (semAt cc0_scratch12 r) (slot agB r) (slot agB r) (slot_word agB (Memref.isWhole_whole _) r) (slot_word agB (Memref.isWhole_whole _) r))
  let b : Vec F S1x32x1024 .bf16 ← Prog.lift (.load agB (Rect.unit (s := S31x32x1024) ![r.val, 0, 0] S1x32x1024.size (slot_inb r)).toLoadRect (View.loadsAt_vmem h_S1x32x1024))
  let _ : Vec F S1x32x1024 .f32 ← Prog.lift (.load outM (Rect.unit (s := S1x1024x1024) (k0_off5 c (BitVec.ofNat 32 (1 + r.val))) S1x32x1024.size (k0_off5_inb c r)).toLoadRect (View.loadsAt_vmem h_S1x32x1024))
  Prog.lift (.store outM (Rect.unit (s := S1x1024x1024) (k0_off5 c (BitVec.ofNat 32 (1 + r.val))) S1x32x1024.size (k0_off5_inb c r))
    (shapeCast S1x32x1024 (extf .f32 (shapeCast S32x1024 b shapeCasts_S1x32x1024_S32x1024) bitsLt_bf16_f32) shapeCasts_S32x1024_S1x32x1024) Finset.univ (View.stores_vmem_bits_univ h_S1x32x1024 rfl) (.inl rfl))

/-- The end of one copy of the all-gather at its sender. -/
def agDone (r : Fin 31) : Prog (TpuEff nD τ sig (Elt F) Λ₀ .tc) PUnit :=
  Prog.lift (.waitDma2 (semAt cc0_scratch11 r) (slot agB r) agM (slot_word agB (Memref.isWhole_whole _) r) (Memref.isWhole_whole cc0_scratch5).wordExact)

/-- The sum so far becomes the source of the all-gather and this device's rows of the result. -/
def accOut (c : Dev nD) (acc : FVec F S32x1024 .f32) : Prog (TpuEff nD τ sig (Elt F) Λ₀ .tc) PUnit := do
  let _ : Vec F S32x1024 .bf16 ← Prog.lift (.load agM (Rect.unit (s := S32x1024) ![0, 0] S32x1024.size inb_S32x1024_S32x1024_0_0).toLoadRect (View.loadsAt_vmem h_S32x1024))
  Prog.lift (.store agM (Rect.unit (s := S32x1024) ![0, 0] S32x1024.size inb_S32x1024_S32x1024_0_0) (shapeCast S32x1024 (truncf .bf16 acc bitsLt_bf16_f32) shapeCasts_S32x1024_S32x1024) Finset.univ
    (View.stores_vmem h_S32x1024 ((Memref.isWhole_whole cc0_scratch5).storeExact_slice rfl _ packedbf16_S32x1024_S32x1024_0_0) (fun _ => rfl)) (.inl rfl))
  let _ : Vec F S1x32x1024 .f32 ← Prog.lift (.load outM (Rect.unit (s := S1x1024x1024) (k0_off4 c) S1x32x1024.size (k0_off4_inb c)).toLoadRect (View.loadsAt_vmem h_S1x32x1024))
  Prog.lift (.store outM (Rect.unit (s := S1x1024x1024) (k0_off4 c) S1x32x1024.size (k0_off4_inb c)) (shapeCast S1x32x1024 acc shapeCasts_S32x1024_S1x32x1024) Finset.univ
    (View.stores_vmem_bits_univ h_S1x32x1024 rfl) (.inl rfl))

/-- The sum over the devices of their rows, in the order of arrival. -/
def reducePart (c : Dev nD) : Prog (TpuEff nD τ sig (Elt F) Λ₀ .tc) (FVec F S32x1024 .f32) := do
  each (barStep c) steps
  semWaitWord barS 31#32
  each (rsStep c) steps
  let a : Vec F S32x1024 .f32 ← Prog.lift (.load pfM (Rect.unit (s := S1024x1024) (k0_off3 c) S32x1024.size (k0_off3_inb c)).toLoadRect (View.loadsAt_vmem h_S32x1024))
  let acc ← eachA accStep steps a
  each (rsDone c) steps
  pure acc

def gatherPart (c : Dev nD) (acc : FVec F S32x1024 .f32) : Prog (TpuEff nD τ sig (Elt F) Λ₀ .tc) PUnit := do
  accOut c acc
  each (agStep c) steps
  each (outStep c) steps
  each agDone steps

/-- The body. -/
def gbody : Prog (TpuEff nD τ sig (Elt F) Λ₀ .tc) PUnit := do
  let c : Dev nD ← Prog.lift .deviceId
  localPart c
  let acc ← reducePart c
  gatherPart c acc

set_option maxRecDepth 100000 in
theorem body_eq : cc0_body (F := F) xM (Memref.isWhole_whole _) wqM (Memref.isWhole_whole _) kM (Memref.isWhole_whole _) vM (Memref.isWhole_whole _) woM (Memref.isWhole_whole _) outM (Memref.isWhole_whole _)
      kvM (Memref.isWhole_whole _) qM (Memref.isWhole_whole _) ctxM (Memref.isWhole_whole _) pfM (Memref.isWhole_whole _) pbM (Memref.isWhole_whole _) agM (Memref.isWhole_whole _) rsB (Memref.isWhole_whole _)
      agB (Memref.isWhole_whole _) cc0_scratch8 cc0_scratch9 cc0_scratch10 cc0_scratch11 cc0_scratch12 = gbody := by
  chain_rfl

end Cert.AllReduce

end
-- ==== Proof.Contents.lean ====
/-
# What the buffers hold

The devices as a ring (`up`, `dn`), the parts of each buffer the steps read and write, and the contents every buffer
has when the step that fills it is done, as functions of the launch memory.
-/
module

public import proofs.«01_k».proof.Proof.Prog
public import Idealize.ShloMosaic.Lib.Ring
public import Idealize.ShloMosaic.Lib.Pipeline.Launch
public import Idealize.ShloMosaic.Lib.Tactic

@[expose] public section

noncomputable section

namespace Cert.AllReduce

open Cert.KernelIdeal Cert.KernelIdeal.Gen
open Idealize.ShloMosaic Idealize.ShloMosaic.TcCoe
open Idealize.SL.Sem

variable {F : FTy → Type} [FloatOps F]

/-! ## The ring of devices -/

/-- The device step `r` sends to, and the device it receives from. -/
def up (c : Dev nD) (r : Fin 31) : Dev nD := ⟨(c.val + (r.val + 1)) % 32, Nat.mod_lt _ (by decide)⟩
def dn (c : Dev nD) (r : Fin 31) : Dev nD := ⟨(c.val + (31 - r.val)) % 32, Nat.mod_lt _ (by decide)⟩
/-- The step that goes back. -/
def rev (r : Fin 31) : Fin 31 := ⟨30 - r.val, by omega⟩

theorem dn_up (c : Dev nD) (r : Fin 31) : dn (up c r) r = c := by revert c r; decide +kernel
theorem up_dn (c : Dev nD) (r : Fin 31) : up (dn c r) r = c := by revert c r; decide +kernel
theorem rev_rev (r : Fin 31) : rev (rev r) = r := by revert r; decide
theorem up_up_rev (c : Dev nD) (r : Fin 31) : up (up c r) (rev r) = c := by revert c r; decide +kernel
theorem up_ne (c : Dev nD) (r : Fin 31) : up c r ≠ c := by revert c r; decide +kernel
theorem dn_ne (c : Dev nD) (r : Fin 31) : dn c r ≠ c := by revert c r; decide +kernel
theorem up_inj (c : Dev nD) : Function.Injective (up c) := by revert c; decide +kernel
theorem dn_inj (c : Dev nD) : Function.Injective (dn c) := by revert c; decide +kernel
theorem up_surj (c q : Dev nD) : q ≠ c → ∃ r, up c r = q := by revert c q; decide +kernel
theorem dn_surj (c q : Dev nD) : q ≠ c → ∃ r, dn c r = q := by revert c q; decide +kernel

theorem bDev_eq (c : Dev nD) (r : Fin 31) : bDev c r = up c r := by revert c r; decide +kernel
theorem rsDev_eq (c : Dev nD) (r : Fin 31) : rsDev c r = up c r := by revert c r; decide +kernel
theorem agDev_eq (c : Dev nD) (r : Fin 31) : agDev c r = up c r := by revert c r; decide +kernel

def revE : Fin 31 ≃ Fin 31 := ⟨rev, rev, rev_rev, rev_rev⟩
def upE (r : Fin 31) : Dev nD ≃ Dev nD := ⟨fun c => up c r, fun c => dn c r, fun c => dn_up c r, fun c => up_dn c r⟩

theorem off2_eq (c : Dev nD) (r : Fin 31) : k0_off2 c (BitVec.ofNat 32 (1 + r.val)) = ![32 * (up c r).val, 0] := by revert c r; decide +kernel
theorem off5_eq (c : Dev nD) (r : Fin 31) : k0_off5 c (BitVec.ofNat 32 (1 + r.val)) = ![0, 32 * (dn c r).val, 0] := by revert c r; decide +kernel

/-- The rows of device `q` in a 1024-row buffer, and in the result. -/
theorem rows_inb (q : Dev nD) : ∀ a, (![32 * q.val, 0] : Fin 2 → Nat) a + S32x1024.size a ≤ S1024x1024.size a := by revert q; decide
theorem rows3_inb (q : Dev nD) : ∀ a, (![0, 32 * q.val, 0] : Fin 3 → Nat) a + S1x32x1024.size a ≤ S1x1024x1024.size a := by revert q; decide
abbrev rowsR (q : Dev nD) : Rect S1024x1024 := Rect.unit (s := S1024x1024) ![32 * q.val, 0] S32x1024.size (rows_inb q)
abbrev rows3R (q : Dev nD) : Rect S1x1024x1024 := Rect.unit (s := S1x1024x1024) ![0, 32 * q.val, 0] S1x32x1024.size (rows3_inb q)
abbrev slotR (r : Fin 31) : Rect S31x32x1024 := Rect.unit (s := S31x32x1024) ![r.val, 0, 0] S1x32x1024.size (slot_inb r)
abbrev headR (h : Fin 8) : Rect S1024x1024 := Rect.unit (s := S1024x1024) ![0, h.val * 128] S1024x128.size (head_inb h)
abbrev halfR (s : Fin 2) : Rect S2x1024x8x128 := Rect.unit (s := S2x1024x8x128) ![s.val, 0, 0, 0] S1x1024x8x128.size (kv_inb s)
abbrev kvhR (s : Fin 2) (h : Fin 8) : Rect S2x1024x8x128 := Rect.unit (s := S2x1024x8x128) ![s.val, 0, h.val, 0] S1x1024x1x128.size (kvh_inb s h)

theorem src_rect (c : Dev nD) (r : Fin 31) :
    Rect.unit (s := S1024x1024) (k0_off2 c (BitVec.ofNat 32 (1 + r.val))) S32x1024.size (k0_off2_inb c r) = rowsR (up c r) :=
  Rect.unit_congr (off2_eq c r) _ _
theorem acc_rect (c : Dev nD) : Rect.unit (s := S1024x1024) (k0_off3 c) S32x1024.size (k0_off3_inb c) = rowsR c := Rect.unit_congr (k0_off3_eq c) _ _
theorem own_rect (c : Dev nD) : Rect.unit (s := S1x1024x1024) (k0_off4 c) S1x32x1024.size (k0_off4_inb c) = rows3R c := Rect.unit_congr (k0_off4_eq c) _ _
theorem out_rect (c : Dev nD) (r : Fin 31) :
    Rect.unit (s := S1x1024x1024) (k0_off5 c (BitVec.ofNat 32 (1 + r.val))) S1x32x1024.size (k0_off5_inb c r) = rows3R (dn c r) :=
  Rect.unit_congr (off5_eq c r) _ _

/-! ## The parts of a buffer -/

theorem whole_slice_set {κ : Kind} (b : Ref sig κ) (r : Rect b.ty.shape) : ((View.whole b).slice r).set = r.set := by
  unfold View.set; rw [← Rect.map_emb_univ]; rfl

theorem set_src (c : Dev nD) (r : Fin 31) : (srcM c r).view.set = (rowsR (up c r)).set := by
  show ((View.whole cc0_scratch4).slice _).set = _
  rw [whole_slice_set, src_rect]
theorem set_rs (r : Fin 31) : (slot rsB r).view.set = (slotR r).set := by
  show (((View.whole cc0_scratch6).slice (slotR r)).reshape _ _).set = _
  rw [View.set_reshape, whole_slice_set]
theorem set_ag (r : Fin 31) : (slot agB r).view.set = (slotR r).set := by
  show (((View.whole cc0_scratch7).slice (slotR r)).reshape _ _).set = _
  rw [View.set_reshape, whole_slice_set]
theorem set_kv (s : Fin 2) : (kvDst s).view.set = (halfR s).set := by
  show (((View.whole cc0_scratch0).slice (halfR s)).reshape _ _).set = _
  rw [View.set_reshape, whole_slice_set]

theorem slots_disjoint (r r' : Fin 31) (h : r ≠ r') : Disjoint (slotR r).set (slotR r').set :=
  Ring.lead_disjoint (s := S31x32x1024) (NB := 31) 0 1 (fun r => ![r.val, 0, 0]) S1x32x1024.size slot_inb (fun b => (Nat.one_mul _).symm) rfl r r' h
theorem slots_cover : Finset.univ.biUnion (fun r => (slotR r).set) = Finset.univ :=
  Ring.lead_cover (s := S31x32x1024) (NB := 31) 0 1 (fun r => ![r.val, 0, 0]) S1x32x1024.size slot_inb (fun b => (Nat.one_mul _).symm)
    (fun b a ha => by fin_cases a <;> first | exact absurd rfl ha | rfl) rfl (fun a ha => by fin_cases a <;> first | exact absurd rfl ha | rfl) rfl
theorem rows_disjoint (q q' : Dev nD) (h : q ≠ q') : Disjoint (rowsR q).set (rowsR q').set :=
  Ring.lead_disjoint (s := S1024x1024) (NB := 32) 0 32 (fun q => ![32 * q.val, 0]) S32x1024.size rows_inb (fun b => rfl) rfl q q' h
theorem rows_cover : Finset.univ.biUnion (fun q : Dev nD => (rowsR q).set) = Finset.univ :=
  Ring.lead_cover (s := S1024x1024) (NB := 32) 0 32 (fun q => ![32 * q.val, 0]) S32x1024.size rows_inb (fun b => rfl)
    (fun b a ha => by fin_cases a <;> first | exact absurd rfl ha | rfl) rfl (fun a ha => by fin_cases a <;> first | exact absurd rfl ha | rfl) rfl
theorem rows3_cover : Finset.univ.biUnion (fun q : Dev nD => (rows3R q).set) = Finset.univ :=
  Ring.lead_cover (s := S1x1024x1024) (NB := 32) 1 32 (fun q => ![0, 32 * q.val, 0]) S1x32x1024.size rows3_inb (fun b => rfl)
    (fun b a ha => by fin_cases a <;> first | exact absurd rfl ha | rfl) rfl (fun a ha => by fin_cases a <;> first | exact absurd rfl ha | rfl) rfl
theorem heads_cover : Finset.univ.biUnion (fun h : Fin 8 => (headR h).set) = Finset.univ :=
  Ring.lead_cover (s := S1024x1024) (NB := 8) 1 128 (fun h => ![0, h.val * 128]) S1024x128.size head_inb (fun b => Nat.mul_comm _ _)
    (fun b a ha => by fin_cases a <;> first | exact absurd rfl ha | rfl) rfl (fun a ha => by fin_cases a <;> first | exact absurd rfl ha | rfl) rfl
theorem halves_disjoint (s s' : Fin 2) (h : s ≠ s') : Disjoint (halfR s).set (halfR s').set :=
  Ring.lead_disjoint (s := S2x1024x8x128) (NB := 2) 0 1 (fun r => ![r.val, 0, 0, 0]) S1x1024x8x128.size kv_inb (fun b => (Nat.one_mul _).symm) rfl s s' h
theorem halves_cover : Finset.univ.biUnion (fun s => (halfR s).set) = Finset.univ :=
  Ring.lead_cover (s := S2x1024x8x128) (NB := 2) 0 1 (fun r => ![r.val, 0, 0, 0]) S1x1024x8x128.size kv_inb (fun b => (Nat.one_mul _).symm)
    (fun b a ha => by fin_cases a <;> first | exact absurd rfl ha | rfl) rfl (fun a ha => by fin_cases a <;> first | exact absurd rfl ha | rfl) rfl

theorem kvh_subset (s : Fin 2) (h : Fin 8) : (kvhR s h).set ⊆ (halfR s).set := by
  intro i hi
  rw [Rect.mem_set_unit] at hi ⊢
  intro a
  have := hi a
  have hb := (i a).isLt
  fin_cases a
  · exact this
  · exact this
  · exact ⟨Nat.zero_le _, by simpa using hb⟩
  · exact this

/-! ## Contents -/

variable (m : (ℓ : Loc nD τ sig) → Buf (Elt F) ℓ)

/-- The staged blocks of the arguments. -/
def xC (c : Dev nD) : (cc0_stg0_0 : Ref sig .tc).ty.Contents (Elt F) := (win0_0.blk t0_0).view.read (Elt F) (m ((c : Thread nD τ).loc main_arg0))
def wqC (c : Dev nD) : (cc0_stg1_0 : Ref sig .tc).ty.Contents (Elt F) := (win0_1.blk t0_0).view.read (Elt F) (m ((c : Thread nD τ).loc main_arg1))
def woC (c : Dev nD) : (cc0_stg2_0 : Ref sig .tc).ty.Contents (Elt F) := (win0_2.blk t0_0).view.read (Elt F) (m ((c : Thread nD τ).loc main_arg4))

/-- The queries. -/
def qC (c : Dev nD) : Vec F S1024x1024 .bf16 := qProj (xC m c) (wqC m c)
/-- The eight heads of keys and of values. -/
def kvC (c : Dev nD) : (cc0_scratch0 : Ref sig .tc).ty.Contents (Elt F) := fun i : S2x1024x8x128.Idx =>
  if (i 0).val = 0 then (kvSrc kM c).view.read (Elt F) (m ((c : Thread nD τ).loc main_arg2)) (fun a : Fin 3 => i a.succ)
  else (kvSrc vM c).view.read (Elt F) (m ((c : Thread nD τ).loc main_arg3)) (fun a : Fin 3 => i a.succ)
/-- A head's result. -/
def headC (c : Dev nD) (h : Fin 8) : Vec F S1024x128 .bf16 :=
  headF mask (qM.view.readAt (Elt F) (headR h).toLoadRect (qC m c)) (kvM.view.readAt (Elt F) (kvhR 0 h).toLoadRect (kvC m c)) (kvM.view.readAt (Elt F) (kvhR 1 h).toLoadRect (kvC m c))
def ctxC (c : Dev nD) : (cc0_scratch2 : Ref sig .tc).ty.Contents (Elt F) := fun i : S1024x1024.Idx =>
  headC m c ⟨(i 1).val / 128, Nat.div_lt_of_lt_mul (i 1).isLt⟩ (Shape.pair (d := S1024x128.size) (i 0) ⟨(i 1).val % 128, Nat.mod_lt _ (by decide)⟩)
/-- The partial product. -/
def pfC (c : Dev nD) : Vec F S1024x1024 .f32 := outProj (ctxC m c) (woC m c)
def pbC (c : Dev nD) : Vec F S1024x1024 .bf16 := truncf .bf16 (pfC m c) bitsLt_bf16_f32
/-- The slots of the reduce-scatter. -/
def rsC (c : Dev nD) : (cc0_scratch6 : Ref sig .tc).ty.Contents (Elt F) := fun i : S31x32x1024.Idx =>
  (srcM (dn c (i 0)) (i 0)).view.read (Elt F) (pbC m (dn c (i 0))) (fun a : Fin 2 => i a.succ)
/-- The sum, after the members of a list of steps. -/
def accOf (c : Dev nD) (l : List (Fin 31)) (a : FVec F S32x1024 .f32) : FVec F S32x1024 .f32 :=
  l.foldl (fun acc r => addf acc (extf .f32 (shapeCast S32x1024 (rsB.view.readAt (Elt F) (slotR r).toLoadRect (rsC m c) : Vec F S1x32x1024 .bf16) shapeCasts_S1x32x1024_S32x1024) bitsLt_bf16_f32)) a
def accC (c : Dev nD) : FVec F S32x1024 .f32 := accOf m c steps (pfM.view.readAt (Elt F) (rowsR c).toLoadRect (pfC m c))
def agsC (c : Dev nD) : Vec F S32x1024 .bf16 := truncf .bf16 (accC m c) bitsLt_bf16_f32
/-- The slots of the all-gather. -/
def agC (c : Dev nD) : (cc0_scratch7 : Ref sig .tc).ty.Contents (Elt F) := fun i : S31x32x1024.Idx => agsC m (dn c (i 0)) (fun a : Fin 2 => i a.succ)
/-- The result: this device's rows as summed, every other device's as received. -/
def outC (c : Dev nD) : (cc0_stg3_0 : Ref sig .tc).ty.Contents (Elt F) := fun i : S1x1024x1024.Idx =>
  let q : Dev nD := ⟨(i 1).val / 32, Nat.div_lt_of_lt_mul (i 1).isLt⟩
  let j : S32x1024.Idx := Shape.pair (d := S32x1024.size) ⟨(i 1).val % 32, Nat.mod_lt _ (by decide)⟩ (i 2)
  if q = c then accC m c j else extf .f32 (agsC m q) bitsLt_bf16_f32 j

end Cert.AllReduce

end
-- ==== Proof.Reads.lean ====
/-
# Every step reads and writes what `Contents` says

Each fact says that a rectangle of a buffer's contents, read, is what the step that fills it computes or copies.
-/
module

public import proofs.«01_k».proof.Proof.Contents

@[expose] public section

noncomputable section

namespace Cert.AllReduce

open Cert.KernelIdeal Cert.KernelIdeal.Gen
open Idealize.ShloMosaic Idealize.ShloMosaic.TcCoe
open Idealize.SL.Sem

variable {F : FTy → Type} [FloatOps F]

/-- Writing what the view reads off `G` leaves `G` under the view. -/
theorem write_agree {κ : Kind} {sp : Space} {s : Shape} {e : EltTy} (Val : EltTy → Type) (v : View sig κ sp s e) (f G : v.ty.Contents Val) (w : s.Idx → Val e)
    (h : v.read Val G = w) : ∀ i ∈ v.set, v.write Val f w Finset.univ i = G i := by
  intro i hi
  obtain ⟨x, -, rfl⟩ := Finset.mem_map.mp hi
  rw [View.write_emb_of_mem _ _ (Finset.mem_univ x), ← h, View.read_apply, cast_cast, cast_eq]

/-- Contents agreeing with `G` on `D` still do after the write, and under the view too. -/
theorem write_agree_union {κ : Kind} {sp : Space} {s : Shape} {e : EltTy} (Val : EltTy → Type) (v : View sig κ sp s e) (f G : v.ty.Contents Val) (w : s.Idx → Val e)
    (D : Finset v.ty.Idx) (hD : ∀ i ∈ D, f i = G i) (h : v.read Val G = w) : ∀ i, i ∈ D ∨ i ∈ v.set → v.write Val f w Finset.univ i = G i := by
  intro i hi
  by_cases hv : i ∈ v.set
  · exact write_agree Val v f G w h i hv
  · rw [View.write_of_not_mem _ _ _ (by rw [View.setOn_univ]; exact hv)]
    exact hD i (hi.resolve_right hv)

theorem rs1 (x : S32x1024.Idx) : Shape.reshapeEquiv (s := S1x32x1024) (s' := S32x1024) squeezes_S1x32x1024_S32x1024.numel_eq x = Fin.cons ⟨0, Nat.one_pos⟩ x :=
  Shape.reshapeEquiv_cons_one _ x
theorem kv1 (x : S1024x8x128.Idx) : Shape.reshapeEquiv (s := S1x1024x8x128) (s' := S1024x8x128) squeezes_S1x1024x8x128_S1024x8x128.numel_eq x = Fin.cons ⟨0, Nat.one_pos⟩ x :=
  Shape.reshapeEquiv_cons_one _ x

theorem slot_emb (r : Fin 31) (x : S32x1024.Idx) : ((slotR r).emb (Fin.cons ⟨0, Nat.one_pos⟩ x : S1x32x1024.Idx) : S31x32x1024.Idx) = Fin.cons r x := by
  funext a
  apply Fin.ext
  show (![r.val, 0, 0] : Fin 3 → Nat) a + 1 * _ = _
  fin_cases a
  · show r.val + 1 * 0 = r.val; omega
  · show 0 + 1 * (x 0).val = (x 0).val; omega
  · show 0 + 1 * (x 1).val = (x 1).val; omega
theorem half_emb (s : Fin 2) (x : S1024x8x128.Idx) : ((halfR s).emb (Fin.cons ⟨0, Nat.one_pos⟩ x : S1x1024x8x128.Idx) : S2x1024x8x128.Idx) = Fin.cons s x := by
  funext a
  apply Fin.ext
  show (![s.val, 0, 0, 0] : Fin 4 → Nat) a + 1 * _ = _
  fin_cases a
  · show s.val + 1 * 0 = s.val; omega
  · show 0 + 1 * (x 0).val = (x 0).val; omega
  · show 0 + 1 * (x 1).val = (x 1).val; omega
  · show 0 + 1 * (x 2).val = (x 2).val; omega

theorem read_slot_rs (r : Fin 31) (f : (cc0_scratch6 : Ref sig .tc).ty.Contents (Elt F)) :
    (slot rsB r).view.read (Elt F) f = fun x => f (Fin.cons r x : S31x32x1024.Idx) := by
  funext x
  show f ((slotR r).emb (Shape.reshapeEquiv _ x)) = _
  rw [rs1]; exact congrArg f (slot_emb r x)
theorem read_slot_ag (r : Fin 31) (f : (cc0_scratch7 : Ref sig .tc).ty.Contents (Elt F)) :
    (slot agB r).view.read (Elt F) f = fun x => f (Fin.cons r x : S31x32x1024.Idx) := by
  funext x
  show f ((slotR r).emb (Shape.reshapeEquiv _ x)) = _
  rw [rs1]; exact congrArg f (slot_emb r x)
theorem read_half (s : Fin 2) (f : (cc0_scratch0 : Ref sig .tc).ty.Contents (Elt F)) :
    (kvDst s).view.read (Elt F) f = fun x => f (Fin.cons s x : S2x1024x8x128.Idx) := by
  funext x
  show f ((halfR s).emb (Shape.reshapeEquiv _ x)) = _
  rw [kv1]; exact congrArg f (half_emb s x)

variable (m : (ℓ : Loc nD τ sig) → Buf (Elt F) ℓ)

theorem read_k (c : Dev nD) : (kvDst 0).view.read (Elt F) (kvC m c) = (kvSrc kM c).view.read (Elt F) (m ((c : Thread nD τ).loc main_arg2)) := by
  rw [read_half]; rfl
theorem read_v (c : Dev nD) : (kvDst 1).view.read (Elt F) (kvC m c) = (kvSrc vM c).view.read (Elt F) (m ((c : Thread nD τ).loc main_arg3)) := by
  rw [read_half]; rfl

theorem read_rs (c : Dev nD) (r : Fin 31) : (slot rsB r).view.read (Elt F) (rsC m (up c r)) = (srcM c r).view.read (Elt F) (pbC m c) := by
  rw [read_slot_rs]
  have h : ∀ p, p = c → ∀ x : S32x1024.Idx, (srcM p r).view.read (Elt F) (pbC m p) x = (srcM c r).view.read (Elt F) (pbC m c) x := by
    intro p hp x; subst hp; rfl
  funext x
  exact h _ (dn_up c r) x
theorem read_ag (c : Dev nD) (r : Fin 31) : (slot agB r).view.read (Elt F) (agC m (up c r)) = agM.view.read (Elt F) (agsC m c) := by
  rw [read_slot_ag]
  have h : ∀ p, p = c → ∀ x : S32x1024.Idx, agsC m p x = agsC m c x := by
    intro p hp x; subst hp; rfl
  funext x
  exact h _ (dn_up c r) x

/-- A head's columns of `ctxC`. -/
theorem read_ctx (c : Dev nD) (h : Fin 8) :
    (ctxM.access (headR h)).read (Elt F) (ctxC m c) = shapeCast S1024x128 (headC m c h) shapeCasts_S1024x128_S1024x128 := by
  funext x
  have e : (shapeCast S1024x128 (headC m c h) shapeCasts_S1024x128_S1024x128) x = headC m c h x := by
    show headC m c h (Shape.reshapeEquiv _ x) = _
    exact congrArg _ (Shape.reshapeEquiv_eq_of_rowMajor _ rfl)
  rw [e]
  show ctxC m c ((headR h).emb x) = _
  have h1 : ((headR h).emb x 1).val = h.val * 128 + (x 1).val := by show h.val * 128 + 1 * (x 1).val = _; omega
  have h0 : ((headR h).emb x 0).val = (x 0).val := by show 0 + 1 * (x 0).val = _; omega
  have hx : (x 1).val < 128 := (x 1).isLt
  unfold ctxC
  have eh : (⟨((headR h).emb x 1).val / 128, Nat.div_lt_of_lt_mul ((headR h).emb x 1).isLt⟩ : Fin 8) = h :=
    Fin.ext (show ((headR h).emb x 1).val / 128 = h.val by rw [h1]; omega)
  have ei : (Shape.pair (d := S1024x128.size) ((headR h).emb x 0) ⟨((headR h).emb x 1).val % 128, Nat.mod_lt _ (by decide)⟩ : S1024x128.Idx) = x :=
    (congrArg₂ (Shape.pair (d := S1024x128.size)) (Fin.ext h0)
      (Fin.ext (show ((headR h).emb x 1).val % 128 = (x 1).val by rw [h1]; omega))).trans (Shape.pair_eta (d := S1024x128.size) x)
  exact (congrArg (fun k => headC m c k _) eh).trans (congrArg (headC m c h) ei)

theorem cast_s32 {α : Type} (f : S32x1024.Idx → α) (x : S1x32x1024.Idx) :
    shapeCast S1x32x1024 f shapeCasts_S32x1024_S1x32x1024 x = f (fun a : Fin 2 => x a.succ) := by
  refine congrArg f (Shape.reshapeEquiv_eq_of_rowMajor _ ?_)
  have hx : (x 0).val = 0 := Nat.lt_one_iff.mp (x 0).isLt
  refine (Shape.rowMajor_val_two (d := S32x1024.size) (fun a : Fin 2 => x a.succ)).trans ((Shape.rowMajor_val_three (d := S1x32x1024.size) x).trans ?_).symm
  rw [hx, Nat.zero_mul, Nat.zero_add]
  rfl

/-- The rows of device `q` of `outC`. -/
theorem rows3_read (c q : Dev nD) (x : S1x32x1024.Idx) :
    (outM.access (rows3R q)).read (Elt F) (outC m c) x
      = if q = c then accC m c (fun a : Fin 2 => x a.succ) else extf .f32 (agsC m q) bitsLt_bf16_f32 (fun a : Fin 2 => x a.succ) := by
  show outC m c ((rows3R q).emb x) = _
  have h1 : ((rows3R q).emb x 1).val = 32 * q.val + (x 1).val := by show 32 * q.val + 1 * (x 1).val = _; omega
  have h2 : ((rows3R q).emb x 2).val = (x 2).val := by show 0 + 1 * (x 2).val = _; omega
  have hx : (x 1).val < 32 := (x 1).isLt
  have eq : (⟨((rows3R q).emb x 1).val / 32, Nat.div_lt_of_lt_mul ((rows3R q).emb x 1).isLt⟩ : Dev nD) = q :=
    Fin.ext (show ((rows3R q).emb x 1).val / 32 = q.val by rw [h1]; omega)
  have ei : (Shape.pair (d := S32x1024.size) ⟨((rows3R q).emb x 1).val % 32, Nat.mod_lt _ (by decide)⟩ ((rows3R q).emb x 2) : S32x1024.Idx) = fun a : Fin 2 => x a.succ :=
    (congrArg₂ (Shape.pair (d := S32x1024.size)) (Fin.ext (show ((rows3R q).emb x 1).val % 32 = (x 1).val by rw [h1]; omega)) (Fin.ext h2)).trans
      (Shape.pair_eta (d := S32x1024.size) (fun a : Fin 2 => x a.succ))
  unfold outC
  dsimp only
  rw [eq, ei]

theorem read_own (c : Dev nD) : (outM.access (rows3R c)).read (Elt F) (outC m c) = shapeCast S1x32x1024 (accC m c) shapeCasts_S32x1024_S1x32x1024 := by
  funext x
  rw [rows3_read, if_pos rfl]; exact (cast_s32 _ x).symm

theorem cast_slot {α : Type} (f : S1x32x1024.Idx → α) (x : S32x1024.Idx) :
    shapeCast S32x1024 f shapeCasts_S1x32x1024_S32x1024 x = f (Fin.cons ⟨0, Nat.one_pos⟩ x : S1x32x1024.Idx) :=
  congrArg f (Shape.reshapeEquiv_cons_one _ x)

/-- The slot `r`, loaded. -/
theorem slot_ag (c : Dev nD) (r : Fin 31) :
    shapeCast S32x1024 (agB.view.readAt (Elt F) (slotR r).toLoadRect (agC m c) : Vec F S1x32x1024 .bf16) shapeCasts_S1x32x1024_S32x1024 = agsC m (dn c r) := by
  funext x
  rw [cast_slot]
  show agC m c ((slotR r).emb _) = _
  rw [slot_emb]
  rfl
theorem slot_rs (c : Dev nD) (r : Fin 31) :
    shapeCast S32x1024 (rsB.view.readAt (Elt F) (slotR r).toLoadRect (rsC m c) : Vec F S1x32x1024 .bf16) shapeCasts_S1x32x1024_S32x1024
      = (srcM (dn c r) r).view.read (Elt F) (pbC m (dn c r)) := by
  funext x
  rw [cast_slot]
  show rsC m c ((slotR r).emb _) = _
  rw [slot_emb]
  rfl

theorem read_other (c : Dev nD) (r : Fin 31) : (outM.access (rows3R (dn c r))).read (Elt F) (outC m c)
    = shapeCast S1x32x1024 (extf .f32 (shapeCast S32x1024 (agB.view.readAt (Elt F) (slotR r).toLoadRect (agC m c) : Vec F S1x32x1024 .bf16) shapeCasts_S1x32x1024_S32x1024) bitsLt_bf16_f32 : FVec F S32x1024 .f32)
        shapeCasts_S32x1024_S1x32x1024 := by
  funext x
  rw [rows3_read, if_neg (dn_ne c r), slot_ag]; exact (cast_s32 _ x).symm

end Cert.AllReduce

end
-- ==== Proof.Protocol.lean ====
/-
# The protocol

One round of duties per semaphore cell. A device's barrier cell has thirty-one duties of one unit, one per other device;
each hands over the two receive slots that device keeps for this one. Every other cell has one duty, the credit of the
copy it counts, and hands over what the copy leaves: at the sender the source, at the receiver the filled slot.
-/
module

public import proofs.«01_k».proof.Proof.Reads
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline library's copy and the protocol's -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's semaphores: the barrier; the two of the local copies; for each step the sender's and the receiver's of
    the reduce-scatter and of the all-gather. -/
abbrev Ix : Type := Unit ⊕ (Fin 2 ⊕ (Fin 4 × Fin 31))
abbrev iBar : Ix := .inl ()
abbrev iLoc (s : Fin 2) : Ix := .inr (.inl s)
abbrev iStep (k : Fin 4) (r : Fin 31) : Ix := .inr (.inr (k, r))

abbrev arr : Fin 4 → DmaSems sig S31 := fun
  | 0 => cc0_scratch9
  | 1 => cc0_scratch10
  | 2 => cc0_scratch11
  | 3 => cc0_scratch12
abbrev csem : Ix → SemLoc sig := fun
  | .inl _ => .reg barS
  | .inr (.inl s) => .dma (semL s)
  | .inr (.inr (k, r)) => .dma (semAt (arr k) r)

theorem semAt_val (k : Fin 4) (r : Fin 31) : (semAt (arr k) r).val = 6 + 31 * k.val + r.val := by revert r k; decide +kernel
theorem semL_val (s : Fin 2) : (semL s).val = 4 + s.val := by revert s; decide +kernel

theorem csem_injective : Function.Injective csem := by
  rintro (_ | s | ⟨k, r⟩) (_ | s' | ⟨k', r'⟩) h
  · rfl
  · cases h
  · cases h
  · cases h
  · have e : (semL s).val = (semL s').val := congrArg Fin.val (SemLoc.dma.inj h)
    rw [semL_val, semL_val] at e
    rw [show s = s' from Fin.ext (by omega)]
  · have e : (semL s).val = (semAt (arr k') r').val := congrArg Fin.val (SemLoc.dma.inj h)
    rw [semL_val, semAt_val] at e
    omega
  · cases h
  · have e : (semAt (arr k) r).val = (semL s').val := congrArg Fin.val (SemLoc.dma.inj h)
    rw [semL_val, semAt_val] at e
    omega
  · have e : (semAt (arr k) r).val = (semAt (arr k') r').val := congrArg Fin.val (SemLoc.dma.inj h)
    rw [semAt_val, semAt_val] at e
    rw [show k = k' from Fin.ext (by omega), show r = r' from Fin.ext (by omega)]

abbrev cell (c : Dev nD) (i : Ix) : GSem nD τ sig := ((c : Thread nD τ), csem i)

open Classical in
/-- The index of a semaphore, if it is one of these. -/
def decode (sm : SemLoc sig) : Option Ix := if h : ∃ i, csem i = sm then some h.choose else none
theorem decode_csem (i : Ix) : decode (csem i) = some i := by
  have h : ∃ j, csem j = csem i := ⟨i, rfl⟩
  unfold decode; rw [dif_pos h]; exact congrArg some (csem_injective h.choose_spec)
theorem decode_some {sm : SemLoc sig} {i : Ix} (h : decode sm = some i) : csem i = sm := by
  unfold decode at h; split at h
  · rename_i h'; cases h; exact h'.choose_spec
  · cases h

/-! ## What is handed over -/

variable (m : (ℓ : Loc nD τ sig) → Buf (Elt F) ℓ)

def rsP (c : Dev nD) (r : Fin 31) (f : (cc0_scratch6 : Ref sig .tc).ty.Contents (Elt F)) : sProp 𝕄 :=
  (slot rsB r).view.loc (c : Thread nD τ) ↦[(slot rsB r).view.set]{fullShare} f
def agP (c : Dev nD) (r : Fin 31) (f : (cc0_scratch7 : Ref sig .tc).ty.Contents (Elt F)) : sProp 𝕄 :=
  (slot agB r).view.loc (c : Thread nD τ) ↦[(slot agB r).view.set]{fullShare} f
def srcP (c : Dev nD) (r : Fin 31) : sProp 𝕄 :=
  (srcM c r).view.loc (c : Thread nD τ) ↦[(srcM c r).view.set]{fullShare} (pbC m c)
def shP (c : Dev nD) (r : Fin 31) : sProp 𝕄 :=
  agM.view.loc (c : Thread nD τ) ↦[agM.view.set]{Transfers.dealOf fullShare Finset.univ r} (agsC m c)
def kvP (c : Dev nD) (s : Fin 2) (f : (cc0_scratch0 : Ref sig .tc).ty.Contents (Elt F)) : sProp 𝕄 :=
  (kvDst s).view.loc (c : Thread nD τ) ↦[(kvDst s).view.set]{fullShare} f
def hbK (c : Dev nD) : sProp 𝕄 :=
  (kvSrc kM c).view.loc (c : Thread nD τ) ↦[(kvSrc kM c).view.set]{fullShare} (m ((c : Thread nD τ).loc main_arg2))
def hbV (c : Dev nD) : sProp 𝕄 :=
  (kvSrc vM c).view.loc (c : Thread nD τ) ↦[(kvSrc vM c).view.set]{fullShare} (m ((c : Thread nD τ).loc main_arg3))

/-- The two slots device `p` keeps for the sender of its step `d`, free. -/
def slotsP (p : Dev nD) (d : Fin 31) : sProp 𝕄 := iprop((∃ f, rsP p d f) ∗ ∃ f, agP p d f)

def pay (c : Dev nD) : Ix → Fin 31 → sProp 𝕄 := fun
  | .inl _, d => slotsP (up c d) d
  | .inr (.inl 0), _ => iprop(kvP c 0 (kvC m c) ∗ hbK m c)
  | .inr (.inl 1), _ => iprop(kvP c 1 (kvC m c) ∗ hbV m c)
  | .inr (.inr (0, r)), _ => srcP m c r
  | .inr (.inr (1, r)), _ => rsP c r (rsC m c)
  | .inr (.inr (2, r)), _ => shP m c r
  | .inr (.inr (3, r)), _ => agP c r (agC m c)

/-- The credit of a local copy and of a copy between devices. -/
def NL : ℕ := (kvDst 0).view.dmaCredit
def NB : ℕ := (slot rsB 0).view.dmaCredit
theorem NL_pos : 0 < NL := View.dmaCredit_pos _ (by decide)
theorem NB_pos : 0 < NB := View.dmaCredit_pos _ (by decide)

def amt : Ix → ℕ := fun
  | .inl _ => 1
  | .inr (.inl _) => NL
  | .inr (.inr _) => NB
theorem amt_pos (i : Ix) : 0 < amt i := by
  rcases i with _ | _ | _
  · exact Nat.one_pos
  · exact NL_pos
  · exact NB_pos

def dut : Ix → Finset (Fin 31) := fun
  | .inl _ => Finset.univ
  | .inr _ => {0}

def Rd : Rounds.Schedule (GSem nD τ sig) (Fin 31) 𝕄 where
  duties g r := if r = 0 ∧ g.1.2 = .tc then (match decode g.2 with | some i => dut i | none => ∅) else ∅
  unitless _ := False
  amount g _ _ := match decode g.2 with | some i => amt i | none => 1
  payload g _ d := match decode g.2 with | some i => pay m g.1.1 i d | none => iprop(emp)
  amount_pos g _ _ _ := by
    split
    · exact amt_pos _
    · exact Nat.one_pos

instance pay_storable (c : Dev nD) (i : Ix) (d : Fin 31) : BI.Storable (upEmb : UEmb _ 𝕄) (pay m c i d) := by
  unfold pay slotsP rsP agP srcP shP kvP hbK hbV
  split <;> infer_instance

instance Rd_payload_storable (g : GSem nD τ sig) (r : ℕ) (d : Fin 31) :
    BI.Storable (upEmb : UEmb _ 𝕄) ((Rd (F := F) m).payload g r d) := by
  show BI.Storable upEmb (match decode g.2 with | some i => pay m g.1.1 i d | none => iprop(emp))
  split <;> infer_instance

section Sched
variable (c : Dev nD) (i : Ix)

theorem duties_cell : (Rd (F := F) m).duties (cell c i) 0 = dut i := by
  dsimp only [Rd]; rw [if_pos ⟨rfl, rfl⟩, decode_csem]
theorem duties_later (g : GSem nD τ sig) : ∀ r, 1 ≤ r → (Rd (F := F) m).duties g r = ∅ :=
  fun r hr => by dsimp only [Rd]; rw [if_neg fun h => by omega]
theorem amount_cell (d : Fin 31) : (Rd (F := F) m).amount (cell c i) 0 d = amt i := by
  dsimp only [Rd]; rw [decode_csem]
theorem payload_cell (d : Fin 31) : (Rd (F := F) m).payload (cell c i) 0 d = pay m c i d := by
  dsimp only [Rd]; rw [decode_csem]
theorem expect_bar : (Rd (F := F) m).expect (cell c iBar) 0 = 31 := by
  unfold Schedule.expect Schedule.amountOf
  rw [duties_cell, Finset.sum_congr rfl fun d _ => amount_cell m c iBar d, Finset.sum_const]
  rfl
theorem expect_dma (j : Fin 2 ⊕ (Fin 4 × Fin 31)) : (Rd (F := F) m).expect (cell c (.inr j)) 0 = amt (.inr j) := by
  unfold Schedule.expect Schedule.amountOf
  rw [duties_cell]
  show ∑ d ∈ ({0} : Finset (Fin 31)), _ = _
  rw [Finset.sum_singleton, amount_cell]
theorem rest_bar : bigSep ((Rd (F := F) m).duties (cell c iBar) 0 \ ∅) (fun d => (Rd (F := F) m).payload (cell c iBar) 0 d)
    = bigSep Finset.univ fun d => (slotsP (up c d) d : sProp 𝕄) := by
  rw [Finset.sdiff_empty, duties_cell]
  exact bigSep_congr fun d _ => payload_cell m c iBar d
theorem rest_dma (j : Fin 2 ⊕ (Fin 4 × Fin 31)) :
    bigSep ((Rd (F := F) m).duties (cell c (.inr j)) 0 \ ∅) (fun d => (Rd (F := F) m).payload (cell c (.inr j)) 0 d) = pay m c (.inr j) 0 := by
  rw [Finset.sdiff_empty, duties_cell]
  show bigSep ({0} : Finset (Fin 31)) _ = _
  rw [bigSep_singleton, payload_cell]
end Sched

/-! ## What is owed, and the levels -/

/-- The tallies of a list of steps, summed so that the first step's is the last summand. -/
def tal (f : Fin 31 → CellTallies nD τ sig Unit) : List (Fin 31) → CellTallies nD τ sig Unit
  | [] => 0
  | r :: l => tal f l + f r

abbrev barT (c : Dev nD) (r : Fin 31) : CellTallies nD τ sig Unit := tallyAt (cell (up c r) iBar) () 1
abbrev rsT (c : Dev nD) (r : Fin 31) : CellTallies nD τ sig Unit := tallyAt (cell (up c r) (iStep 1 r)) () NB
abbrev agT (c : Dev nD) (r : Fin 31) : CellTallies nD τ sig Unit := tallyAt (cell (up c r) (iStep 3 r)) () NB

/-- What device `c` owes: the all-gather's copies; those and the reduce-scatter's; those and the handshake's signals. -/
def OA (c : Dev nD) : CellTallies nD τ sig Unit := tal (agT c) steps
def OR (c : Dev nD) : CellTallies nD τ sig Unit := OA c + tal (rsT c) steps
def O₀ (c : Dev nD) : CellTallies nD τ sig Unit := OR c + tal (barT c) steps

theorem tal_pos {f : Fin 31 → CellTallies nD τ sig Unit} {l : List (Fin 31)} {g : GSem nD τ sig} {u : Unit} (h : 0 < tal f l g u) : ∃ r, 0 < f r g u := by
  induction l with
  | nil => exact absurd h (Nat.lt_irrefl 0)
  | cons r l ih =>
    rw [tal, Pi.add_apply, Finsupp.add_apply] at h
    rcases Nat.add_pos_iff_pos_or_pos.mp h with h | h
    · exact ih h
    · exact ⟨r, h⟩
theorem tally_pos {g g' : GSem nD τ sig} {k : ℕ} {u : Unit} (h : 0 < (tallyAt g () k : CellTallies nD τ sig Unit) g' u) : g' = g := by
  rw [tallyAt_apply] at h
  by_contra hn
  rw [if_neg fun h' => hn h'.1] at h
  exact Nat.lt_irrefl 0 h

def lvI : Ix → ℕ := fun
  | .inl _ => 1
  | .inr (.inr (1, _)) => 2
  | .inr (.inr (3, _)) => 3
  | _ => 0

def L (g : GSem nD τ sig) : Finset Unit := if g.1.2 = .tc then {()} else ∅
def lv (g : GSem nD τ sig) (_ : Unit) : ℕ := match decode g.2 with | some i => lvI i | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Ix) : lv (cell c i) () = lvI i := by unfold lv; rw [decode_csem]

theorem OA_pos {c : Dev nD} {g : GSem nD τ sig} {u : Unit} (h : 0 < OA c g u) : ∃ p i, g = cell p i ∧ 3 ≤ lvI i := by
  obtain ⟨r, h⟩ := tal_pos h
  exact ⟨_, _, tally_pos h, Nat.le_refl 3⟩
theorem OR_pos {c : Dev nD} {g : GSem nD τ sig} {u : Unit} (h : 0 < OR c g u) : ∃ p i, g = cell p i ∧ 2 ≤ lvI i := by
  rw [OR, Pi.add_apply, Finsupp.add_apply] at h
  rcases Nat.add_pos_iff_pos_or_pos.mp h with h | h
  · obtain ⟨p, i, h, h'⟩ := OA_pos h; exact ⟨p, i, h, by omega⟩
  · obtain ⟨r, h⟩ := tal_pos h
    exact ⟨_, _, tally_pos h, Nat.le_refl 2⟩
theorem O₀_pos {c : Dev nD} {g : GSem nD τ sig} {u : Unit} (h : 0 < O₀ c g u) : ∃ p i, g = cell p i ∧ 1 ≤ lvI i := by
  rw [O₀, Pi.add_apply, Finsupp.add_apply] at h
  rcases Nat.add_pos_iff_pos_or_pos.mp h with h | h
  · obtain ⟨p, i, h, h'⟩ := OR_pos h; exact ⟨p, i, h, by omega⟩
  · obtain ⟨r, h⟩ := tal_pos h
    exact ⟨_, _, tally_pos h, Nat.le_refl 1⟩

/-- A wait at a semaphore of level `n` while everything owed lies above. -/
theorem mayWait (c : Dev nD) (sm : SemLoc sig) (n : ℕ) (hn : lv ((c : Thread nD τ), sm) () ≤ n) (O : CellTallies nD τ sig Unit)
    (h : ∀ g u, 0 < O g u → ∃ p i, g = cell p i ∧ n < lvI i) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨p, i, rfl, -⟩ := h g u hg; rw [L_tc]; exact Finset.mem_singleton_self _)
    (fun p hp => by rw [Finset.mem_singleton.mp hp]; exact hn)
    (fun g u hg => by obtain ⟨p, i, rfl, hl⟩ := h g u hg; cases u; rw [lv_cell]; exact hl)

theorem mayWait_zero (c : Dev nD) (sm : SemLoc sig) : (levAts L lv : sProp 𝕄) ⊢ MayWait (c : Thread nD τ) sm () 0 := by
  rw [MayWait_zero]; iintro -; iempintro

end Cert.AllReduce

end
-- ==== Proof.Steps.lean ====
/-
# One step of each kind

The loop rules, and for every kind of step what it takes and what it leaves.
-/
module

public import proofs.«01_k».proof.Proof.Protocol
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Ix → ℕ)

/-- The invariant of every cell, that its round is reached, and the levels. -/
def env : sProp 𝕄 :=
  iprop((bigSep Finset.univ fun x : Dev nD × Ix => cellInv ER (Rd m) (K x) (cell x.1 x.2))
    ∗ (bigSep Finset.univ fun x : Dev nD × Ix => reached ER (cell x.1 x.2) 0) ∗ levAts L lv)
instance env_persistent : BI.Persistent (env m K) := by unfold env; infer_instance

theorem inv_at (x : Dev nD × Ix) :
    (bigSep Finset.univ fun x : Dev nD × Ix => (cellInv ER (Rd m) (K x) (cell x.1 x.2) : sProp 𝕄)) ⊢ cellInv ER (Rd m) (K x) (cell x.1 x.2) :=
  bigSep_elim (Finset.mem_univ x)
theorem reached_at (x : Dev nD × Ix) :
    (bigSep Finset.univ fun x : Dev nD × Ix => (reached ER (cell x.1 x.2) 0 : sProp 𝕄)) ⊢ reached ER (cell x.1 x.2) 0 :=
  bigSep_elim (Finset.mem_univ x)
theorem env_inv (c : Dev nD) (i : Ix) : env m K ⊢ cellInv ER (Rd m) (K (c, i)) (cell c i) := by
  unfold env; iintro ⟨H, -⟩
  iapply (inv_at m K (c, i))
  iexact H
theorem env_reached (c : Dev nD) (i : Ix) : env m K ⊢ reached ER (cell c i) 0 := by
  unfold env; iintro ⟨-, H, -⟩
  iapply (reached_at (c, i))
  iexact H
theorem env_lev : env m K ⊢ levAts L lv := by
  unfold env; iintro ⟨-, -, H⟩; iexact H

/-- Device `c` owes `O`, whatever it has waited for. -/
def owesS (c : Dev nD) (O : CellTallies nD τ sig Unit) : sProp 𝕄 := iprop(∃ W, owes (c : Thread nD τ) O W)

/-! ## The loop rules -/

theorem each_wp {I : Type} (c : Dev nD) (f : I → Prog (TpuEff nD τ sig (Elt F) Λ₀ .tc) PUnit) (Φ Ψ : I → sProp 𝕄) (J : List I → sProp 𝕄)
    (step : ∀ r l, iprop(Φ r ∗ J (r :: l)) ⊢ WP c (f r) fun _ => iprop(Ψ r ∗ J l)) :
    ∀ l, iprop(bigSepL l Φ ∗ J l) ⊢ WP c (each f l) fun _ => iprop(bigSepL l Ψ ∗ J [])
  | [] => by
    unfold each WP; rw [wp_pure]
    iintro H; imodintro; iexact H
  | r :: l => by
    unfold each WP; rw [wp_bind, bigSepL_cons', bigSepL_cons']
    iintro ⟨⟨Hr, Hl⟩, HJ⟩
    iapply (wp_wand _ _ _) $$ [Hr HJ]
    · iapply (step r l); isplitl [Hr] <;> iassumption
    iintro %u ⟨HΨ, HJ⟩
    iapply (wp_wand _ _ _) $$ [Hl HJ]
    · iapply (each_wp c f Φ Ψ J step l); isplitl [Hl] <;> iassumption
    iintro %u' ⟨Hl, HJ⟩
    isplitr [HJ]
    · isplitl [HΨ] <;> iassumption
    · iexact HJ

theorem eachA_wp {I A : Type} (c : Dev nD) (f : I → A → Prog (TpuEff nD τ sig (Elt F) Λ₀ .tc) A) (u : A → I → A) (Φ Ψ : I → sProp 𝕄) (J : List I → sProp 𝕄)
    (step : ∀ r l a, iprop(Φ r ∗ J (r :: l)) ⊢ WP c (f r a) fun b => iprop(⌜b = u a r⌝ ∗ Ψ r ∗ J l)) :
    ∀ l a, iprop(bigSepL l Φ ∗ J l) ⊢ WP c (eachA f l a) fun b => iprop(⌜b = l.foldl u a⌝ ∗ bigSepL l Ψ ∗ J [])
  | [], a => by
    unfold eachA WP; rw [wp_pure]
    iintro H; imodintro; isplitr; · (ipureintro; rfl)
    iexact H
  | r :: l, a => by
    unfold eachA WP; rw [wp_bind, bigSepL_cons', bigSepL_cons']
    iintro ⟨⟨Hr, Hl⟩, HJ⟩
    iapply (wp_wand _ _ _) $$ [Hr HJ]
    · iapply (step r l a); isplitl [Hr] <;> iassumption
    iintro %b ⟨%hb, HΨ, HJ⟩
    subst hb
    iapply (wp_wand _ _ _) $$ [Hl HJ]
    · iapply (eachA_wp c f u Φ Ψ J step l (u a r)); isplitl [Hl] <;> iassumption
    iintro %b' ⟨%hb', Hl, HJ⟩
    isplitr; · (ipureintro; exact hb')
    isplitr [HJ]
    · isplitl [HΨ] <;> iassumption
    · iexact HJ

/-! ## The credits -/

theorem credit_kv (s : Fin 2) : (kvDst s).view.dmaCredit = NL := rfl
theorem credit_rs (r : Fin 31) : (slot rsB r).view.dmaCredit = NB := rfl
theorem credit_ag (r : Fin 31) : (slot agB r).view.dmaCredit = NB := by unfold NB; rfl
theorem credit_src (c : Dev nD) (r : Fin 31) : (srcM c r).view.dmaCredit = NB := by unfold NB; rfl
theorem credit_sum : agM.view.dmaCredit = NB := by unfold NB; rfl

/-! ## Waits -/

set_option maxRecDepth 20000 in
/-- A wait at one of the device's own copy cells: the round's payload comes with it. -/
theorem wait_op (c : Dev nD) (j : Fin 2 ⊕ (Fin 4 × Fin 31)) (O : CellTallies nD τ sig Unit)
    (hm : (levAts L lv : sProp 𝕄) ⊢ MayWait (c : Thread nD τ) (csem (.inr j)) () O)
    (w : TpuEff nD τ sig (Elt F) Λ₀ .tc PUnit) (n : ℕ) (hn : n = amt (.inr j))
    (hw : ∀ Q : PUnit → sProp 𝕄, wpE (defs₀ (F := F)) 𝒱₀ (c : Thread nD τ) none Set.univ w Q = waitSpec (c : Thread nD τ) Set.univ (csem (.inr j)) n Q)
    {α : Type} (k : PUnit → Prog (TpuEff nD τ sig (Elt F) Λ₀ .tc) α) (Q : α → sProp 𝕄) :
    iprop(env m K ∗ owesS c O ∗ cred (tallyAt (cell c (.inr j)) () (amt (.inr j))) ∗ atPos ER (cell c (.inr j)) 0 ∅ 0)
      ⊢ iprop(((owesS c O ∗ atPos ER (cell c (.inr j)) (0 + 1) ∅ 0 ∗ pay m c (.inr j) 0)
          -∗ wp frame (wpE (defs₀ (F := F)) 𝒱₀ (c : Thread nD τ) none) Set.univ (k ⟨⟩) Q) -∗ wp frame (wpE (defs₀ (F := F)) 𝒱₀ (c : Thread nD τ) none) Set.univ (.op w k) Q) := by
  subst hn
  unfold owesS
  iintro ⟨#HE, ⟨%W, HO⟩, Hc, Ha⟩ Hk
  iapply (Rounds.wp_wait_rest_token 𝒱₀ ER (Rd m) (c : Thread nD τ) none (κ := K (c, .inr j)) hw (Set.mem_univ _) () (O := O) (W := W) (R := 0) (m := 0) (T := ∅)
      (by rw [Nat.zero_add, expect_dma])) $$ [Hc HO Ha]
  · isplitr; · iapply (env_inv m K c (.inr j)); iexact HE
    isplitl [Hc]; · iexact Hc
    isplitl [HO]; · iexact HO
    isplitr; · iapply ((env_lev m K).trans hm); iexact HE
    iexact Ha
  iintro ⟨HO, Ha, -, Hp⟩
  ihave Hp := (Entails.of_eq (rest_dma m c j)) $$ Hp
  iapply Hk
  isplitl [HO]; · iexists _; iexact HO
  isplitl [Ha] <;> iassumption

theorem duty_bar (c : Dev nD) (d : Fin 31) : d ∈ (Rd (F := F) m).duties (cell c iBar) 0 := by rw [duties_cell]; exact Finset.mem_univ _
theorem duty_dma (c : Dev nD) (j : Fin 2 ⊕ (Fin 4 × Fin 31)) : (0 : Fin 31) ∈ (Rd (F := F) m).duties (cell c (.inr j)) 0 := by rw [duties_cell]; exact Finset.mem_singleton_self _
theorem tal_cons (f : Fin 31 → CellTallies nD τ sig Unit) (r : Fin 31) (l : List (Fin 31)) : tal f (r :: l) = tal f l + f r := rfl

theorem whole_setOn {κ : Kind} (b : Ref sig κ) (S : Finset b.ty.shape.Idx) : (View.whole b).setOn S ⊆ S := by
  intro i hi
  obtain ⟨x, hx, rfl⟩ := Finset.mem_map.mp hi
  exact hx

theorem rsP_eq (c : Dev nD) (r : Fin 31) (f : (cc0_scratch6 : Ref sig .tc).ty.Contents (Elt F)) :
    rsP c r f = (((c : Thread nD τ).loc cc0_scratch6) ↦[(slotR r).set]{fullShare} f : sProp 𝕄) := by unfold rsP; rw [set_rs]
theorem agP_eq (c : Dev nD) (r : Fin 31) (f : (cc0_scratch7 : Ref sig .tc).ty.Contents (Elt F)) :
    agP c r f = (((c : Thread nD τ).loc cc0_scratch7) ↦[(slotR r).set]{fullShare} f : sProp 𝕄) := by unfold agP; rw [set_ag]

/-! ## The handshake -/

def barPre (c : Dev nD) (r : Fin 31) : sProp 𝕄 := iprop(dutyTok ER (cell (up c r) iBar) 0 (rev r) ∗ slotsP c (rev r))
def barJ (c : Dev nD) (l : List (Fin 31)) : sProp 𝕄 := iprop(env m K ∗ owesS c (OR c + tal (barT c) l))

set_option maxRecDepth 20000 in
theorem bar_step (c : Dev nD) (r : Fin 31) (l : List (Fin 31)) :
    iprop(barPre c r ∗ barJ m K c (r :: l)) ⊢ WP c (barStep c r) fun _ => iprop(emp ∗ barJ m K c l) := by
  unfold barStep WP barPre barJ owesS
  rw [bDev_eq]
  simp only [semSignalWord]
  iintro ⟨⟨Ht, Hs⟩, #HE, ⟨%W, HO⟩⟩
  iapply (Rounds.wp_signal 𝒱₀ ER (Rd m) (c : Thread nD τ) none (dst := (up c r : Thread nD τ)) (κ := K (up c r, iBar)) (r := 0)
      (d := rev r) (duty_bar m (up c r) (rev r)) ((amount_cell m (up c r) iBar (rev r)).trans (by decide)) () (O₀ := OR c + tal (barT c) (r :: l)) (OR c + tal (barT c) l)
      (add_assoc _ _ _).symm) $$ [HO Ht Hs]
  · isplitr; · iapply (env_inv m K (up c r) iBar); iexact HE
    isplitl [HO]; · iexact HO
    isplitl [Ht]; · iexact Ht
    isplitl [Hs]
    · iapply (Entails.of_eq ((payload_cell m (up c r) iBar (rev r)).trans (show slotsP (up (up c r) (rev r)) (rev r) = _ by rw [up_up_rev])).symm); iexact Hs
    · iapply (env_reached m K (up c r) iBar); iexact HE
  iintro HO
  rw [wp_ret]; imodintro
  isplitr; · iempintro
  isplitr; · iexact HE
  iexists _; iexact HO

set_option maxRecDepth 20000 in
theorem bar_wait (c : Dev nD) :
    iprop(env m K ∗ owesS c (OR c) ∗ cred (tallyAt (cell c iBar) () 31) ∗ atPos ER (cell c iBar) 0 ∅ 0)
      ⊢ WP c (semWaitWord barS 31#32) fun _ => iprop(owesS c (OR c) ∗ atPos ER (cell c iBar) (0 + 1) ∅ 0 ∗ bigSep Finset.univ fun d => slotsP (up c d) d) := by
  unfold owesS WP
  simp only [semWaitWord]
  iintro ⟨#HE, ⟨%W, HO⟩, Hc, Ha⟩
  iapply (Rounds.wp_wait_rest_token 𝒱₀ ER (Rd m) (c : Thread nD τ) none (κ := K (c, iBar)) (wpE_semWait_eq 𝒱₀ (c : Thread nD τ) none Set.univ) (Set.mem_univ _) ()
      (O := OR c) (W := W) (R := 0) (m := 0) (T := ∅) (by rw [expect_bar]; decide)) $$ [Hc HO Ha]
  · isplitr; · iapply (env_inv m K c iBar); iexact HE
    isplitl [Hc]; · iexact Hc
    isplitl [HO]; · iexact HO
    isplitr
    · iapply ((env_lev m K).trans (mayWait c (.reg barS) 1 (Nat.le_of_eq (lv_cell c iBar)) (OR c) fun g u h => OR_pos h)); iexact HE
    iexact Ha
  iintro ⟨HO, Ha, -, Hp⟩
  ihave Hp := (Entails.of_eq (rest_bar m c)) $$ Hp
  rw [wp_ret]; imodintro
  isplitl [HO]; · iexists _; iexact HO
  isplitl [Ha] <;> iassumption

/-! ## The copies between devices -/

theorem write_src (c : Dev nD) (r : Fin 31) (f : (cc0_scratch6 : Ref sig .tc).ty.Contents (Elt F)) :
    rsP (up c r) r ((slot rsB r).view.write (Elt F) f ((srcM c r).view.read (Elt F) (pbC m c)) Finset.univ) = rsP (up c r) r (rsC m (up c r)) := by
  unfold rsP
  exact pointsTo_congr (write_agree (Elt F) (slot rsB r).view f (rsC m (up c r)) _ (read_rs m c r))
theorem write_sum (c : Dev nD) (r : Fin 31) (f : (cc0_scratch7 : Ref sig .tc).ty.Contents (Elt F)) :
    agP (up c r) r ((slot agB r).view.write (Elt F) f (agM.view.read (Elt F) (agsC m c)) Finset.univ) = agP (up c r) r (agC m (up c r)) := by
  unfold agP
  exact pointsTo_congr (write_agree (Elt F) (slot agB r).view f (agC m (up c r)) _ (read_ag m c r))

def rsPre (c : Dev nD) (r : Fin 31) : sProp 𝕄 :=
  iprop(srcP m c r ∗ (∃ f, rsP (up c r) r f) ∗ dutyTok ER (cell c (iStep 0 r)) 0 0 ∗ dutyTok ER (cell (up c r) (iStep 1 r)) 0 0)
def rsJ (c : Dev nD) (l : List (Fin 31)) : sProp 𝕄 := iprop(env m K ∗ owesS c (OA c + tal (rsT c) l))

set_option maxRecDepth 20000 in
theorem wp_rs (c p : Dev nD) (r : Fin 31) (l : List (Fin 31)) (hp : p = up c r)
    {hsc : (slot rsB r).view.ref.isScScratch = false} {hsrc : (srcM c r).view.WordExact} {hdst : (slot rsB r).view.WordExact}
    {hsem : DmaTarget.Typed .vmem (.dma (semAt cc0_scratch10 r)) (.remote (Dev.tc p : Thread nD τ) (slot rsB r) (.dma (semAt cc0_scratch9 r)) hsc)}
    {α : Type} {Q : α → sProp 𝕄} {k : PUnit → Prog (TpuEff nD τ sig (Elt F) Λ₀ .tc) α} (f) (W : Waits sig Unit) :
    iprop(cellInv ER (Rd m) (K (c, iStep 0 r)) (cell c (iStep 0 r)) ∗ cellInv ER (Rd m) (K (up c r, iStep 1 r)) (cell (up c r) (iStep 1 r))
        ∗ srcP m c r ∗ rsP (up c r) r f ∗ owes (c : Thread nD τ) (OA c + tal (rsT c) (r :: l)) W
        ∗ dutyTok ER (cell c (iStep 0 r)) 0 0 ∗ reached ER (cell c (iStep 0 r)) 0
        ∗ dutyTok ER (cell (up c r) (iStep 1 r)) 0 0 ∗ reached ER (cell (up c r) (iStep 1 r)) 0)
      ⊢ iprop(((cred (tallyAt (cell c (iStep 0 r)) () NB) ∗ owes (c : Thread nD τ) (OA c + tal (rsT c) l) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (srcM c r) (.remote (Dev.tc p : Thread nD τ) (slot rsB r) (.dma (semAt cc0_scratch9 r)) hsc) (.dma (semAt cc0_scratch10 r)) hsrc hdst hsem) k) Q) := by
  subst hp
  unfold srcP rsP
  have h1 := duty_dma m c (.inr (0, r))
  have h2 := duty_dma m (up c r) (.inr (1, r))
  have h3 := amount_cell m c (iStep 0 r) 0
  have h4 := amount_cell m (up c r) (iStep 1 r) 0
  have hO : (OA c + tal (rsT c) (r :: l) : CellTallies nD τ sig Unit) = OA c + tal (rsT c) l + tallyAt (cell (up c r) (iStep 1 r)) () NB := (by rw [tal_cons, add_assoc])
  have p1 := Entails.of_eq (payload_cell m c (iStep 0 r) 0).symm
  have p2 := Entails.of_eq ((write_src m c r f).trans (payload_cell m (up c r) (iStep 1 r) 0).symm)
  exact Rounds.wp_send_pointsTo (src := srcM c r) (dst := slot rsB r) (sS := .dma (semAt cc0_scratch9 r)) (sem := .dma (semAt cc0_scratch10 r)) 𝒱₀ ER (Rd m) (c : Thread nD τ) none
    (c' := (up c r : Thread nD τ)) (κ₁ := K (c, iStep 0 r)) (κ₂ := K (up c r, iStep 1 r)) (r₁ := 0) (r₂ := 0) (d₁ := 0) (d₂ := 0)
    (fs := pbC m c) (fd := f) (q := fullShare) h1 h2 () () NB (credit_rs r) h3 h4 (OA c + tal (rsT c) l) hO (W := W) p1 p2

set_option maxRecDepth 20000 in
theorem rs_send (c p : Dev nD) (r : Fin 31) (l : List (Fin 31)) (hp : p = up c r)
    {hsc : (slot rsB r).view.ref.isScScratch = false} {hsrc : (srcM c r).view.WordExact} {hdst : (slot rsB r).view.WordExact}
    {hsem : DmaTarget.Typed .vmem (.dma (semAt cc0_scratch10 r)) (.remote (Dev.tc p : Thread nD τ) (slot rsB r) (.dma (semAt cc0_scratch9 r)) hsc)} :
    iprop(rsPre m c r ∗ rsJ m K c (r :: l)) ⊢ wp frame (wpE (defs₀ (F := F)) 𝒱₀ (c : Thread nD τ) none) Set.univ
          (.op (.enqueueDma (srcM c r) (.remote (Dev.tc p : Thread nD τ) (slot rsB r) (.dma (semAt cc0_scratch9 r)) hsc) (.dma (semAt cc0_scratch10 r)) hsrc hdst hsem) .ret)
          fun _ => iprop(cred (tallyAt (cell c (iStep 0 r)) () NB) ∗ rsJ m K c l) := by
  unfold rsPre rsJ owesS
  iintro ⟨⟨Hs, ⟨%f, Hd⟩, Ht1, Ht2⟩, #HE, ⟨%W, HO⟩⟩
  iapply (wp_rs m K c p r l hp f W) $$ [Hs Hd HO Ht1 Ht2]
  · isplitr; · iapply (env_inv m K c (iStep 0 r)); iexact HE
    isplitr; · iapply (env_inv m K (up c r) (iStep 1 r)); iexact HE
    isplitl [Hs]; · iexact Hs
    isplitl [Hd]; · iexact Hd
    isplitl [HO]; · iexact HO
    isplitl [Ht1]; · iexact Ht1
    isplitr; · iapply (env_reached m K c (iStep 0 r)); iexact HE
    isplitl [Ht2]; · iexact Ht2
    iapply (env_reached m K (up c r) (iStep 1 r)); iexact HE
  iintro ⟨Hc, HO⟩
  rw [wp_ret]; imodintro
  isplitl [Hc]; · iexact Hc
  isplitr; · iexact HE
  iexists _; iexact HO

set_option maxRecDepth 20000 in
theorem rs_step (c : Dev nD) (r : Fin 31) (l : List (Fin 31)) :
    iprop(rsPre m c r ∗ rsJ m K c (r :: l)) ⊢ WP c (rsStep c r) fun _ => iprop(cred (tallyAt (cell c (iStep 0 r)) () NB) ∗ rsJ m K c l) := by
  unfold rsStep Prog.lift
  exact rs_send m K c _ r l (rsDev_eq c r)

def agPre (c : Dev nD) (r : Fin 31) : sProp 𝕄 :=
  iprop(shP m c r ∗ (∃ f, agP (up c r) r f) ∗ dutyTok ER (cell c (iStep 2 r)) 0 0 ∗ dutyTok ER (cell (up c r) (iStep 3 r)) 0 0)
def agJ (c : Dev nD) (l : List (Fin 31)) : sProp 𝕄 := iprop(env m K ∗ owesS c (tal (agT c) l))

set_option maxRecDepth 20000 in
theorem wp_ag (c p : Dev nD) (r : Fin 31) (l : List (Fin 31)) (hp : p = up c r)
    {hsc : (slot agB r).view.ref.isScScratch = false} {hsrc : agM.view.WordExact} {hdst : (slot agB r).view.WordExact}
    {hsem : DmaTarget.Typed .vmem (.dma (semAt cc0_scratch12 r)) (.remote (Dev.tc p : Thread nD τ) (slot agB r) (.dma (semAt cc0_scratch11 r)) hsc)}
    {α : Type} {Q : α → sProp 𝕄} {k : PUnit → Prog (TpuEff nD τ sig (Elt F) Λ₀ .tc) α} (f) (W : Waits sig Unit) :
    iprop(cellInv ER (Rd m) (K (c, iStep 2 r)) (cell c (iStep 2 r)) ∗ cellInv ER (Rd m) (K (up c r, iStep 3 r)) (cell (up c r) (iStep 3 r))
        ∗ shP m c r ∗ agP (up c r) r f ∗ owes (c : Thread nD τ) (tal (agT c) (r :: l)) W
        ∗ dutyTok ER (cell c (iStep 2 r)) 0 0 ∗ reached ER (cell c (iStep 2 r)) 0
        ∗ dutyTok ER (cell (up c r) (iStep 3 r)) 0 0 ∗ reached ER (cell (up c r) (iStep 3 r)) 0)
      ⊢ iprop(((cred (tallyAt (cell c (iStep 2 r)) () NB) ∗ owes (c : Thread nD τ) (tal (agT c) l) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (agM) (.remote (Dev.tc p : Thread nD τ) (slot agB r) (.dma (semAt cc0_scratch11 r)) hsc) (.dma (semAt cc0_scratch12 r)) hsrc hdst hsem) k) Q) := by
  subst hp
  unfold shP agP
  have h1 := duty_dma m c (.inr (2, r))
  have h2 := duty_dma m (up c r) (.inr (3, r))
  have h3 := amount_cell m c (iStep 2 r) 0
  have h4 := amount_cell m (up c r) (iStep 3 r) 0
  have hO : (tal (agT c) (r :: l) : CellTallies nD τ sig Unit) = tal (agT c) l + tallyAt (cell (up c r) (iStep 3 r)) () NB := (tal_cons _ _ _)
  have p1 := Entails.of_eq (payload_cell m c (iStep 2 r) 0).symm
  have p2 := Entails.of_eq ((write_sum m c r f).trans (payload_cell m (up c r) (iStep 3 r) 0).symm)
  exact Rounds.wp_send_pointsTo (src := agM) (dst := slot agB r) (sS := .dma (semAt cc0_scratch11 r)) (sem := .dma (semAt cc0_scratch12 r)) 𝒱₀ ER (Rd m) (c : Thread nD τ) none
    (c' := (up c r : Thread nD τ)) (κ₁ := K (c, iStep 2 r)) (κ₂ := K (up c r, iStep 3 r)) (r₁ := 0) (r₂ := 0) (d₁ := 0) (d₂ := 0)
    (fs := agsC m c) (fd := f) (q := Transfers.dealOf fullShare Finset.univ r) h1 h2 () () NB (credit_ag r) h3 h4 (tal (agT c) l) hO (W := W) p1 p2

set_option maxRecDepth 20000 in
theorem ag_send (c p : Dev nD) (r : Fin 31) (l : List (Fin 31)) (hp : p = up c r)
    {hsc : (slot agB r).view.ref.isScScratch = false} {hsrc : agM.view.WordExact} {hdst : (slot agB r).view.WordExact}
    {hsem : DmaTarget.Typed .vmem (.dma (semAt cc0_scratch12 r)) (.remote (Dev.tc p : Thread nD τ) (slot agB r) (.dma (semAt cc0_scratch11 r)) hsc)} :
    iprop(agPre m c r ∗ agJ m K c (r :: l)) ⊢ wp frame (wpE (defs₀ (F := F)) 𝒱₀ (c : Thread nD τ) none) Set.univ
          (.op (.enqueueDma (agM) (.remote (Dev.tc p : Thread nD τ) (slot agB r) (.dma (semAt cc0_scratch11 r)) hsc) (.dma (semAt cc0_scratch12 r)) hsrc hdst hsem) .ret)
          fun _ => iprop(cred (tallyAt (cell c (iStep 2 r)) () NB) ∗ agJ m K c l) := by
  unfold agPre agJ owesS
  iintro ⟨⟨Hs, ⟨%f, Hd⟩, Ht1, Ht2⟩, #HE, ⟨%W, HO⟩⟩
  iapply (wp_ag m K c p r l hp f W) $$ [Hs Hd HO Ht1 Ht2]
  · isplitr; · iapply (env_inv m K c (iStep 2 r)); iexact HE
    isplitr; · iapply (env_inv m K (up c r) (iStep 3 r)); iexact HE
    isplitl [Hs]; · iexact Hs
    isplitl [Hd]; · iexact Hd
    isplitl [HO]; · iexact HO
    isplitl [Ht1]; · iexact Ht1
    isplitr; · iapply (env_reached m K c (iStep 2 r)); iexact HE
    isplitl [Ht2]; · iexact Ht2
    iapply (env_reached m K (up c r) (iStep 3 r)); iexact HE
  iintro ⟨Hc, HO⟩
  rw [wp_ret]; imodintro
  isplitl [Hc]; · iexact Hc
  isplitr; · iexact HE
  iexists _; iexact HO

set_option maxRecDepth 20000 in
theorem ag_step (c : Dev nD) (r : Fin 31) (l : List (Fin 31)) :
    iprop(agPre m c r ∗ agJ m K c (r :: l)) ⊢ WP c (agStep c r) fun _ => iprop(cred (tallyAt (cell c (iStep 2 r)) () NB) ∗ agJ m K c l) := by
  unfold agStep Prog.lift
  exact ag_send m K c _ r l (agDev_eq c r)

/-! ## The arrivals -/

/-- The credit a device holds of its cell, and its position before the wait. -/
def due (c : Dev nD) (j : Fin 2 ⊕ (Fin 4 × Fin 31)) : sProp 𝕄 := iprop(cred (tallyAt (cell c (.inr j)) () (amt (.inr j))) ∗ atPos ER (cell c (.inr j)) 0 ∅ 0)
/-- Its position after it, and what the wait gave. -/
def got (c : Dev nD) (j : Fin 2 ⊕ (Fin 4 × Fin 31)) : sProp 𝕄 := iprop(atPos ER (cell c (.inr j)) (0 + 1) ∅ 0 ∗ pay m c (.inr j) 0)
def envJ (c : Dev nD) (O : CellTallies nD τ sig Unit) (_ : List (Fin 31)) : sProp 𝕄 := iprop(env m K ∗ owesS c O)

theorem mayWait_OA (c : Dev nD) (i : Ix) (hi : lvI i ≤ 2) : (levAts L lv : sProp 𝕄) ⊢ MayWait (c : Thread nD τ) (csem i) () (OA c) :=
  mayWait c (csem i) 2 (by rw [lv_cell]; exact hi) (OA c) fun g u h => OA_pos h

set_option maxRecDepth 20000 in
theorem acc_step (c : Dev nD) (r : Fin 31) (l : List (Fin 31)) (a : FVec F S32x1024 .f32) :
    iprop(due c (.inr (1, r)) ∗ envJ m K c (OA c) (r :: l))
      ⊢ WP c (accStep r a) fun b => iprop(⌜b = addf a (extf .f32 (shapeCast S32x1024 (rsB.view.readAt (Elt F) (slotR r).toLoadRect (rsC m c) : Vec F S1x32x1024 .bf16)
          shapeCasts_S1x32x1024_S32x1024) bitsLt_bf16_f32)⌝ ∗ got m c (.inr (1, r)) ∗ envJ m K c (OA c) l) := by
  unfold accStep WP due got envJ
  simp only [Prog.lift, Prog.bind_op, Prog.bind_ret, Prog.pure_eq_ret]
  iintro ⟨⟨Hc, Ha⟩, #HE, HO⟩
  iapply (wait_op m K c (.inr (1, r)) (OA c) (mayWait_OA c (iStep 1 r) (Nat.le_refl 2)) _ _ (credit_rs r) (wpE_waitDma2_eq 𝒱₀ (c : Thread nD τ) none Set.univ)) $$ [Hc Ha HO]
  · isplitr; · iexact HE
    isplitl [HO]; · iexact HO
    isplitl [Hc] <;> iassumption
  iintro ⟨HO, Ha, Hp⟩
  ihave Hp := (Entails.of_eq (show pay m c (.inr (.inr (1, r))) 0 = _ from rsP_eq c r (rsC m c))) $$ Hp
  iapply (wp_load 𝒱₀ (c : Thread nD τ) none Set.univ (m := rsB) (whole_setOn _ _)) $$ Hp; iintro Hp
  rw [wp_ret]; imodintro
  isplitr; · (ipureintro; rfl)
  isplitl [Ha Hp]
  · isplitl [Ha]; · iexact Ha
    iapply (Entails.of_eq (show pay m c (.inr (.inr (1, r))) 0 = _ from rsP_eq c r (rsC m c)).symm); iexact Hp
  isplitr; · iexact HE
  iexact HO

set_option maxRecDepth 20000 in
theorem rs_done (c : Dev nD) (r : Fin 31) (l : List (Fin 31)) :
    iprop(due c (.inr (0, r)) ∗ envJ m K c (OA c) (r :: l)) ⊢ WP c (rsDone c r) fun _ => iprop(got m c (.inr (0, r)) ∗ envJ m K c (OA c) l) := by
  unfold rsDone WP due got envJ Prog.lift
  iintro ⟨⟨Hc, Ha⟩, #HE, HO⟩
  iapply (wait_op m K c (.inr (0, r)) (OA c) (mayWait_OA c (iStep 0 r) (Nat.zero_le 2)) _ _ (credit_src c r) (wpE_waitDma2_eq 𝒱₀ (c : Thread nD τ) none Set.univ)) $$ [Hc Ha HO]
  · isplitr; · iexact HE
    isplitl [HO]; · iexact HO
    isplitl [Hc] <;> iassumption
  iintro ⟨HO, Hg⟩
  rw [wp_ret]; imodintro
  isplitl [Hg]; · iexact Hg
  isplitr; · iexact HE
  iexact HO

set_option maxRecDepth 20000 in
theorem ag_done (c : Dev nD) (r : Fin 31) (l : List (Fin 31)) :
    iprop(due c (.inr (2, r)) ∗ envJ m K c 0 (r :: l)) ⊢ WP c (agDone r) fun _ => iprop(got m c (.inr (2, r)) ∗ envJ m K c 0 l) := by
  unfold agDone WP due got envJ Prog.lift
  iintro ⟨⟨Hc, Ha⟩, #HE, HO⟩
  iapply (wait_op m K c (.inr (2, r)) 0 (mayWait_zero c _) _ _ credit_sum (wpE_waitDma2_eq 𝒱₀ (c : Thread nD τ) none Set.univ)) $$ [Hc Ha HO]
  · isplitr; · iexact HE
    isplitl [HO]; · iexact HO
    isplitl [Hc] <;> iassumption
  iintro ⟨HO, Hg⟩
  rw [wp_ret]; imodintro
  isplitl [Hg]; · iexact Hg
  isplitr; · iexact HE
  iexact HO

/-- The result's buffer, right everywhere but on the rows of the steps of a list. -/
def outJ (c : Dev nD) (l : List (Fin 31)) : sProp 𝕄 :=
  iprop(envJ m K c 0 l ∗ ∃ f : (cc0_stg3_0 : Ref sig .tc).ty.Contents (Elt F), ⌜∀ i : S1x1024x1024.Idx, (∀ r ∈ l, i ∉ (rows3R (dn c r)).set) → f i = outC m c i⌝
    ∗ (((c : Thread nD τ).loc cc0_stg3_0) ↦{fullShare} f))

theorem out_read {off off' : Fin 3 → Nat} (e : off = off') (h : ∀ a, off a + S1x32x1024.size a ≤ S1x1024x1024.size a) (h' : ∀ a, off' a + S1x32x1024.size a ≤ S1x1024x1024.size a)
    (f : (cc0_stg3_0 : Ref sig .tc).ty.Contents (Elt F)) : ((outM.access (Rect.unit (s := S1x1024x1024) off S1x32x1024.size h)).read (Elt F) f : S1x32x1024.Idx → F .f32)
      = (outM.access (Rect.unit (s := S1x1024x1024) off' S1x32x1024.size h')).read (Elt F) f := by
  subst e; rfl

theorem out_store (c : Dev nD) (r : Fin 31) (l : List (Fin 31)) (f : (cc0_stg3_0 : Ref sig .tc).ty.Contents (Elt F))
    (hf : ∀ i : S1x1024x1024.Idx, (∀ r' ∈ r :: l, i ∉ (rows3R (dn c r')).set) → f i = outC m c i) :
    ∀ i : S1x1024x1024.Idx, (∀ r' ∈ l, i ∉ (rows3R (dn c r')).set) →
      (outM.access (Rect.unit (s := S1x1024x1024) (k0_off5 c (BitVec.ofNat 32 (1 + r.val))) S1x32x1024.size (k0_off5_inb c r))).write (Elt F) f
        (shapeCast S1x32x1024 (extf .f32 (shapeCast S32x1024 (agB.view.readAt (Elt F) (slotR r).toLoadRect (agC m c) : Vec F S1x32x1024 .bf16) shapeCasts_S1x32x1024_S32x1024) bitsLt_bf16_f32 : FVec F S32x1024 .f32)
          shapeCasts_S32x1024_S1x32x1024) Finset.univ i = outC m c i := by
  intro i hi
  refine write_agree_union (Elt F) (outM.access (Rect.unit (s := S1x1024x1024) (k0_off5 c (BitVec.ofNat 32 (1 + r.val))) S1x32x1024.size (k0_off5_inb c r))) f (outC m c) _
    (Finset.univ.filter fun i : S1x1024x1024.Idx => ∀ r' ∈ r :: l, i ∉ (rows3R (dn c r')).set) (fun i hi => hf i (Finset.mem_filter.mp hi).2) ?_ i ?_
  · exact (out_read (off5_eq c r) _ (rows3_inb (dn c r)) _).trans (read_other m c r)
  · rw [show (outM.access (Rect.unit (s := S1x1024x1024) (k0_off5 c (BitVec.ofNat 32 (1 + r.val))) S1x32x1024.size (k0_off5_inb c r))).set = (rows3R (dn c r)).set from
      by rw [out_rect]; exact whole_slice_set cc0_stg3_0 (rows3R (dn c r))]
    by_cases h : i ∈ (rows3R (dn c r)).set
    · exact Or.inr h
    · refine Or.inl (Finset.mem_filter.mpr ⟨Finset.mem_univ _, fun r' hr' => ?_⟩)
      rcases List.mem_cons.mp hr' with rfl | hr'
      · exact h
      · exact hi r' hr'

set_option maxRecDepth 20000 in
theorem out_step (c : Dev nD) (r : Fin 31) (l : List (Fin 31)) :
    iprop(due c (.inr (3, r)) ∗ outJ m K c (r :: l)) ⊢ WP c (outStep c r) fun _ => iprop(got m c (.inr (3, r)) ∗ outJ m K c l) := by
  unfold outStep WP due got outJ envJ
  simp only [Prog.lift, Prog.bind_op, Prog.bind_ret, Prog.pure_eq_ret]
  iintro ⟨⟨Hc, Ha⟩, ⟨#HE, HO⟩, ⟨%f, %hf, Hout⟩⟩
  iapply (wait_op m K c (.inr (3, r)) 0 (mayWait_zero c _) _ _ (credit_ag r) (wpE_waitDma2_eq 𝒱₀ (c : Thread nD τ) none Set.univ)) $$ [Hc Ha HO]
  · isplitr; · iexact HE
    isplitl [HO]; · iexact HO
    isplitl [Hc] <;> iassumption
  iintro ⟨HO, Ha, Hp⟩
  ihave Hp := (Entails.of_eq (show pay m c (.inr (.inr (3, r))) 0 = _ from agP_eq c r (agC m c))) $$ Hp
  iapply (wp_load 𝒱₀ (c : Thread nD τ) none Set.univ (m := agB) (whole_setOn _ _)) $$ Hp; iintro Hp
  iapply (wp_load 𝒱₀ (c : Thread nD τ) none Set.univ (m := outM) (Finset.subset_univ _)) $$ Hout; iintro Hout
  iapply (wp_store 𝒱₀ (c : Thread nD τ) none Set.univ (m := outM) (r := Rect.unit (s := S1x1024x1024) (k0_off5 c (BitVec.ofNat 32 (1 + r.val))) S1x32x1024.size (k0_off5_inb c r)) (Mk := Finset.univ) (Finset.subset_univ _)) $$ Hout; iintro Hout
  rw [wp_ret]; imodintro
  isplitl [Ha Hp]
  · isplitl [Ha]; · iexact Ha
    iapply (Entails.of_eq (show pay m c (.inr (.inr (3, r))) 0 = _ from agP_eq c r (agC m c)).symm); iexact Hp
  isplitl [HO]
  · isplitr; · iexact HE
    iexact HO
  iexists _
  isplitr
  · ipureintro
    exact out_store m c r l f hf
  iexact Hout

end Cert.AllReduce

end
-- ==== Proof.Local.lean ====
/-
# The part of the body that talks to no other device

The keys and values are copied in, the queries computed, each head attended, the partial product stored.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Ix → ℕ)

/-- A buffer of device `c`, held whole. -/
abbrev buf (c : Dev nD) (b : Ref sig .tc) (f : b.ty.Contents (Elt F)) : sProp 𝕄 := (((c : Thread nD τ).loc b) ↦{fullShare} f)

theorem buf_eq {c : Dev nD} {b : Ref sig .tc} {f g : b.ty.Contents (Elt F)} (h : f = g) : (buf c b f : sProp 𝕄) ⊢ buf c b g := Entails.of_eq (by rw [h])

/-! ## What the stores write -/

theorem hz2 : (![0, 0] : Fin 2 → Nat) = fun _ => 0 := by funext a; fin_cases a <;> rfl
theorem hz3 : (![0, 0, 0] : Fin 3 → Nat) = fun _ => 0 := by funext a; fin_cases a <;> rfl

theorem cast_same {α : Type} {s : Shape} (f : s.Idx → α) (h : s.ShapeCasts s) : shapeCast s f h = f := by
  funext x
  exact congrArg f (Shape.reshapeEquiv_eq_of_rowMajor _ rfl)

abbrev allR : Rect S1024x1024 := Rect.unit (s := S1024x1024) ![0, 0] S1024x1024.size inb_S1024x1024_S1024x1024_0_0
abbrev allX : Rect S1x1024x1024 := Rect.unit (s := S1x1024x1024) ![0, 0, 0] S1x1024x1024.size inb_S1x1024x1024_S1x1024x1024_0_0_0

theorem q_store (c : Dev nD) (f : (cc0_scratch1 : Ref sig .tc).ty.Contents (Elt F)) :
    (qM.access allR).write (Elt F) f (shapeCast S1024x1024 (qProj (xM.view.readAt (Elt F) allX.toLoadRect (xC m c)) (wqM.view.readAt (Elt F) allR.toLoadRect (wqC m c)))
      shapeCasts_S1024x1024_S1024x1024) Finset.univ = qC m c := by
  rw [cast_same]
  refine (Memref.write_access_unit_zero_univ (Elt F) cc0_scratch1 hz2 _ f _).trans ?_
  unfold qC
  exact congrArg₂ qProj (Memref.readAt_unit_zero (Elt F) cc0_stg0_0 hz3 _ _) (Memref.readAt_unit_zero (Elt F) cc0_stg1_0 hz2 _ _)

theorem p_value (c : Dev nD) : outProj (ctxM.view.readAt (Elt F) allR.toLoadRect (ctxC m c)) (woM.view.readAt (Elt F) allR.toLoadRect (woC m c)) = pfC m c := by
  unfold pfC
  exact congrArg₂ outProj (Memref.readAt_unit_zero (Elt F) cc0_scratch2 hz2 _ _) (Memref.readAt_unit_zero (Elt F) cc0_stg2_0 hz2 _ _)

theorem pf_store (c : Dev nD) (f : (cc0_scratch3 : Ref sig .tc).ty.Contents (Elt F)) :
    (pfM.access allR).write (Elt F) f (shapeCast S1024x1024 (outProj (ctxM.view.readAt (Elt F) allR.toLoadRect (ctxC m c)) (woM.view.readAt (Elt F) allR.toLoadRect (woC m c)))
      shapeCasts_S1024x1024_S1024x1024) Finset.univ = pfC m c := by
  rw [cast_same, p_value]
  exact Memref.write_access_unit_zero_univ (Elt F) cc0_scratch3 hz2 _ f _

theorem pb_store (c : Dev nD) (f : (cc0_scratch4 : Ref sig .tc).ty.Contents (Elt F)) :
    (pbM.access allR).write (Elt F) f (shapeCast S1024x1024 (truncf .bf16 (outProj (ctxM.view.readAt (Elt F) allR.toLoadRect (ctxC m c)) (woM.view.readAt (Elt F) allR.toLoadRect (woC m c))) bitsLt_bf16_f32)
      shapeCasts_S1024x1024_S1024x1024) Finset.univ = pbC m c := by
  rw [cast_same, p_value]
  exact Memref.write_access_unit_zero_univ (Elt F) cc0_scratch4 hz2 _ f _

/-! ## The heads -/

/-- The result of the heads, right everywhere but on the columns of the heads of a list. -/
def ctxJ (c : Dev nD) (l : List (Fin 8)) : sProp 𝕄 :=
  iprop(buf c cc0_scratch1 (qC m c) ∗ kvP c 0 (kvC m c) ∗ kvP c 1 (kvC m c)
    ∗ ∃ f : (cc0_scratch2 : Ref sig .tc).ty.Contents (Elt F), ⌜∀ i : S1024x1024.Idx, (∀ h ∈ l, i ∉ (headR h).set) → f i = ctxC m c i⌝ ∗ buf c cc0_scratch2 f)

theorem kv_sub (s : Fin 2) (h : Fin 8) : kvM.view.setOn (kvhR s h).set ⊆ (kvDst s).view.set := by
  rw [set_kv]; exact (whole_setOn _ _).trans (kvh_subset s h)

theorem ctx_store (c : Dev nD) (h : Fin 8) (l : List (Fin 8)) (f : (cc0_scratch2 : Ref sig .tc).ty.Contents (Elt F))
    (hf : ∀ i : S1024x1024.Idx, (∀ h' ∈ h :: l, i ∉ (headR h').set) → f i = ctxC m c i) :
    ∀ i : S1024x1024.Idx, (∀ h' ∈ l, i ∉ (headR h').set) →
      (ctxM.access (headR h)).write (Elt F) f (shapeCast S1024x128 (headF mask (qM.view.readAt (Elt F) (headR h).toLoadRect (qC m c)) (kvM.view.readAt (Elt F) (kvhR 0 h).toLoadRect (kvC m c))
        (kvM.view.readAt (Elt F) (kvhR 1 h).toLoadRect (kvC m c))) shapeCasts_S1024x128_S1024x128) Finset.univ i = ctxC m c i := by
  intro i hi
  refine write_agree_union (Elt F) (ctxM.access (headR h)) f (ctxC m c) _ (Finset.univ.filter fun i : S1024x1024.Idx => ∀ h' ∈ h :: l, i ∉ (headR h').set)
    (fun i hi => hf i (Finset.mem_filter.mp hi).2) (read_ctx m c h) i ?_
  rw [show (ctxM.access (headR h)).set = (headR h).set from whole_slice_set cc0_scratch2 (headR h)]
  by_cases hh : i ∈ (headR h).set
  · exact Or.inr hh
  · refine Or.inl (Finset.mem_filter.mpr ⟨Finset.mem_univ _, fun h' hh' => ?_⟩)
    rcases List.mem_cons.mp hh' with rfl | hh'
    · exact hh
    · exact hi h' hh'

set_option maxRecDepth 20000 in
theorem head_step (c : Dev nD) (h : Fin 8) (l : List (Fin 8)) :
    iprop(emp ∗ ctxJ m c (h :: l)) ⊢ WP c (headStep h) fun _ => iprop(emp ∗ ctxJ m c l) := by
  unfold headStep WP ctxJ kvP
  simp only [Prog.lift, Prog.bind_op, Prog.bind_ret, Prog.pure_eq_ret]
  iintro ⟨-, Hq, Hk, Hv, ⟨%f, %hf, Hx⟩⟩
  iapply (wp_load 𝒱₀ (c : Thread nD τ) none Set.univ (m := qM) (Finset.subset_univ _)) $$ Hq; iintro Hq
  iapply (wp_load 𝒱₀ (c : Thread nD τ) none Set.univ (m := kvM) (kv_sub 0 h)) $$ Hk; iintro Hk
  iapply (wp_load 𝒱₀ (c : Thread nD τ) none Set.univ (m := kvM) (kv_sub 1 h)) $$ Hv; iintro Hv
  iapply (wp_load 𝒱₀ (c : Thread nD τ) none Set.univ (m := ctxM) (Finset.subset_univ _)) $$ Hx; iintro Hx
  iapply (wp_store 𝒱₀ (c : Thread nD τ) none Set.univ (m := ctxM) (r := headR h) (Mk := Finset.univ) (Finset.subset_univ _)) $$ Hx; iintro Hx
  rw [wp_ret]; imodintro
  isplitr; · iempintro
  isplitl [Hq]; · iexact Hq
  isplitl [Hk]; · iexact Hk
  isplitl [Hv]; · iexact Hv
  iexists _
  isplitr
  · ipureintro
    exact ctx_store m c h l f hf
  iexact Hx

theorem heads_all (i : S1024x1024.Idx) : ∃ h ∈ heads, i ∈ (headR h).set := by
  have hi : i ∈ Finset.univ.biUnion (fun h : Fin 8 => (headR h).set) := by rw [heads_cover]; exact Finset.mem_univ _
  obtain ⟨h, -, hh⟩ := Finset.mem_biUnion.mp hi
  exact ⟨h, (by decide : ∀ h : Fin 8, h ∈ heads) h, hh⟩

set_option maxRecDepth 20000 in
theorem heads_wp (c : Dev nD) :
    iprop(buf c cc0_scratch1 (qC m c) ∗ kvP c 0 (kvC m c) ∗ kvP c 1 (kvC m c) ∗ ∃ f, buf c cc0_scratch2 f)
      ⊢ WP c (each headStep heads) fun _ => iprop(buf c cc0_scratch1 (qC m c) ∗ kvP c 0 (kvC m c) ∗ kvP c 1 (kvC m c) ∗ buf c cc0_scratch2 (ctxC m c)) := by
  iintro ⟨Hq, Hk, Hv, ⟨%f, Hx⟩⟩
  iapply (wp_wand _ _ _) $$ [Hq Hk Hv Hx]
  · iapply (each_wp c headStep (fun _ => iprop(emp)) (fun _ => iprop(emp)) (ctxJ m c) (head_step m c) heads)
    isplitr
    · simp only [bigSepL_cons', bigSepL_nil]
      repeat (isplitr; · iempintro)
      iempintro
    unfold ctxJ
    isplitl [Hq]; · iexact Hq
    isplitl [Hk]; · iexact Hk
    isplitl [Hv]; · iexact Hv
    iexists f
    isplitr
    · ipureintro
      intro i hi
      obtain ⟨h, hm, hh⟩ := heads_all i
      exact absurd hh (hi h hm)
    iexact Hx
  unfold ctxJ
  iintro %u ⟨-, Hq, Hk, Hv, ⟨%g, %hg, Hx⟩⟩
  isplitl [Hq]; · iexact Hq
  isplitl [Hk]; · iexact Hk
  isplitl [Hv]; · iexact Hv
  iapply (buf_eq (show g = ctxC m c from funext fun i => hg i fun h hh => absurd hh (List.not_mem_nil))); iexact Hx

/-! ## The whole part -/

theorem write_k (c : Dev nD) (f : (cc0_scratch0 : Ref sig .tc).ty.Contents (Elt F)) :
    iprop(((kvDst 0).view.loc (c : Thread nD τ) ↦[(kvDst 0).view.set]{fullShare} ((kvDst 0).view.write (Elt F) f ((kvSrc kM c).view.read (Elt F) (m ((c : Thread nD τ).loc main_arg2))) Finset.univ)) ∗ hbK m c)
      ⊢ (pay m c (iLoc 0) 0 : sProp 𝕄) :=
  Entails.of_eq (congrArg (fun P => iprop(P ∗ hbK m c)) (pointsTo_congr (write_agree (Elt F) (kvDst 0).view f (kvC m c) _ (read_k m c))))
theorem write_v (c : Dev nD) (f : (cc0_scratch0 : Ref sig .tc).ty.Contents (Elt F)) :
    iprop(((kvDst 1).view.loc (c : Thread nD τ) ↦[(kvDst 1).view.set]{fullShare} ((kvDst 1).view.write (Elt F) f ((kvSrc vM c).view.read (Elt F) (m ((c : Thread nD τ).loc main_arg3))) Finset.univ)) ∗ hbV m c)
      ⊢ (pay m c (iLoc 1) 0 : sProp 𝕄) :=
  Entails.of_eq (congrArg (fun P => iprop(P ∗ hbV m c)) (pointsTo_congr (write_agree (Elt F) (kvDst 1).view f (kvC m c) _ (read_v m c))))

set_option maxRecDepth 20000 in
theorem wp_k (c : Dev nD) (f : (cc0_scratch0 : Ref sig .tc).ty.Contents (Elt F))
    {hsrc : (kvSrc kM c).view.WordExact} {hdst : (kvDst 0).view.WordExact} {hsem : DmaTarget.Typed .hbm (.dma (semL 0)) (.here (p := (c : Thread nD τ).2) (kvDst 0))}
    {α : Type} {Q : α → sProp 𝕄} {k : PUnit → Prog (TpuEff nD τ sig (Elt F) Λ₀ .tc) α} :
    iprop(cellInv ER (Rd m) (K (c, iLoc 0)) (cell c (iLoc 0)) ∗ hbK m c ∗ kvP c 0 f ∗ dutyTok ER (cell c (iLoc 0)) 0 0 ∗ reached ER (cell c (iLoc 0)) 0)
      ⊢ iprop((cred (tallyAt (cell c (iLoc 0)) () NL) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (kvSrc kM c) (.here (kvDst 0)) (.dma (semL 0)) hsrc hdst hsem) k) Q) := by
  have h1 := duty_dma m c (.inl 0)
  have h3 := amount_cell m c (iLoc 0) 0
  have p1 := (write_k m c f).trans (Entails.of_eq (payload_cell m c (iLoc 0) 0).symm)
  unfold hbK at *
  unfold kvP
  exact Rounds.wp_copy_pointsTo (src := kvSrc kM c) (dst := kvDst 0) (sem := .dma (semL 0)) 𝒱₀ ER (Rd m) (c : Thread nD τ) none (κ := K (c, iLoc 0)) (r := 0) (d := 0)
    (fs := m ((c : Thread nD τ).loc main_arg2)) (fd := f) (q := fullShare) h1 () NL (credit_kv 0) h3 p1

set_option maxRecDepth 20000 in
theorem wp_v (c : Dev nD) (f : (cc0_scratch0 : Ref sig .tc).ty.Contents (Elt F))
    {hsrc : (kvSrc vM c).view.WordExact} {hdst : (kvDst 1).view.WordExact} {hsem : DmaTarget.Typed .hbm (.dma (semL 1)) (.here (p := (c : Thread nD τ).2) (kvDst 1))}
    {α : Type} {Q : α → sProp 𝕄} {k : PUnit → Prog (TpuEff nD τ sig (Elt F) Λ₀ .tc) α} :
    iprop(cellInv ER (Rd m) (K (c, iLoc 1)) (cell c (iLoc 1)) ∗ hbV m c ∗ kvP c 1 f ∗ dutyTok ER (cell c (iLoc 1)) 0 0 ∗ reached ER (cell c (iLoc 1)) 0)
      ⊢ iprop((cred (tallyAt (cell c (iLoc 1)) () NL) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (kvSrc vM c) (.here (kvDst 1)) (.dma (semL 1)) hsrc hdst hsem) k) Q) := by
  have h1 := duty_dma m c (.inl 1)
  have h3 := amount_cell m c (iLoc 1) 0
  have p1 := (write_v m c f).trans (Entails.of_eq (payload_cell m c (iLoc 1) 0).symm)
  unfold hbV at *
  unfold kvP
  exact Rounds.wp_copy_pointsTo (src := kvSrc vM c) (dst := kvDst 1) (sem := .dma (semL 1)) 𝒱₀ ER (Rd m) (c : Thread nD τ) none (κ := K (c, iLoc 1)) (r := 0) (d := 0)
    (fs := m ((c : Thread nD τ).loc main_arg3)) (fd := f) (q := fullShare) h1 () NL (credit_kv 1) h3 p1

/-- The staged arguments. -/
def argsP (c : Dev nD) : sProp 𝕄 := iprop(buf c cc0_stg0_0 (xC m c) ∗ buf c cc0_stg1_0 (wqC m c) ∗ buf c cc0_stg2_0 (woC m c))
def localPre (c : Dev nD) : sProp 𝕄 :=
  iprop(argsP m c ∗ hbK m c ∗ hbV m c ∗ (∃ f, kvP c 0 f) ∗ (∃ f, kvP c 1 f) ∗ (∃ f, buf c cc0_scratch1 f) ∗ (∃ f, buf c cc0_scratch2 f) ∗ (∃ f, buf c cc0_scratch3 f) ∗ (∃ f, buf c cc0_scratch4 f)
    ∗ (dutyTok ER (cell c (iLoc 0)) 0 0 ∗ atPos ER (cell c (iLoc 0)) 0 ∅ 0) ∗ dutyTok ER (cell c (iLoc 1)) 0 0 ∗ atPos ER (cell c (iLoc 1)) 0 ∅ 0)
def localPost (c : Dev nD) : sProp 𝕄 :=
  iprop(argsP m c ∗ hbK m c ∗ hbV m c ∗ kvP c 0 (kvC m c) ∗ kvP c 1 (kvC m c) ∗ buf c cc0_scratch1 (qC m c) ∗ buf c cc0_scratch2 (ctxC m c) ∗ buf c cc0_scratch3 (pfC m c) ∗ buf c cc0_scratch4 (pbC m c)
    ∗ atPos ER (cell c (iLoc 0)) (0 + 1) ∅ 0 ∗ atPos ER (cell c (iLoc 1)) (0 + 1) ∅ 0)

theorem mayWait_O₀ (c : Dev nD) (i : Ix) (hi : lvI i = 0) : (levAts L lv : sProp 𝕄) ⊢ MayWait (c : Thread nD τ) (csem i) () (O₀ c) :=
  mayWait c (csem i) 0 (by rw [lv_cell]; exact Nat.le_of_eq hi) (O₀ c) fun g u h => O₀_pos h

set_option maxRecDepth 20000 in
theorem local_wp (c : Dev nD) :
    iprop(env m K ∗ owesS c (O₀ c) ∗ localPre m c) ⊢ WP c (localPart c) fun _ => iprop(owesS c (O₀ c) ∗ localPost m c) := by
  unfold localPart WP localPre argsP
  simp only [Prog.lift, Prog.bind_op, Prog.bind_ret, Prog.pure_eq_ret]
  iintro ⟨#HE, HO, ⟨Hx, Hwq, Hwo⟩, HK, HV, ⟨%fk, Hk⟩, ⟨%fv, Hv⟩, ⟨%fq, Hq⟩, Hc, ⟨%ff, Hf⟩, ⟨%fb, Hb⟩, ⟨Ht0, Ha0⟩, Ht1, Ha1⟩
  iapply (wp_k m K c fk) $$ [HK Hk Ht0]
  · isplitr; · iapply (env_inv m K c (iLoc 0)); iexact HE
    isplitl [HK]; · iexact HK
    isplitl [Hk]; · iexact Hk
    isplitl [Ht0]; · iexact Ht0
    iapply (env_reached m K c (iLoc 0)); iexact HE
  iintro Hc0
  iapply (wp_v m K c fv) $$ [HV Hv Ht1]
  · isplitr; · iapply (env_inv m K c (iLoc 1)); iexact HE
    isplitl [HV]; · iexact HV
    isplitl [Hv]; · iexact Hv
    isplitl [Ht1]; · iexact Ht1
    iapply (env_reached m K c (iLoc 1)); iexact HE
  iintro Hc1
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := qM) (Finset.subset_univ _)) $$ Hq; iintro Hq
  iapply (wp_store 𝒱₀ (c : Thread nD τ) none Set.univ (m := qM) (r := allR) (Mk := Finset.univ) (Finset.subset_univ _)) $$ Hq; iintro Hq
  ihave Hq := (buf_eq (c := c) (b := cc0_scratch1) (q_store m c fq)) $$ Hq
  iapply (wait_op m K c (.inl 0) (O₀ c) (mayWait_O₀ c (iLoc 0) rfl) _ _ (credit_kv 0) (wpE_waitDma2_eq 𝒱₀ (c : Thread nD τ) none Set.univ)) $$ [Hc0 Ha0 HO]
  · isplitr; · iexact HE
    isplitl [HO]; · iexact HO
    isplitl [Hc0]; · iexact Hc0
    iexact Ha0
  iintro ⟨HO, Ha0, Hp0⟩
  ihave Hp0 := (Entails.of_eq (show pay m c (iLoc 0) 0 = iprop(kvP c 0 (kvC m c) ∗ hbK m c) from rfl)) $$ Hp0
  icases Hp0 with ⟨Hk, HK⟩
  iapply (wait_op m K c (.inl 1) (O₀ c) (mayWait_O₀ c (iLoc 1) rfl) _ _ (credit_kv 1) (wpE_waitDma2_eq 𝒱₀ (c : Thread nD τ) none Set.univ)) $$ [Hc1 Ha1 HO]
  · isplitr; · iexact HE
    isplitl [HO]; · iexact HO
    isplitl [Hc1]; · iexact Hc1
    iexact Ha1
  iintro ⟨HO, Ha1, Hp1⟩
  ihave Hp1 := (Entails.of_eq (show pay m c (iLoc 1) 0 = iprop(kvP c 1 (kvC m c) ∗ hbV m c) from rfl)) $$ Hp1
  icases Hp1 with ⟨Hv, HV⟩
  rw [wp_bind]
  iapply (wp_wand _ _ _) $$ [Hq Hk Hv Hc]
  · iapply (heads_wp m c)
    isplitl [Hq]; · iexact Hq
    isplitl [Hk]; · iexact Hk
    isplitl [Hv]; · iexact Hv
    iexact Hc
  iintro %u ⟨Hq, Hk, Hv, Hc⟩
  iapply (wp_load 𝒱₀ (c : Thread nD τ) none Set.univ (m := woM) (Finset.subset_univ _)) $$ Hwo; iintro Hwo
  iapply (wp_load 𝒱₀ (c : Thread nD τ) none Set.univ (m := ctxM) (Finset.subset_univ _)) $$ Hc; iintro Hc
  iapply (wp_load 𝒱₀ (c : Thread nD τ) none Set.univ (m := pfM) (Finset.subset_univ _)) $$ Hf; iintro Hf
  iapply (wp_store 𝒱₀ (c : Thread nD τ) none Set.univ (m := pfM) (r := allR) (Mk := Finset.univ) (Finset.subset_univ _)) $$ Hf; iintro Hf
  ihave Hf := (buf_eq (c := c) (b := cc0_scratch3) (pf_store m c ff)) $$ Hf
  iapply (wp_load 𝒱₀ (c : Thread nD τ) none Set.univ (m := pbM) (Finset.subset_univ _)) $$ Hb; iintro Hb
  iapply (wp_store 𝒱₀ (c : Thread nD τ) none Set.univ (m := pbM) (r := allR) (Mk := Finset.univ) (Finset.subset_univ _)) $$ Hb; iintro Hb
  ihave Hb := (buf_eq (c := c) (b := cc0_scratch4) (pb_store m c fb)) $$ Hb
  rw [wp_ret]; imodintro
  isplitl [HO]; · iexact HO
  unfold localPost argsP
  isplitl [Hx Hwq Hwo]
  · isplitl [Hx]; · iexact Hx
    isplitl [Hwq]; · iexact Hwq
    iexact Hwo
  isplitl [HK]; · iexact HK
  isplitl [HV]; · iexact HV
  isplitl [Hk]; · iexact Hk
  isplitl [Hv]; · iexact Hv
  isplitl [Hq]; · iexact Hq
  isplitl [Hc]; · iexact Hc
  isplitl [Hf]; · iexact Hf
  isplitl [Hb]; · iexact Hb
  isplitl [Ha0] <;> iassumption

end Cert.AllReduce

end
-- ==== Proof.Talk.lean ====
/-
# The reduce-scatter and the all-gather

Each is a handshake or a set of copies, run through the loop rules; the buffers are cut by slots and rows, and joined again.
-/
module

public import proofs.«01_k».proof.Proof.Local

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Ix → ℕ)

/-! ## Cutting -/

theorem sep_all {I : Type} [Fintype I] (Φ Ψ : I → sProp 𝕄) :
    (bigSep Finset.univ fun i => iprop(Φ i ∗ Ψ i)) = iprop(bigSep Finset.univ Φ ∗ bigSep Finset.univ Ψ) := BI.bigSep_sep _ _ _

theorem list_all (Φ : Fin 31 → sProp 𝕄) : bigSep Finset.univ Φ = bigSepL steps Φ := bigSep_univ_eq_bigSepL steps (by decide) (by decide) Φ

/-- A family over the devices: this one's, and the others' by step. -/
theorem dev_split (c : Dev nD) (Φ : Dev nD → sProp 𝕄) : bigSep Finset.univ Φ = iprop(Φ c ∗ bigSep Finset.univ fun r : Fin 31 => Φ (up c r)) := by
  have h : (Finset.univ : Finset (Dev nD)).erase c = (Finset.univ : Finset (Fin 31)).map ⟨up c, up_inj c⟩ := by
    ext q
    simp only [Finset.mem_erase, Finset.mem_univ, and_true, Finset.mem_map, true_and, Function.Embedding.coeFn_mk]
    exact ⟨fun hq => up_surj c q hq, fun ⟨r, hr⟩ => hr ▸ up_ne c r⟩
  refine (BI.bigSep_univ_split c (Φ := Φ)).trans ?_
  rw [h, BI.bigSep_map]
  rfl

theorem rs_slots (c : Dev nD) (f : (cc0_scratch6 : Ref sig .tc).ty.Contents (Elt F)) : (buf c cc0_scratch6 f : sProp 𝕄) = bigSep Finset.univ fun r => rsP c r f := by
  have h := Ring.pointsTo_blocks (Ix := Unit) (Name := ℕ) (U := UU) (Lvl := ℕ) (Val := Elt F) (q := fullShare) (ℓ := (c : Thread nD τ).loc cc0_scratch6) (fun r : Fin 31 => (slotR r).set)
    slots_disjoint slots_cover f
  refine Eq.trans (show buf c cc0_scratch6 f = _ from h) ?_
  exact BI.bigSep_congr fun r _ => (rsP_eq c r f).symm
theorem ag_slots (c : Dev nD) (f : (cc0_scratch7 : Ref sig .tc).ty.Contents (Elt F)) : (buf c cc0_scratch7 f : sProp 𝕄) = bigSep Finset.univ fun r => agP c r f := by
  have h := Ring.pointsTo_blocks (Ix := Unit) (Name := ℕ) (U := UU) (Lvl := ℕ) (Val := Elt F) (q := fullShare) (ℓ := (c : Thread nD τ).loc cc0_scratch7) (fun r : Fin 31 => (slotR r).set)
    slots_disjoint slots_cover f
  refine Eq.trans (show buf c cc0_scratch7 f = _ from h) ?_
  exact BI.bigSep_congr fun r _ => (agP_eq c r f).symm

theorem rs_any (c : Dev nD) (r : Fin 31) (f : (cc0_scratch6 : Ref sig .tc).ty.Contents (Elt F)) : (rsP c r f : sProp 𝕄) ⊢ iprop(∃ f, rsP c r f) := by
  iintro H; iexists f; iexact H
theorem ag_any (c : Dev nD) (r : Fin 31) (f : (cc0_scratch7 : Ref sig .tc).ty.Contents (Elt F)) : (agP c r f : sProp 𝕄) ⊢ iprop(∃ f, agP c r f) := by
  iintro H; iexists f; iexact H

/-- The slots a device keeps for the others, given out. -/
theorem slots_out (c : Dev nD) : iprop((∃ f, buf c cc0_scratch6 f) ∗ ∃ f, buf c cc0_scratch7 f) ⊢ (bigSep Finset.univ fun r => slotsP c (rev r) : sProp 𝕄) := by
  refine BIBase.Entails.trans ?_ (Entails.of_eq (BI.bigSep_univ_equiv revE (fun r => (slotsP c r : sProp 𝕄))))
  unfold slotsP
  rw [sep_all]
  iintro ⟨⟨%f, Hf⟩, ⟨%g, Hg⟩⟩
  isplitl [Hf]
  · iapply ((Entails.of_eq (rs_slots c f)).trans (BI.bigSep_mono fun r _ => rs_any c r f)); iexact Hf
  · iapply ((Entails.of_eq (ag_slots c g)).trans (BI.bigSep_mono fun r _ => ag_any c r g)); iexact Hg

def ownP (c : Dev nD) : sProp 𝕄 := (((c : Thread nD τ).loc cc0_scratch4) ↦[(rowsR c).set]{fullShare} (pbC m c))
/-- The partial product by rows: this device's, and those each copy takes. -/
theorem rows_pb (c : Dev nD) : (buf c cc0_scratch4 (pbC m c) : sProp 𝕄) = iprop(ownP m c ∗ bigSep Finset.univ fun r => srcP m c r) := by
  have h := Ring.pointsTo_blocks (Ix := Unit) (Name := ℕ) (U := UU) (Lvl := ℕ) (Val := Elt F) (q := fullShare) (ℓ := (c : Thread nD τ).loc cc0_scratch4) (fun q : Dev nD => (rowsR q).set)
    rows_disjoint rows_cover (pbC m c)
  refine (Eq.trans (show buf c cc0_scratch4 (pbC m c) = _ from h) (dev_split c _)).trans ?_
  refine congrArg₂ (fun A B : sProp 𝕄 => iprop(A ∗ B)) rfl (BI.bigSep_congr fun r _ => ?_)
  unfold srcP
  rw [set_src]

theorem sum_shares (c : Dev nD) : (buf c cc0_scratch5 (agsC m c) : sProp 𝕄) = bigSep Finset.univ fun r => shP m c r := by
  refine (Transfers.pointsTo_deal (Finset.univ : Finset (Fin 31)) Finset.univ_nonempty fullShare).trans (BI.bigSep_congr fun r _ => ?_)
  unfold shP
  rw [show agM.view.set = Finset.univ from View.set_whole _]

/-! ## The reduce-scatter -/

abbrev pos (c : Dev nD) (i : Ix) (n : ℕ) : sProp 𝕄 := atPos ER (cell c i) n ∅ 0

def reducePre (c : Dev nD) : sProp 𝕄 :=
  iprop((bigSep Finset.univ fun r => dutyTok ER (cell (up c r) iBar) 0 (rev r)) ∗ (bigSep Finset.univ fun r => dutyTok ER (cell c (iStep 0 r)) 0 0)
    ∗ (bigSep Finset.univ fun r => dutyTok ER (cell (up c r) (iStep 1 r)) 0 0)
    ∗ cred (tallyAt (cell c iBar) () 31) ∗ pos c iBar 0 ∗ (bigSep Finset.univ fun r => pos c (iStep 0 r) 0) ∗ (bigSep Finset.univ fun r => due c (.inr (1, r)))
    ∗ (∃ f, buf c cc0_scratch6 f) ∗ (∃ f, buf c cc0_scratch7 f) ∗ buf c cc0_scratch3 (pfC m c) ∗ buf c cc0_scratch4 (pbC m c))
def reducePost (c : Dev nD) : sProp 𝕄 :=
  iprop(pos c iBar (0 + 1) ∗ (bigSep Finset.univ fun r => pos c (iStep 0 r) (0 + 1)) ∗ (bigSep Finset.univ fun r => pos c (iStep 1 r) (0 + 1))
    ∗ (bigSep Finset.univ fun r => iprop(∃ f, agP (up c r) r f)) ∗ buf c cc0_scratch6 (rsC m c) ∗ buf c cc0_scratch3 (pfC m c) ∗ buf c cc0_scratch4 (pbC m c))

theorem pf_read {off off' : Fin 2 → Nat} (e : off = off') (h : ∀ a, off a + S32x1024.size a ≤ S1024x1024.size a) (h' : ∀ a, off' a + S32x1024.size a ≤ S1024x1024.size a)
    (f : (cc0_scratch3 : Ref sig .tc).ty.Contents (Elt F)) : (pfM.view.readAt (Elt F) (Rect.unit (s := S1024x1024) off S32x1024.size h).toLoadRect f : S32x1024.Idx → F .f32)
      = pfM.view.readAt (Elt F) (Rect.unit (s := S1024x1024) off' S32x1024.size h').toLoadRect f := by
  subst e; rfl

theorem acc_value (c : Dev nD) (b : FVec F S32x1024 .f32)
    (h : b = steps.foldl (fun acc r => addf acc (extf .f32 (shapeCast S32x1024 (rsB.view.readAt (Elt F) (slotR r).toLoadRect (rsC m c) : Vec F S1x32x1024 .bf16) shapeCasts_S1x32x1024_S32x1024) bitsLt_bf16_f32))
      (pfM.view.readAt (Elt F) (Rect.unit (s := S1024x1024) (k0_off3 c) S32x1024.size (k0_off3_inb c)).toLoadRect (pfC m c))) : b = accC m c := by
  rw [h, accC, accOf, pf_read (k0_off3_eq c) _ (rows_inb c)]

set_option maxRecDepth 20000 in
theorem reduce_wp (c : Dev nD) :
    iprop(env m K ∗ owesS c (O₀ c) ∗ reducePre m c) ⊢ WP c (reducePart c) fun b => iprop(⌜b = accC m c⌝ ∗ owesS c (OA c) ∗ reducePost m c) := by
  unfold reducePart WP reducePre
  iintro ⟨#HE, HO, Htb, Ht0, Ht1, Hcb, Hab, Ha0, Hd1, H6, H7, Hf, Hb⟩
  -- the handshake
  ihave Hs := (slots_out c) $$ [H6 H7]
  · isplitl [H6] <;> iassumption
  rw [wp_bind]
  iapply (wp_wand _ _ _) $$ [Htb Hs HO]
  · iapply (each_wp c (barStep c) (fun r => barPre c r) (fun _ => iprop(emp)) (barJ m K c) (bar_step m K c) steps)
    isplitl [Htb Hs]
    · iapply (Entails.of_eq ((sep_all _ _).symm.trans (list_all fun r => barPre c r)))
      isplitl [Htb] <;> iassumption
    · unfold barJ
      isplitr; · iexact HE
      iexact HO
  iintro %u ⟨-, HJ⟩
  unfold barJ
  icases HJ with ⟨-, HO⟩
  ihave HO := (Entails.of_eq (show (owesS c (OR c + tal (barT c) []) : sProp 𝕄) = owesS c (OR c) from congrArg (owesS c) (add_zero _))) $$ HO
  rw [wp_bind]
  iapply (wp_wand _ _ _) $$ [HO Hcb Hab]
  · iapply (bar_wait m K c)
    isplitr; · iexact HE
    isplitl [HO]; · iexact HO
    isplitl [Hcb] <;> iassumption
  iintro %u ⟨HO, Hab, Hs⟩
  unfold slotsP
  ihave Hs := (Entails.of_eq (sep_all _ _)) $$ Hs
  icases Hs with ⟨Hrs, Hag⟩
  -- the copies
  ihave Hb := (Entails.of_eq (rows_pb m c)) $$ Hb
  icases Hb with ⟨Hown, Hsrc⟩
  rw [wp_bind]
  iapply (wp_wand _ _ _) $$ [Ht0 Ht1 Hsrc Hrs HO]
  · iapply (each_wp c (rsStep c) (fun r => rsPre m c r) (fun r => cred (tallyAt (cell c (iStep 0 r)) () NB)) (rsJ m K c) (rs_step m K c) steps)
    isplitl [Ht0 Ht1 Hsrc Hrs]
    · iapply (Entails.of_eq (list_all fun r => rsPre m c r))
      unfold rsPre
      rw [sep_all, sep_all, sep_all]
      isplitl [Hsrc]; · iexact Hsrc
      isplitl [Hrs]; · iexact Hrs
      isplitl [Ht0] <;> iassumption
    · unfold rsJ
      isplitr; · iexact HE
      iexact HO
  iintro %u ⟨Hc0, HJ⟩
  unfold rsJ
  icases HJ with ⟨-, HO⟩
  ihave HO := (Entails.of_eq (show (owesS c (OA c + tal (rsT c) []) : sProp 𝕄) = owesS c (OA c) from congrArg (owesS c) (add_zero _))) $$ HO
  ihave Hc0 := (Entails.of_eq (list_all _).symm) $$ Hc0
  -- the sum
  simp only [Prog.lift, Prog.bind_op, Prog.bind_ret]
  iapply (wp_load 𝒱₀ (c : Thread nD τ) none Set.univ (m := pfM) (Finset.subset_univ _)) $$ Hf; iintro Hf
  rw [wp_bind]
  iapply (wp_wand _ _ _) $$ [Hd1 HO]
  · iapply (eachA_wp c accStep (fun acc r => addf acc (extf .f32 (shapeCast S32x1024 (rsB.view.readAt (Elt F) (slotR r).toLoadRect (rsC m c) : Vec F S1x32x1024 .bf16) shapeCasts_S1x32x1024_S32x1024) bitsLt_bf16_f32))
      (fun r => due c (.inr (1, r))) (fun r => got m c (.inr (1, r))) (envJ m K c (OA c)) (acc_step m K c) steps _)
    isplitl [Hd1]; · iapply (Entails.of_eq (list_all _)); iexact Hd1
    unfold envJ
    isplitr; · iexact HE
    iexact HO
  iintro %b ⟨%hb, Hg1, HJ⟩
  unfold envJ
  icases HJ with ⟨-, HO⟩
  ihave Hg1 := (Entails.of_eq (list_all _).symm) $$ Hg1
  unfold got
  ihave Hg1 := (Entails.of_eq (sep_all _ _)) $$ Hg1
  icases Hg1 with ⟨Ha1, Hp1⟩
  -- the copies' ends
  rw [wp_bind]
  iapply (wp_wand _ _ _) $$ [Hc0 Ha0 HO]
  · iapply (each_wp c (rsDone c) (fun r => due c (.inr (0, r))) (fun r => got m c (.inr (0, r))) (envJ m K c (OA c)) (rs_done m K c) steps)
    isplitl [Hc0 Ha0]
    · iapply (Entails.of_eq ((sep_all _ _).symm.trans (list_all fun r => due c (.inr (0, r)))))
      isplitl [Hc0]; · iexact Hc0
      iexact Ha0
    unfold envJ
    isplitr; · iexact HE
    iexact HO
  iintro %u ⟨Hg0, HJ⟩
  unfold envJ
  icases HJ with ⟨-, HO⟩
  ihave Hg0 := (Entails.of_eq (list_all _).symm) $$ Hg0
  unfold got
  ihave Hg0 := (Entails.of_eq (sep_all _ _)) $$ Hg0
  icases Hg0 with ⟨Ha0, Hp0⟩
  rw [wp_pure]; imodintro
  isplitr; · (ipureintro; exact acc_value m c b hb)
  isplitl [HO]; · iexact HO
  unfold reducePost
  isplitl [Hab]; · iexact Hab
  isplitl [Ha0]; · iexact Ha0
  isplitl [Ha1]; · iexact Ha1
  isplitl [Hag]; · iexact Hag
  isplitl [Hp1]; · iapply (Entails.of_eq (rs_slots c (rsC m c)).symm); iexact Hp1
  isplitl [Hf]; · iexact Hf
  iapply (Entails.of_eq (rows_pb m c).symm)
  isplitl [Hown]; · iexact Hown
  iexact Hp0

/-! ## The all-gather -/

def gatherPre (c : Dev nD) : sProp 𝕄 :=
  iprop((bigSep Finset.univ fun r => dutyTok ER (cell c (iStep 2 r)) 0 0) ∗ (bigSep Finset.univ fun r => dutyTok ER (cell (up c r) (iStep 3 r)) 0 0)
    ∗ (bigSep Finset.univ fun r => pos c (iStep 2 r) 0) ∗ (bigSep Finset.univ fun r => due c (.inr (3, r)))
    ∗ (bigSep Finset.univ fun r => iprop(∃ f, agP (up c r) r f)) ∗ (∃ f, buf c cc0_scratch5 f) ∗ ∃ f, buf c cc0_stg3_0 f)
def gatherPost (c : Dev nD) : sProp 𝕄 :=
  iprop((bigSep Finset.univ fun r => pos c (iStep 2 r) (0 + 1)) ∗ (bigSep Finset.univ fun r => pos c (iStep 3 r) (0 + 1))
    ∗ buf c cc0_scratch5 (agsC m c) ∗ buf c cc0_scratch7 (agC m c) ∗ buf c cc0_stg3_0 (outC m c))

theorem ags_store (c : Dev nD) (f : (cc0_scratch5 : Ref sig .tc).ty.Contents (Elt F)) :
    (agM.access (Rect.unit (s := S32x1024) ![0, 0] S32x1024.size inb_S32x1024_S32x1024_0_0)).write (Elt F) f
      (shapeCast S32x1024 (truncf .bf16 (accC m c) bitsLt_bf16_f32) shapeCasts_S32x1024_S32x1024) Finset.univ = agsC m c := by
  rw [cast_same]
  exact Memref.write_access_unit_zero_univ (Elt F) cc0_scratch5 hz2 _ f _

theorem own_store (c : Dev nD) (f : (cc0_stg3_0 : Ref sig .tc).ty.Contents (Elt F)) :
    ∀ i : S1x1024x1024.Idx, (∀ r ∈ steps, i ∉ (rows3R (dn c r)).set) →
      (outM.access (Rect.unit (s := S1x1024x1024) (k0_off4 c) S1x32x1024.size (k0_off4_inb c))).write (Elt F) f (shapeCast S1x32x1024 (accC m c) shapeCasts_S32x1024_S1x32x1024) Finset.univ i = outC m c i := by
  intro i hi
  refine write_agree (Elt F) (outM.access (Rect.unit (s := S1x1024x1024) (k0_off4 c) S1x32x1024.size (k0_off4_inb c))) f (outC m c) _
    ((out_read (k0_off4_eq c) _ (rows3_inb c) _).trans (read_own m c)) i ?_
  rw [show (outM.access (Rect.unit (s := S1x1024x1024) (k0_off4 c) S1x32x1024.size (k0_off4_inb c))).set = (rows3R c).set from
    by rw [own_rect]; exact whole_slice_set cc0_stg3_0 (rows3R c)]
  have hm : i ∈ Finset.univ.biUnion (fun q : Dev nD => (rows3R q).set) := by rw [rows3_cover]; exact Finset.mem_univ _
  obtain ⟨q, -, hq⟩ := Finset.mem_biUnion.mp hm
  by_cases h : q = c
  · rw [← h]; exact hq
  · obtain ⟨r, hr⟩ := dn_surj c q h
    rw [← hr] at hq
    exact absurd hq (hi r ((by decide : ∀ r : Fin 31, r ∈ steps) r))

set_option maxRecDepth 20000 in
theorem gather_wp (c : Dev nD) :
    iprop(env m K ∗ owesS c (OA c) ∗ gatherPre c) ⊢ WP c (gatherPart c (accC m c)) fun _ => iprop(owesS c 0 ∗ gatherPost m c) := by
  unfold gatherPart accOut WP gatherPre
  simp only [Prog.lift, Prog.bind_op, Prog.bind_ret, Prog.pure_eq_ret]
  iintro ⟨#HE, HO, Ht2, Ht3, Ha2, Hd3, Hag, ⟨%fa, Ha⟩, ⟨%fo, Ho⟩⟩
  iapply (wp_load 𝒱₀ (c : Thread nD τ) none Set.univ (m := agM) (Finset.subset_univ _)) $$ Ha; iintro Ha
  iapply (wp_store 𝒱₀ (c : Thread nD τ) none Set.univ (m := agM) (r := Rect.unit (s := S32x1024) ![0, 0] S32x1024.size inb_S32x1024_S32x1024_0_0) (Mk := Finset.univ) (Finset.subset_univ _)) $$ Ha; iintro Ha
  ihave Ha := (buf_eq (c := c) (b := cc0_scratch5) (ags_store m c fa)) $$ Ha
  iapply (wp_load 𝒱₀ (c : Thread nD τ) none Set.univ (m := outM) (Finset.subset_univ _)) $$ Ho; iintro Ho
  iapply (wp_store 𝒱₀ (c : Thread nD τ) none Set.univ (m := outM) (r := Rect.unit (s := S1x1024x1024) (k0_off4 c) S1x32x1024.size (k0_off4_inb c)) (Mk := Finset.univ) (Finset.subset_univ _)) $$ Ho; iintro Ho
  -- the copies
  ihave Hsh := (Entails.of_eq (sum_shares m c)) $$ Ha
  rw [wp_bind]
  iapply (wp_wand _ _ _) $$ [Ht2 Ht3 Hsh Hag HO]
  · iapply (each_wp c (agStep c) (fun r => agPre m c r) (fun r => cred (tallyAt (cell c (iStep 2 r)) () NB)) (agJ m K c) (ag_step m K c) steps)
    isplitl [Ht2 Ht3 Hsh Hag]
    · iapply (Entails.of_eq (list_all fun r => agPre m c r))
      unfold agPre
      rw [sep_all, sep_all, sep_all]
      isplitl [Hsh]; · iexact Hsh
      isplitl [Hag]; · iexact Hag
      isplitl [Ht2] <;> iassumption
    · unfold agJ
      isplitr; · iexact HE
      iexact HO
  iintro %u ⟨Hc2, HJ⟩
  unfold agJ
  icases HJ with ⟨-, HO⟩
  ihave HO := (Entails.of_eq (show (owesS c (tal (agT c) []) : sProp 𝕄) = owesS c 0 from rfl)) $$ HO
  ihave Hc2 := (Entails.of_eq (list_all _).symm) $$ Hc2
  -- the arrivals
  rw [wp_bind]
  iapply (wp_wand _ _ _) $$ [Hd3 HO Ho]
  · iapply (each_wp c (outStep c) (fun r => due c (.inr (3, r))) (fun r => got m c (.inr (3, r))) (outJ m K c) (out_step m K c) steps)
    isplitl [Hd3]; · iapply (Entails.of_eq (list_all _)); iexact Hd3
    unfold outJ envJ
    isplitl [HO]
    · isplitr; · iexact HE
      iexact HO
    iexists _
    isplitr
    · ipureintro
      exact own_store m c fo
    iexact Ho
  unfold outJ envJ
  iintro %u ⟨Hg3, ⟨-, HO⟩, ⟨%g, %hg, Ho⟩⟩
  ihave Ho := (buf_eq (c := c) (b := cc0_stg3_0) (show g = outC m c from funext fun i => hg i fun r hr => absurd hr (List.not_mem_nil))) $$ Ho
  ihave Hg3 := (Entails.of_eq (list_all _).symm) $$ Hg3
  unfold got
  ihave Hg3 := (Entails.of_eq (sep_all _ _)) $$ Hg3
  icases Hg3 with ⟨Ha3, Hp3⟩
  -- the copies' ends
  iapply (wp_wand _ _ _) $$ [Hc2 Ha2 HO]
  · iapply (each_wp c agDone (fun r => due c (.inr (2, r))) (fun r => got m c (.inr (2, r))) (envJ m K c 0) (ag_done m K c) steps)
    isplitl [Hc2 Ha2]
    · iapply (Entails.of_eq ((sep_all _ _).symm.trans (list_all fun r => due c (.inr (2, r)))))
      isplitl [Hc2]; · iexact Hc2
      iexact Ha2
    unfold envJ
    isplitr; · iexact HE
    iexact HO
  iintro %u ⟨Hg2, HJ⟩
  unfold envJ
  icases HJ with ⟨-, HO⟩
  ihave Hg2 := (Entails.of_eq (list_all _).symm) $$ Hg2
  unfold got
  ihave Hg2 := (Entails.of_eq (sep_all _ _)) $$ Hg2
  icases Hg2 with ⟨Ha2, Hp2⟩
  isplitl [HO]; · iexact HO
  unfold gatherPost
  isplitl [Ha2]; · iexact Ha2
  isplitl [Ha3]; · iexact Ha3
  isplitl [Hp2]; · iapply (Entails.of_eq (sum_shares m c).symm); iexact Hp2
  isplitl [Hp3]; · iapply (Entails.of_eq (ag_slots c (agC m c)).symm); iexact Hp3
  iexact Ho

end Cert.AllReduce

end
-- ==== Proof.Body.lean ====
/-
# The body

What a device starts the kernel with and what it ends with, and the three parts run one after the other between them.
-/
module

public import proofs.«01_k».proof.Proof.Talk

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Ix → ℕ)

/-! ## Families over the semaphores -/

theorem four_all (Φ : Fin 4 × Fin 31 → sProp 𝕄) :
    bigSep Finset.univ Φ = iprop((bigSep Finset.univ fun r => Φ (0, r)) ∗ (bigSep Finset.univ fun r => Φ (1, r)) ∗ (bigSep Finset.univ fun r => Φ (2, r)) ∗ bigSep Finset.univ fun r => Φ (3, r)) := by
  rw [BI.bigSep_univ_prod]
  exact bigSep_univ_eq_bigSepL [0, 1, 2, 3] (by decide) (by decide) _

theorem ix_all (Φ : Ix → sProp 𝕄) :
    bigSep Finset.univ Φ = iprop(Φ iBar ∗ (Φ (iLoc 0) ∗ Φ (iLoc 1)) ∗ (bigSep Finset.univ fun r => Φ (iStep 0 r)) ∗ (bigSep Finset.univ fun r => Φ (iStep 1 r))
      ∗ (bigSep Finset.univ fun r => Φ (iStep 2 r)) ∗ bigSep Finset.univ fun r => Φ (iStep 3 r)) := by
  refine (BI.bigSep_univ_sum Φ).trans (congrArg₂ (fun A B : sProp 𝕄 => iprop(A ∗ B)) (BI.bigSep_univ_of_subsingleton ()) ?_)
  refine (BI.bigSep_univ_sum fun j => Φ (.inr j)).trans (congrArg₂ (fun A B : sProp 𝕄 => iprop(A ∗ B)) (BI.bigSep_fin_two _) ?_)
  exact four_all fun x => Φ (.inr (.inr x))

theorem all_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell at the end of its round closes. -/
theorem close_all (c : Dev nD) : iprop(env m K ∗ bigSep Finset.univ fun i : Ix => pos c i (0 + 1)) ⊢ |={Set.univ}=> (bigSep Finset.univ fun i : Ix => semVal (cell c i) 0 : sProp 𝕄) := by
  refine BIBase.Entails.trans (all_with (R := env m K) fun i _ => ?_) (bigSep_fupd _ _)
  iintro ⟨HE, Hp⟩
  iapply (Rounds.cell_close ER (Rd m) (κ := K (c, i)) (Set.mem_univ _) (fun h => h) (R := 0 + 1) (duties_later m (cell c i)))
  isplitl [HE]
  · iapply (env_inv m K c i); iexact HE
  iexact Hp

/-! ## Buffers -/

theorem kvP_eq (c : Dev nD) (s : Fin 2) (f : (cc0_scratch0 : Ref sig .tc).ty.Contents (Elt F)) :
    (kvP c s f : sProp 𝕄) = (((c : Thread nD τ).loc cc0_scratch0) ↦[(halfR s).set]{fullShare} f) := by
  unfold kvP; rw [set_kv]

theorem kv_halves (c : Dev nD) (f : (cc0_scratch0 : Ref sig .tc).ty.Contents (Elt F)) : (buf c cc0_scratch0 f : sProp 𝕄) = iprop(kvP c 0 f ∗ kvP c 1 f) := by
  have h := Ring.pointsTo_blocks (Ix := Unit) (Name := ℕ) (U := UU) (Lvl := ℕ) (Val := Elt F) (q := fullShare) (ℓ := (c : Thread nD τ).loc cc0_scratch0) (fun s : Fin 2 => (halfR s).set)
    halves_disjoint halves_cover f
  refine (Eq.trans (show buf c cc0_scratch0 f = _ from h) (BI.bigSep_fin_two _)).trans ?_
  rw [kvP_eq, kvP_eq]
  rfl

def kRest (c : Dev nD) : sProp 𝕄 :=
  ((c : Thread nD τ).loc main_arg2) ↦[Finset.univ \ (kvSrc kM c).view.set]{fullShare} (m ((c : Thread nD τ).loc main_arg2))
def vRest (c : Dev nD) : sProp 𝕄 :=
  ((c : Thread nD τ).loc main_arg3) ↦[Finset.univ \ (kvSrc vM c).view.set]{fullShare} (m ((c : Thread nD τ).loc main_arg3))

/-- The keys and the values, whole in the device's memory. -/
def kvIn (c : Dev nD) : sProp 𝕄 := iprop(buf c main_arg2 (m ((c : Thread nD τ).loc main_arg2)) ∗ buf c main_arg3 (m ((c : Thread nD τ).loc main_arg3)))

theorem k_cut (c : Dev nD) : (buf c main_arg2 (m ((c : Thread nD τ).loc main_arg2)) : sProp 𝕄) ⊣⊢ iprop(hbK m c ∗ kRest m c) :=
  pointsTo_split_subset (ℓ := (c : Thread nD τ).loc main_arg2) (I := (kvSrc kM c).view.set) (S := Finset.univ) (Finset.subset_univ _)
theorem v_cut (c : Dev nD) : (buf c main_arg3 (m ((c : Thread nD τ).loc main_arg3)) : sProp 𝕄) ⊣⊢ iprop(hbV m c ∗ vRest m c) :=
  pointsTo_split_subset (ℓ := (c : Thread nD τ).loc main_arg3) (I := (kvSrc vM c).view.set) (S := Finset.univ) (Finset.subset_univ _)

/-- The scratch buffers, at any contents. -/
def scr (c : Dev nD) : sProp 𝕄 :=
  iprop((∃ f, buf c cc0_scratch0 f) ∗ (∃ f, buf c cc0_scratch1 f) ∗ (∃ f, buf c cc0_scratch2 f) ∗ (∃ f, buf c cc0_scratch3 f)
    ∗ (∃ f, buf c cc0_scratch4 f) ∗ (∃ f, buf c cc0_scratch5 f) ∗ (∃ f, buf c cc0_scratch6 f) ∗ ∃ f, buf c cc0_scratch7 f)

/-! ## The body -/

/-- The duties a device does. -/
def payToks (c : Dev nD) : sProp 𝕄 :=
  iprop((bigSep Finset.univ fun r => dutyTok ER (cell (up c r) iBar) 0 (rev r)) ∗ (dutyTok ER (cell c (iLoc 0)) 0 0 ∗ dutyTok ER (cell c (iLoc 1)) 0 0)
    ∗ (bigSep Finset.univ fun r => dutyTok ER (cell c (iStep 0 r)) 0 0) ∗ (bigSep Finset.univ fun r => dutyTok ER (cell (up c r) (iStep 1 r)) 0 0)
    ∗ (bigSep Finset.univ fun r => dutyTok ER (cell c (iStep 2 r)) 0 0) ∗ bigSep Finset.univ fun r => dutyTok ER (cell (up c r) (iStep 3 r)) 0 0)

def linear (c : Dev nD) : sProp 𝕄 := iprop((bigSep Finset.univ fun i : Ix => pos c i 0) ∗ payToks c)

/-- The credits of what the other devices owe it. -/
def creds (c : Dev nD) : sProp 𝕄 :=
  iprop(cred (tallyAt (cell c iBar) () 31) ∗ (bigSep Finset.univ fun r => cred (tallyAt (cell c (iStep 1 r)) () NB)) ∗ bigSep Finset.univ fun r => cred (tallyAt (cell c (iStep 3 r)) () NB))

def bodyIn (c : Dev nD) : sProp 𝕄 := iprop(linear c ∗ creds c ∗ kvIn m c ∗ scr c ∗ argsP m c ∗ ∃ f, buf c cc0_stg3_0 f)
def bodyOut (c : Dev nD) : sProp 𝕄 :=
  iprop((bigSep Finset.univ fun i : Ix => semVal (cell c i) 0) ∗ kvIn m c ∗ scr c ∗ argsP m c ∗ buf c cc0_stg3_0 (outC m c))

theorem due_all (c : Dev nD) (k : Fin 4) :
    iprop((bigSep Finset.univ fun r => cred (tallyAt (cell c (iStep k r)) () NB)) ∗ bigSep Finset.univ fun r => pos c (iStep k r) 0)
      = (bigSep Finset.univ fun r => due c (.inr (k, r)) : sProp 𝕄) := (sep_all _ _).symm

set_option maxRecDepth 20000 in
theorem body_wp (c : Dev nD) : iprop(env m K ∗ owesS c (O₀ c) ∗ bodyIn m c) ⊢ WP c gbody fun _ => iprop(owesS c 0 ∗ bodyOut m c) := by
  unfold gbody WP bodyIn linear creds kvIn scr payToks
  simp only [Prog.lift, Prog.bind_op, Prog.bind_ret, Prog.pure_eq_ret, wp_deviceId]
  iintro ⟨#HE, HO, ⟨Hat, Htb, ⟨Ht0, Ht1⟩, Hd0, Hd1, Hd2, Hd3⟩, ⟨Hcb, Hc1, Hc3⟩, ⟨HK, HV⟩, ⟨⟨%f0, H0⟩, H1, H2, H3, H4, H5, H6, H7⟩, Hargs, Hout⟩
  ihave Hat := (Entails.of_eq (ix_all _)) $$ Hat
  icases Hat with ⟨HaB, ⟨Ha0, Ha1⟩, Hp0, Hp1, Hp2, Hp3⟩
  ihave H0 := (Entails.of_eq (kv_halves c f0)) $$ H0
  icases H0 with ⟨H00, H01⟩
  ihave HK := (k_cut m c).1 $$ HK
  icases HK with ⟨HK, HKr⟩
  ihave HV := (v_cut m c).1 $$ HV
  icases HV with ⟨HV, HVr⟩
  ihave Hu1 := (Entails.of_eq (due_all c 1)) $$ [Hc1 Hp1]
  · isplitl [Hc1] <;> iassumption
  ihave Hu3 := (Entails.of_eq (due_all c 3)) $$ [Hc3 Hp3]
  · isplitl [Hc3] <;> iassumption
  -- this device's part
  rw [wp_bind]
  iapply (wp_wand _ _ _) $$ [HO Hargs HK HV H00 H01 H1 H2 H3 H4 Ht0 Ht1 Ha0 Ha1]
  · iapply (local_wp m K c)
    isplitr; · iexact HE
    isplitl [HO]; · iexact HO
    unfold localPre
    isplitl [Hargs]; · iexact Hargs
    isplitl [HK]; · iexact HK
    isplitl [HV]; · iexact HV
    isplitl [H00]; · iexists f0; iexact H00
    isplitl [H01]; · iexists f0; iexact H01
    isplitl [H1]; · iexact H1
    isplitl [H2]; · iexact H2
    isplitl [H3]; · iexact H3
    isplitl [H4]; · iexact H4
    isplitl [Ht0 Ha0]
    · isplitl [Ht0]; · iexact Ht0
      iexact Ha0
    isplitl [Ht1]; · iexact Ht1
    iexact Ha1
  iintro %u ⟨HO, HL⟩
  unfold localPost
  icases HL with ⟨Hargs, HK, HV, H00, H01, H1, H2, H3, H4, Ha0, Ha1⟩
  -- the reduce-scatter
  rw [wp_bind]
  iapply (wp_wand _ _ _) $$ [HO Htb Hd0 Hd1 Hcb HaB Hp0 Hu1 H6 H7 H3 H4]
  · iapply (reduce_wp m K c)
    isplitr; · iexact HE
    isplitl [HO]; · iexact HO
    unfold reducePre
    isplitl [Htb]; · iexact Htb
    isplitl [Hd0]; · iexact Hd0
    isplitl [Hd1]; · iexact Hd1
    isplitl [Hcb]; · iexact Hcb
    isplitl [HaB]; · iexact HaB
    isplitl [Hp0]; · iexact Hp0
    isplitl [Hu1]; · iexact Hu1
    isplitl [H6]; · iexact H6
    isplitl [H7]; · iexact H7
    isplitl [H3]; · iexact H3
    iexact H4
  iintro %acc ⟨%hacc, HO, HR⟩
  subst hacc
  unfold reducePost
  icases HR with ⟨HaB, Hp0, Hp1, Hag, H6, H3, H4⟩
  -- the all-gather
  iapply (wp_fupd _ _)
  iapply (wp_wand _ _ _) $$ [HO Hd2 Hd3 Hp2 Hu3 Hag H5 Hout]
  · iapply (gather_wp m K c)
    isplitr; · iexact HE
    isplitl [HO]; · iexact HO
    unfold gatherPre
    isplitl [Hd2]; · iexact Hd2
    isplitl [Hd3]; · iexact Hd3
    isplitl [Hp2]; · iexact Hp2
    isplitl [Hu3]; · iexact Hu3
    isplitl [Hag]; · iexact Hag
    isplitl [H5]; · iexact H5
    iexact Hout
  iintro %w ⟨HO, HG⟩
  unfold gatherPost
  icases HG with ⟨Hp2, Hp3, H5, H7, Hout⟩
  imod (close_all m K c) $$ [HaB Ha0 Ha1 Hp0 Hp1 Hp2 Hp3] with Hz
  · isplitr; · iexact HE
    iapply (Entails.of_eq (ix_all _).symm)
    isplitl [HaB]; · iexact HaB
    isplitl [Ha0 Ha1]
    · isplitl [Ha0]; · iexact Ha0
      iexact Ha1
    isplitl [Hp0]; · iexact Hp0
    isplitl [Hp1]; · iexact Hp1
    isplitl [Hp2]; · iexact Hp2
    iexact Hp3
  imodintro
  isplitl [HO]; · iexact HO
  unfold bodyOut kvIn scr
  isplitl [Hz]; · iexact Hz
  isplitl [HK HKr HV HVr]
  · isplitl [HK HKr]
    · iapply (k_cut m c).2
      isplitl [HK]; · iexact HK
      iexact HKr
    · iapply (v_cut m c).2
      isplitl [HV]; · iexact HV
      iexact HVr
  isplitl [H00 H01 H1 H2 H3 H4 H5 H6 H7]
  · isplitl [H00 H01]
    · iexists (kvC m c)
      iapply (Entails.of_eq (kv_halves c (kvC m c)).symm)
      isplitl [H00]; · iexact H00
      iexact H01
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  isplitl [Hargs]; · iexact Hargs
  iexact Hout

end Cert.AllReduce

end
-- ==== Proof.Launch.lean ====
/-
# The launch

The body as the pipeline's obligation, the ghost state dealt to the devices, and the run of the whole program: every
execution ends, with each device's result at `outC`, its arguments as they were, and every counter at zero.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
local notation "𝕄" => MT nD τ sig Unit (Elt F) ℕ UU ℕ

variable (m : (ℓ : Loc nD τ sig) → Buf (Elt F) ℓ) (K : Dev nD × Ix → ℕ) (ρ : Dev nD → PrngReg)

/-- The kernel's own semaphores. -/
abbrev osem (j : Fin 2 ⊕ (Fin 4 × Fin 31)) : SemLoc sig := csem (.inr j)

abbrev s₀ : MemSt nD τ sig (Elt F) := ⟨m, fun _ => 0, ρ⟩

/-! ## The pipeline's data -/

/-- What a device's body starts from beside its windows and its scratch. -/
def start (c : Dev nD) : sProp 𝕄 := iprop((∃ K : Dev nD × Ix → ℕ, env m K ∗ linear c) ∗ creds c ∗ kvIn m c)
def Φ₀ (c : Dev nD) : sProp 𝕄 := iprop(start m c ∗ scr c)
def Φ₁ (c : Dev nD) : sProp 𝕄 := iprop((bigSep Finset.univ fun i : Ix => semVal (cell c i) 0) ∗ kvIn m c ∗ scr c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => wqC m c
    | ⟨2, _⟩ => woC m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ buf c b f) := by
  unfold owns; simp only [Memref.view_whole, View.read_whole, View.set_whole]

/-- A staging buffer at the contents `X`. -/
abbrev stg (c : Dev nD) (b : Ref sig .tc) (X : b.ty.Contents (Elt F)) : sProp 𝕄 := iprop(∃ f, ⌜f = X⌝ ∗ buf c b f)

def atPoint (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def pastPoint (c : Dev nD) : sProp 𝕄 :=
  iprop(Φ₁ m c ∗ (dats m 0 c).owesAt () t0_0.succ ∗ stg c cc0_stg0_0 (xC m c) ∗ stg c cc0_stg1_0 (wqC m c) ∗ stg c cc0_stg2_0 (woC m c) ∗ stg c cc0_stg3_0 (outC m c))

theorem before_0 (c : Dev nD) (d) : (dats m 0 c).before (0 : Fin 4) t0_0 d = xC m c := by
  unfold Dat.before; rw [if_pos (fetch0_0 t0_0)]; rfl
theorem before_1 (c : Dev nD) (d) : (dats m 0 c).before (1 : Fin 4) t0_0 d = wqC m c := by
  unfold Dat.before; rw [if_pos (fetch0_1 t0_0)]; rfl
theorem before_2 (c : Dev nD) (d) : (dats m 0 c).before (2 : Fin 4) t0_0 d = woC m c := by
  unfold Dat.before; rw [if_pos (fetch0_2 t0_0)]; rfl

set_option maxRecDepth 20000 in
theorem point_wp (c : Dev nD) : atPoint m c ⊢ WP c gbody fun _ => pastPoint m c := by
  unfold atPoint Φ₀ start Dat.owesAt Pipeline.owesWithin
  iintro ⟨⟨⟨⟨%K, #HE, Hl⟩, Hc, Hkv⟩, Hs⟩, ⟨%W, %hW, HO⟩, ⟨%d0, %g0, %h0, H0⟩, ⟨%d1, %g1, %h1, H1⟩, ⟨%d2, %g2, %h2, H2⟩, ⟨%d3, %g3, %h3, H3⟩⟩
  ihave H0 := (buf_eq (c := c) (b := cc0_stg0_0) (h0.trans (before_0 m c d0))) $$ H0
  ihave H1 := (buf_eq (c := c) (b := cc0_stg1_0) (h1.trans (before_1 m c d1))) $$ H1
  ihave H2 := (buf_eq (c := c) (b := cc0_stg2_0) (h2.trans (before_2 m c d2))) $$ H2
  iapply (wp_wand _ _ _) $$ [HO Hl Hc Hkv Hs H0 H1 H2 H3]
  · iapply (body_wp m K c)
    isplitr; · iexact HE
    isplitl [HO]
    · unfold owesS; iexists W; iexact HO
    unfold bodyIn
    isplitl [Hl]; · iexact Hl
    isplitl [Hc]; · iexact Hc
    isplitl [Hkv]; · iexact Hkv
    isplitl [Hs]; · iexact Hs
    isplitl [H0 H1 H2]
    · unfold argsP
      isplitl [H0]; · iexact H0
      isplitl [H1]; · iexact H1
      iexact H2
    iexists g3; iexact H3
  unfold owesS bodyOut argsP
  iintro %u ⟨⟨%W', HO⟩, Hz, Hkv, Hs, ⟨H0, H1, H2⟩, H3⟩
  unfold pastPoint Φ₁ Dat.owesAt Pipeline.owesWithin
  isplitl [Hz Hkv Hs]
  · isplitl [Hz]; · iexact Hz
    isplitl [Hkv]; · iexact Hkv
    iexact Hs
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 20000 in
theorem body_obligation (c : Dev nD) : BodyObligation (dats (F := F) m 0 c) (defs₀ (F := F)) 𝒱₀ () Set.univ := fun t => by
  rw [fin_N0 t]
  rw [bigSep_W, bigSep_W]
  simp only [owns_whole_eq]
  have h := point_wp m c
  rw [← body_eq] at h
  exact h

/-! ## Ghost state -/

theorem ownSemFacts : Pipeline.OwnSemFacts cfg0.spec osem where
  isScoped := by decide +kernel
  inj := fun a b h => Sum.inr.inj (csem_injective h)
  disj := by
    have hw : ∀ (w : Fin 4) (s : Fin (cfg0.spec w).nbuf), ((cfg0.spec w).sem s).val < 4 := by decide
    rintro (j | ⟨k, r⟩) w s h
    · have e : (semL j).val = ((cfg0.spec w).sem s).val := congrArg Fin.val (SemLoc.dma.inj h)
      have := hw w s
      rw [semL_val] at e; omega
    · have e : (semAt (arr k) r).val = ((cfg0.spec w).sem s).val := congrArg Fin.val (SemLoc.dma.inj h)
      have := hw w s
      rw [semAt_val] at e; omega

theorem share_eq (c : Dev nD) (w : Fin cfg0.W) : (dats m 0 c).share w = fullShare := by unfold Dat.share; split <;> rfl

theorem cell_eq {c c' : Dev nD} {i i' : Ix} : cell c i = cell c' i' ↔ c = c' ∧ i = i' :=
  ⟨fun h => ⟨Fin.ext (congrArg (fun g : GSem nD τ sig => g.1.1.val) h), csem_injective (congrArg Prod.snd h)⟩, fun h => by rw [h.1, h.2]⟩

abbrev cellAt (x : Dev nD × Ix) : GSem nD τ sig := cell x.1 x.2
theorem cellAt_injective : Function.Injective cellAt := fun a b h => Prod.ext (cell_eq.mp h).1 (cell_eq.mp h).2
def allCells : Finset (GSem nD τ sig) := Finset.univ.map ⟨cellAt, cellAt_injective⟩

/-- The duties of one device's cells: the barrier's, and one for each other cell. -/
abbrev Du : Type := Fin 31 ⊕ (Fin 2 ⊕ (Fin 4 × Fin 31))
abbrev tokOf (x : Dev nD × Du) : GSem nD τ sig × ℕ × Fin 31 := match x.2 with
  | .inl d => (cell x.1 iBar, 0, d)
  | .inr j => (cell x.1 (.inr j), 0, 0)
theorem tokOf_injective : Function.Injective tokOf := by
  rintro ⟨c, d | j⟩ ⟨c', d' | j'⟩ h
  · have h1 : c = c' := (cell_eq.mp (congrArg Prod.fst h)).1
    have h2 : d = d' := congrArg (fun x : GSem nD τ sig × ℕ × Fin 31 => x.2.2) h
    rw [h1, h2]
  · exact absurd (cell_eq.mp (congrArg Prod.fst h)).2 (fun h' => by cases h')
  · exact absurd (cell_eq.mp (congrArg Prod.fst h)).2 (fun h' => by cases h')
  · have h1 := cell_eq.mp (congrArg Prod.fst h)
    have h2 : j = j' := Sum.inr.inj h1.2
    rw [show c = c' from h1.1, h2]
def allToks : Finset (GSem nD τ sig × ℕ × Fin 31) := Finset.univ.map ⟨tokOf, tokOf_injective⟩

def u₀ : UU := (initOf (Pipeline.cells cfgs cellOf_inj) (Pipeline.launchToks cfgs cellOf_inj), initOf allCells allToks)

/-- The duties of a device's own cells. -/
def toks (c : Dev nD) : sProp 𝕄 :=
  iprop((bigSep Finset.univ fun d : Fin 31 => dutyTok ER (cell c iBar) 0 d) ∗ (dutyTok ER (cell c (iLoc 0)) 0 0 ∗ dutyTok ER (cell c (iLoc 1)) 0 0)
    ∗ (bigSep Finset.univ fun r => dutyTok ER (cell c (iStep 0 r)) 0 0) ∗ (bigSep Finset.univ fun r => dutyTok ER (cell c (iStep 1 r)) 0 0)
    ∗ (bigSep Finset.univ fun r => dutyTok ER (cell c (iStep 2 r)) 0 0) ∗ bigSep Finset.univ fun r => dutyTok ER (cell c (iStep 3 r)) 0 0)

def G (c : Dev nD) : sProp 𝕄 :=
  iprop((bigSep Finset.univ fun i : Ix => roundState ER (Rd m) (cell c i) 0) ∗ (bigSep Finset.univ fun i : Ix => reached ER (cell c i) 0)
    ∗ (bigSep Finset.univ fun i : Ix => pos c i 0) ∗ toks c)
/-- What each device is dealt. -/
def G' (c : Dev nD) : sProp 𝕄 :=
  iprop(∃ K : Dev nD × Ix → ℕ, ((bigSep Finset.univ fun x : Dev nD × Ix => cellInv ER (Rd m) (K x) (cell x.1 x.2)) ∗ (bigSep Finset.univ fun x : Dev nD × Ix => reached ER (cell x.1 x.2) 0)) ∗ linear c)

theorem cells_all (Φ : GSem nD τ sig → sProp 𝕄) : bigSep allCells Φ = bigSep Finset.univ fun c : Dev nD => bigSep Finset.univ fun i : Ix => Φ (cell c i) := by
  unfold allCells; rw [BI.bigSep_map, BI.bigSep_univ_prod]; rfl
theorem toks_all : bigSep allToks (fun x => (dutyTok ER x.1 x.2.1 x.2.2 : sProp 𝕄)) = bigSep Finset.univ fun c : Dev nD => toks c := by
  unfold allToks; rw [BI.bigSep_map, BI.bigSep_univ_prod]
  refine BI.bigSep_congr fun c _ => ?_
  refine (BI.bigSep_univ_sum _).trans (congrArg₂ (fun A B : sProp 𝕄 => iprop(A ∗ B)) rfl ?_)
  refine (BI.bigSep_univ_sum _).trans (congrArg₂ (fun A B : sProp 𝕄 => iprop(A ∗ B)) (BI.bigSep_fin_two _) ?_)
  exact four_all _

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (cells_all fun g => roundState ER (Rd m) g 0)) $$ Hst
  ihave Hat := (Entails.of_eq (cells_all fun g => atPos ER g 0 ∅ 0)) $$ Hat
  ihave Hr := (Entails.of_eq (cells_all fun g => reached ER g 0)) $$ Hr
  ihave Htok := (Entails.of_eq toks_all) $$ Htok
  unfold G
  rw [sep_all, sep_all, sep_all]
  isplitl [Hst]; · iexact Hst
  isplitl [Hr]; · iexact Hr
  isplitl [Hat]; · iexact Hat
  iexact Htok

theorem unscopedSems0_eq (c : Dev nD) : (unscopedSems0 c : sProp 𝕄) = semVal (cell c iBar) 0 := by
  unfold unscopedSems0; rw [bigSep_eq_bigSepL_of_eq [SemLoc.reg barS] (by decide) (by decide)]; rfl

theorem sems_all (c : Dev nD) :
    (bigSep Finset.univ fun i : Ix => semVal (cell c i) 0 : sProp 𝕄)
      = iprop(unscopedSems0 c ∗ Pipeline.ownSems0 (Ix := Unit) (Name := ℕ) (U := UU) (Lvl := ℕ) (Val := Elt F) (τ := τ) osem c) := by
  rw [unscopedSems0_eq]
  exact (BI.bigSep_univ_sum _).trans (congrArg₂ (fun A B : sProp 𝕄 => iprop(A ∗ B)) (BI.bigSep_univ_of_subsingleton ()) rfl)

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Ix => iprop(∃ κ : ℕ, cellInv ER (Rd m) κ (cell c i)))
          ∗ (bigSep Finset.univ fun i : Ix => reached ER (cell c i) 0) ∗ (bigSep Finset.univ fun i : Ix => pos c i 0) ∗ toks c) := by
  unfold G
  iintro ⟨Hos, Hus, Hst, Hr, Hat, Htok⟩
  ihave Hv := (Entails.of_eq (sems_all c).symm) $$ [Hos Hus]
  · isplitl [Hus] <;> iassumption
  imod (show iprop((bigSep Finset.univ fun i : Ix => semVal (cell c i) 0) ∗ bigSep Finset.univ fun i : Ix => roundState ER (Rd m) (cell c i) 0)
      ⊢ (|={Set.univ}=> bigSep Finset.univ fun i : Ix => iprop(∃ κ : ℕ, cellInv ER (Rd m) κ (cell c i)) : sProp 𝕄) from by
        rw [← sep_all]
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- A family over the devices and the steps, read at the device a step sends to. -/
theorem around (Φ : Dev nD → Fin 31 → sProp 𝕄) :
    (bigSep Finset.univ fun c : Dev nD => bigSep Finset.univ fun r : Fin 31 => Φ c r) = bigSep Finset.univ fun c : Dev nD => bigSep Finset.univ fun r : Fin 31 => Φ (up c r) r := by
  rw [BI.bigSep_univ_comm, BI.bigSep_univ_comm (fun (c : Dev nD) (r : Fin 31) => Φ (up c r) r)]
  exact BI.bigSep_congr fun r _ => BI.bigSep_univ_equiv (upE r) _

theorem bar_around :
    (bigSep Finset.univ fun c : Dev nD => bigSep Finset.univ fun d : Fin 31 => dutyTok ER (cell c iBar) 0 d : sProp 𝕄)
      = bigSep Finset.univ fun c : Dev nD => bigSep Finset.univ fun r : Fin 31 => dutyTok ER (cell (up c r) iBar) 0 (rev r) :=
  (BI.bigSep_congr fun c _ => BI.bigSep_univ_equiv revE _).trans (around fun c r => dutyTok ER (cell c iBar) 0 (rev r))

theorem toks_around : (bigSep Finset.univ fun c : Dev nD => (toks c : sProp 𝕄)) = bigSep Finset.univ fun c : Dev nD => payToks c := by
  unfold toks payToks
  simp only [sep_all]
  rw [bar_around, around fun c r => dutyTok ER (cell c (iStep 1 r)) 0 0, around fun c r => dutyTok ER (cell c (iStep 3 r)) 0 0]

theorem regroup :
    (bigSep Finset.univ fun c : Dev nD => iprop((bigSep Finset.univ fun i : Ix => iprop(∃ κ : ℕ, cellInv ER (Rd m) κ (cell c i)))
          ∗ (bigSep Finset.univ fun i : Ix => reached ER (cell c i) 0) ∗ (bigSep Finset.univ fun i : Ix => pos c i 0) ∗ toks c) : sProp 𝕄)
      ⊢ bigSep Finset.univ (G' m) := by
  rw [sep_all, sep_all, sep_all, toks_around, ← BI.bigSep_univ_prod (fun x : Dev nD × Ix => iprop(∃ κ : ℕ, cellInv ER (Rd m) κ (cell x.1 x.2))),
    ← BI.bigSep_univ_prod (fun x : Dev nD × Ix => (reached ER (cell x.1 x.2) 0 : sProp 𝕄))]
  iintro ⟨HI, HR, Hat, Htok⟩
  ihave HK := (BI.bigSep_exists_pi Finset.univ (fun (x : Dev nD × Ix) (κ : ℕ) => (cellInv ER (Rd m) κ (cell x.1 x.2) : sProp 𝕄))) $$ HI
  icases HK with ⟨%K, HI⟩
  iapply (all_with (R := iprop((bigSep Finset.univ fun x : Dev nD × Ix => cellInv ER (Rd m) (K x) (cell x.1 x.2)) ∗ (bigSep Finset.univ fun x : Dev nD × Ix => reached ER (cell x.1 x.2) 0)))
    (Φ := fun c : Dev nD => linear c) fun c _ => show _ ⊢ G' m c from by unfold G'; iintro H; iexists K; iexact H)
  isplitl [HI HR]
  · isplitl [HI]; · iexact HI
    iexact HR
  unfold linear
  rw [sep_all]
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

theorem tal_sum (f : Fin 31 → CellTallies nD τ sig Unit) (g : GSem nD τ sig) : tal f steps g () = ∑ r, f r g () := by
  have h : ∀ l : List (Fin 31), tal f l g () = (l.map fun r => f r g ()).sum := by
    intro l
    induction l with
    | nil => rfl
    | cons r l ih => rw [tal_cons, Pi.add_apply, Finsupp.add_apply, ih, List.map_cons, List.sum_cons, Nat.add_comm]
  rw [h, ← List.sum_toFinset _ (by decide)]
  exact Finset.sum_congr (by decide) fun _ _ => rfl

/-- What all devices together owe a cell, when step `r` owes `n` to the cell `j r` of the device it sends to. -/
theorem owed_all (j : Fin 31 → Ix) (n : ℕ) (c : Dev nD) (i : Ix) :
    ∑ d : Dev nD, tal (fun r => (tallyAt (cell (up d r) (j r)) () n : CellTallies nD τ sig Unit)) steps (cell c i) () = ∑ r : Fin 31, if j r = i then n else 0 := by
  rw [Finset.sum_congr rfl fun d _ => tal_sum _ _, Finset.sum_comm]
  refine Finset.sum_congr rfl fun r _ => ?_
  rw [Finset.sum_congr rfl fun d _ => show _ = if d = dn c r then (if j r = i then n else 0) else 0 from ?_]
  · rw [Finset.sum_ite_eq' Finset.univ (dn c r), if_pos (Finset.mem_univ _)]
  · rw [tallyAt_apply]
    by_cases hd : d = dn c r
    · subst hd
      rw [if_pos rfl, up_dn]
      by_cases hj : j r = i
      · rw [if_pos hj, if_pos ⟨by rw [hj], rfl⟩]
      · rw [if_neg hj, if_neg fun h => hj (cell_eq.mp h.1).2.symm]
    · rw [if_neg hd, if_neg fun h => hd (by rw [(cell_eq.mp h.1).1, dn_up])]

theorem credit_eq (c : Dev nD) (i : Ix) :
    tallyOn (cell c i) (launchCredit (Pipeline.owing O₀) 0 (cell c i))
      = (tallyAt (cell c i) () ((∑ r : Fin 31, if iStep 3 r = i then NB else 0) + (∑ r : Fin 31, if iStep 1 r = i then NB else 0) + ∑ r : Fin 31, if iBar = i then 1 else 0)
          : CellTallies nD τ sig Unit) := by
  unfold tallyAt; refine congrArg _ (Finsupp.ext fun u => ?_); cases u
  rw [Pipeline.launchCredit_owing, Finsupp.single_eq_same, ← owed_all (fun r => iStep 3 r) NB c i, ← owed_all (fun r => iStep 1 r) NB c i, ← owed_all (fun _ => iBar) 1 c i,
    ← Finset.sum_add_distrib, ← Finset.sum_add_distrib]
  rfl

theorem creds_intro (c : Dev nD) : (Pipeline.launchCred O₀ c : sProp 𝕄) ⊢ creds c := by
  unfold Pipeline.launchCred
  refine BIBase.Entails.trans (BI.bigSep_subset (Finset.subset_univ (Finset.univ.map ⟨csem, csem_injective⟩))) ?_
  rw [BI.bigSep_map]
  refine BIBase.Entails.trans (Entails.of_eq (BI.bigSep_congr fun i _ => congrArg cred (credit_eq c i))) ?_
  refine BIBase.Entails.trans (Entails.of_eq (ix_all _)) ?_
  unfold creds
  iintro ⟨HB, -, -, H1, -, H3⟩
  isplitl [HB]
  · iapply (Entails.of_eq (congrArg (fun n => (cred (tallyAt (cell c iBar) () n) : sProp 𝕄)) ?_)); rotate_left
    · iexact HB
    simp
  isplitl [H1]
  · iapply (Entails.of_eq (BI.bigSep_congr fun r _ => congrArg (fun n => (cred (tallyAt (cell c (iStep 1 r)) () n) : sProp 𝕄)) ?_)); rotate_left
    · iexact H1
    simp
  · iapply (Entails.of_eq (BI.bigSep_congr fun r _ => congrArg (fun n => (cred (tallyAt (cell c (iStep 3 r)) () n) : sProp 𝕄)) ?_)); rotate_left
    · iexact H3
    simp

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hkv, Hlev, Hcr, -, HG⟩
  ihave Hc := (creds_intro (F := F) c) $$ Hcr
  imodintro
  unfold start G' env kvIn
  isplitl
  · isplitl [HG Hlev]
    · icases HG with ⟨%K, ⟨HI, HR⟩, HL⟩
      iexists K
      isplitl [HI HR Hlev]
      · isplitl [HI]; · iexact HI
        isplitl [HR]; · iexact HR
        iexact Hlev
      iexact HL
    isplitl [Hc]; · iexact Hc
    iexact Hkv
  · iempintro

theorem enter (c : Dev nD) :
    iprop(start m c ∗ Pipeline.prefHeld Pipeline.Prefetch.none c (fun _ => fullShare.right) (fun k => k.elim0) ∗ Pipeline.scopedRest cfg0.spec c) ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem leave (c : Dev nD) :
    (dats m 0 c).Φ (Fin.last cfg0.N) ⊢ iprop((unscopedSems0 c ∗ kvIn m c) ∗ Pipeline.ownSems0 osem c ∗ Pipeline.scopedRest cfg0.spec c) := by
  rw [show (dats m 0 c).Φ (Fin.last cfg0.N) = Φ₁ m c from rfl, scopedRest0_eq]
  unfold Φ₁ scr
  rw [sems_all]
  iintro ⟨⟨Hu, Ho⟩, Hkv, Hr⟩
  isplitl [Hu Hkv]
  · isplitl [Hu]; · iexact Hu
    iexact Hkv
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    have hw : ∀ (w : Fin 4) (s : Fin (cfg0.spec w).nbuf), ((cfg0.spec w).sem s).val < 4 := by decide
    rcases t with ⟨_ | _, ht⟩
    · refine mayWait c _ 0 ?_ (O₀ c) fun g u h => by obtain ⟨p, i, h, h'⟩ := O₀_pos h; exact ⟨p, i, h, h'⟩
      unfold lv
      split
      · rename_i i hi
        exfalso
        have hi := decode_some hi
        have := hw w s
        rcases i with _ | j | ⟨k, r⟩
        · cases hi
        · have e : (semL j).val = ((cfg0.spec w).sem s).val := congrArg Fin.val (SemLoc.dma.inj hi)
          rw [semL_val] at e; omega
        · have e : (semAt (arr k) r).val = ((cfg0.spec w).sem s).val := congrArg Fin.val (SemLoc.dma.inj hi)
          rw [semAt_val] at e; omega
      · exact Nat.le_refl 0
    · exact mayWait_zero c _

def finalA (c : Dev nD) (w : Fin cfg0.W) : Buf (Elt F) ((cfg0.win w).arr.view.loc (c : Thread nD τ)) := (dats m 0 c).arrAt w cfg0.N

/-- Every window's array at its final contents, and the keys and the values as they were. -/
def QC (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

theorem kv_read (c : Dev nD) (s' : Phys nD τ sig (Elt F)) :
    iprop(kvIn m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  have h := Idealize.ShloMosaic.pointsTo_read_all (Ix := Unit) (Name := ℕ) (U := UU) (Lvl := ℕ) (Finset.univ : Finset (Fin 2)) (fun i => (c : Thread nD τ).loc (match i with | 0 => main_arg2 | 1 => main_arg3))
    (fun i => m ((c : Thread nD τ).loc (match i with | 0 => main_arg2 | 1 => main_arg3))) s'
  rw [BI.bigSep_fin_two] at h
  unfold kvIn
  iintro H
  ihave H := h $$ H
  icases H with ⟨%hh, HS⟩
  isplitr
  · ipureintro; exact ⟨hh 0 (Finset.mem_univ _), hh 1 (Finset.mem_univ _)⟩
  iexact HS

set_option maxRecDepth 20000 in
/-- Every execution ends, the arrays are at their final contents, and every counter is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ kvIn m c)) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨⟨Hu, Hkv⟩, -, HSI⟩
      ihave H := (kv_read m c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hkv⟩
      iexact HSI)
    (hQ := fun _ h hs => ⟨fun c => ⟨(h c).1, (h c).2.2.2⟩, sem_eq_zero hs fun c => (h c).2.2.1⟩)

end Cert.AllReduce

end
-- ==== Proof.Frames.lean ====
/-
# The frames

Every execution ends, with the arguments as they were and every counter at zero: the kernel over the machine's formats and
over the ideal numbers, by one run, and the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.AllReduce

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

theorem final_x (c : Dev nD) : finalA m c (0 : Fin 4) = m ((c : Thread nD τ).loc main_arg0) := (dats (F := F) m 0 c).arrAt_in (0 : Fin 4) rfl _
theorem final_wq (c : Dev nD) : finalA m c (1 : Fin 4) = m ((c : Thread nD τ).loc main_arg1) := (dats (F := F) m 0 c).arrAt_in (1 : Fin 4) rfl _
theorem final_wo (c : Dev nD) : finalA m c (2 : Fin 4) = m ((c : Thread nD τ).loc main_arg4) := (dats (F := F) m 0 c).arrAt_in (2 : Fin 4) rfl _

theorem args_kept {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 (0 : Fin 4)).trans (final_x m c), ((h c).1 (1 : Fin 4)).trans (final_wq m c), (h c).2.1, (h c).2.2, ((h c).1 (2 : Fin 4)).trans (final_wo m c)⟩

theorem frame_any (ρ : Dev nD → PrngReg) : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => args_kept m h.1 c, h.2⟩) (run_main m ρ)

theorem frame_ideal : Cert.quiescent_KernelIdeal := fun m ρ _ => frame_any (F := Ideal) m ρ

set_option smartUnfolding false in
set_option maxRecDepth 100000 in
theorem frame_kernel : Cert.quiescent_Kernel := fun m ρ _ => frame_any (F := Bits) m ρ

/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AllReduce

end
-- ==== Proof.RefTerm.lean ====
/-
# The reference, in stages

The reference's result is one long term of its arguments. Here it is cut into stages (the block mask, the queries, the masked
scores, their exponentials, the weights, the contexts), each read at an index.
-/
module

public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.AllReduce.Ref

open Cert.ReferenceIdeal Cert.ReferenceIdeal.Gen
open Idealize.ShloMosaic Idealize.ShloMosaic.TcCoe
open Idealize.SL.Sem

/-- Each position's block of sixty-four. -/
def blkR : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The divisor three. -/
def threeR : IVec S_ 32 := select (cmpi .eq (id (constantI S_ 32 3#32)) (constantI S_ 32 0#32)) (constantI S_ 32 1#32) (id (constantI S_ 32 3#32))

/-- The sum of the two block numbers, and its remainder by three. -/
def sumR : IVec S1024x1024 32 := addi (broadcastInDim S1024x1024 ![0, 1] bcast_S1024x1_S1024x1024_0_1 (broadcastInDim S1024x1 ![0] bcast_S1024_S1024x1_0 blkR))
  (broadcastInDim S1024x1024 ![0, 1] bcast_S1x1024_S1024x1024_0_1 (broadcastInDim S1x1024 ![1] bcast_S1024_S1x1024_1 blkR))
def remR : IVec S1024x1024 32 := Host.remsi sumR (broadcastInDim S1024x1024 ![] bcast_S_S1024x1024 threeR)

/-- The block mask. -/
def maskR : IVec S1024x1024 1 :=
  ori (ori (cmpi .eq (broadcastInDim S1024x1024 ![0, 1] bcast_S1024x1_S1024x1024_0_1 (broadcastInDim S1024x1 ![0] bcast_S1024_S1024x1_0 blkR))
        (broadcastInDim S1024x1024 ![0, 1] bcast_S1x1024_S1024x1024_0_1 (broadcastInDim S1x1024 ![1] bcast_S1024_S1x1024_1 blkR)))
      (broadcastInDim S1024x1024 ![0, 1] bcast_S1x1024_S1024x1024_0_1 (cmpi .eq (broadcastInDim S1x1024 ![1] bcast_S1024_S1x1024_1 blkR) (broadcastInDim S1x1024 ![] bcast_S_S1x1024 (constantI S_ 32 0#32)))))
    (cmpi .eq (select (andi (cmpi .ne (cmpi .slt remR (broadcastInDim S1024x1024 ![] bcast_S_S1024x1024 (constantI S_ 32 0#32)))
          (broadcastInDim S1024x1024 ![] bcast_S_S1024x1024 (cmpi .slt threeR (constantI S_ 32 0#32))))
        (cmpi .ne remR (broadcastInDim S1024x1024 ![] bcast_S_S1024x1024 (constantI S_ 32 0#32))))
      (addi remR (broadcastInDim S1024x1024 ![] bcast_S_S1024x1024 threeR)) remR) (broadcastInDim S1024x1024 ![] bcast_S_S1024x1024 (constantI S_ 32 0#32)))

/-- Whether a query has a key. -/
def keepR : IVec S1024 1 := Host.reduce IntOp.ori maskR (constantI S_ 1 0#1) reducesTo_S1024x1024_S1024_d1 h_S_

def qR (x : FVec Ideal S1x1024x1024 .f32) (wq : FVec Ideal S1024x32768 .f32) : FVec Ideal S1x1024x256x128 .f32 :=
  shapeCast _ (Host.dotGeneral dot_S1x1024x1024_S1024x32768_S1x1024x32768_2_0_01_1_n_n none x wq) shapeCasts_S1x1024x32768_S1x1024x256x128

/-- The masked scores. -/
def scoreR (q k : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 maskR))
    (mulf (Host.dotGeneral dot_S1x1024x256x128_S1x1024x256x128_S1x256x1024x1024_3_3_1_1_02_02 none q k) (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))

/-- The scores' exponentials, each row's maximum taken off. -/
def expR (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2 (Host.reduce FloatOps.maximumf s (constant S_ .f32 0xFF800000#32) reducesTo_S1x256x1024x1024_S1x256x1024_d3 h_S_))))

/-- The weights. -/
def weightR (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 keepR))
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3 (broadcastInDim S1x1x1024x1 ![2] bcast_S1024_S1x1x1024x1_2 keepR))
        (broadcastInDim S1x256x1024x1 ![0, 1, 2] bcast_S1x256x1024_S1x256x1024x1_0_1_2 (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))

/-- The contexts. -/
def ctxR (w : FVec Ideal S1x256x1024x1024 .f32) (v : FVec Ideal S1x1024x256x128 .f32) : FVec Ideal S1x1024x32768 .f32 :=
  shapeCast _ (transpose S1x1024x256x128 [0, 3, 1, 2] (Host.dotGeneral dot_S1x1024x256x128_S1x256x1024x1024_S1x256x128x1024_1_3_3_2_02_01 none v w) transposes_S1x256x128x1024_S1x1024x256x128_0_3_1_2)
    shapeCasts_S1x1024x256x128_S1x1024x32768

def outR (ctx : FVec Ideal S1x1024x32768 .f32) (wo : FVec Ideal S32768x1024 .f32) : FVec Ideal S1x1024x1024 .f32 :=
  Host.dotGeneral dot_S1x1024x32768_S32768x1024_S1x1024x1024_2_0_01_1_n_n none ctx wo

theorem res_eq (m : (ℓ : Loc nD τ sig) → Buf (Elt Ideal) ℓ) (c : Dev nD) :
    Cert.ReferenceIdeal.Value.res_main_v44 m c
      = outR (ctxR (weightR (expR (scoreR (qR (m ((c.tc : Thread nD τ).loc main_arg0)) (m ((c.tc : Thread nD τ).loc main_arg1))) (m ((c.tc : Thread nD τ).loc main_arg2)))))
          (m ((c.tc : Thread nD τ).loc main_arg3))) (m ((c.tc : Thread nD τ).loc main_arg4)) := rfl

end Cert.AllReduce.Ref

end
-- ==== Proof.RefAt.lean ====
/-
# The reference at an index

Each stage of the reference read at an index, down to sums and the functions of the extended reals; then the whole.
-/
module

public import proofs.«01_k».proof.Proof.RefTerm
public import Idealize.ShloMosaic.Lib.Pointwise
public import Idealize.ShloMosaic.Lib.Routing.OpsOrder

@[expose] public section

set_option maxRecDepth 16384

noncomputable section

namespace Cert.AllReduce.Ref

open Cert.ReferenceIdeal Cert.ReferenceIdeal.Gen
open Idealize.ShloMosaic Idealize.ShloMosaic.TcCoe
open Idealize.SL.Sem

/-! ## Each stage at an index -/

theorem q_at (x : FVec Ideal S1x1024x1024 .f32) (wq : FVec Ideal S1024x32768 .f32) (i : Fin 1024) (H : Fin 256) (e : Fin 128) :
    qR x wq (ix4 0 i H e) = ∑ k : Fin 1024, x (ix3 0 i k) * wq (ix2 k ⟨H.val * 128 + e.val, by omega⟩) := by
  pointwise [qR]

theorem score_at (q k : FVec Ideal S1x1024x256x128 .f32) (H : Fin 256) (i j : Fin 1024) :
    scoreR q k (ix4 0 H i j)
      = Scalar.select (maskR (ix2 i j)) ((∑ e : Fin 128, q (ix4 0 i H e) * k (ix4 0 j H e)) * Ideal.ofBits .f32 0x3DB504F3#32) (Ideal.ofBits .f32 0xCE6E6B28#32) := by
  pointwise [scoreR, id_eq]

theorem exp_at (s : FVec Ideal S1x256x1024x1024 .f32) (H : Fin 256) (i j : Fin 1024) :
    expR s (ix4 0 H i j)
      = Ideal.exp (s (ix4 0 H i j) - (Finset.univ : Finset (Fin 1024)).fold max (Ideal.ofBits .f32 0xFF800000#32) (fun l => s (ix4 0 H i l))) := by
  pointwise [expR]

theorem weight_at (e : FVec Ideal S1x256x1024x1024 .f32) (hk : ∀ i : Fin 1024, keepR (ix1 i) = 1#1) (H : Fin 256) (i j : Fin 1024) :
    weightR e (ix4 0 H i j) = Ideal.div (e (ix4 0 H i j)) (∑ l : Fin 1024, e (ix4 0 H i l)) := by
  pointwise [weightR, hk]

theorem ctx_at (w : FVec Ideal S1x256x1024x1024 .f32) (v : FVec Ideal S1x1024x256x128 .f32) (i : Fin 1024) (k : Fin 32768) :
    ctxR w v (ix3 0 i k) = ∑ j : Fin 1024, w (ix4 0 ⟨k.val / 128, by omega⟩ i j) * v (ix4 0 j ⟨k.val / 128, by omega⟩ ⟨k.val % 128, by omega⟩) := by
  pointwise [ctxR]
  exact Finset.sum_congr rfl fun j _ => mul_comm _ _

theorem out_at (ctx : FVec Ideal S1x1024x32768 .f32) (wo : FVec Ideal S32768x1024 .f32) (i n : Fin 1024) :
    outR ctx wo (ix3 0 i n) = ∑ k : Fin 32768, ctx (ix3 0 i k) * wo (ix2 k n) := by
  pointwise [outR]

/-! ## The mask -/

/-- Whether block `b` of keys is kept for block `a` of queries. -/
def keepB (a b : Nat) : BitVec 1 := BitVec.ofBool (decide (a = b ∨ b = 0 ∨ (a + b) % 3 = 0))

theorem three_at : threeR ix0 = 3#32 := by decide

theorem blk_at (i : Fin 1024) : blkR (ix1 i) = BitVec.ofNat 32 (i.val / 64) := by
  pointwise [blkR, id_eq]
  revert i; decide +kernel

theorem sum_at (i j : Fin 1024) : sumR (ix2 i j) = IntOp.addi (BitVec.ofNat 32 (i.val / 64)) (BitVec.ofNat 32 (j.val / 64)) := by
  pointwise [sumR, blk_at]

theorem mask_at (i j : Fin 1024) : maskR (ix2 i j) = keepB (i.val / 64) (j.val / 64) := by
  pointwise [maskR, remR, sum_at, blk_at, three_at]
  exact (by decide +kernel : ∀ a b : Fin 16,
    IntOp.ori (IntOp.ori (IntOp.cmpi CmpIPredicate.eq (BitVec.ofNat 32 a.val) (BitVec.ofNat 32 b.val)) (IntOp.cmpi CmpIPredicate.eq (BitVec.ofNat 32 b.val) 0#32))
      (IntOp.cmpi CmpIPredicate.eq (Scalar.select (IntOp.andi
          (IntOp.cmpi CmpIPredicate.ne (IntOp.cmpi CmpIPredicate.slt (IntOp.remsi ArithUnit.host (IntOp.addi (BitVec.ofNat 32 a.val) (BitVec.ofNat 32 b.val)) 3#32) 0#32) (IntOp.cmpi CmpIPredicate.slt 3#32 0#32))
          (IntOp.cmpi CmpIPredicate.ne (IntOp.remsi ArithUnit.host (IntOp.addi (BitVec.ofNat 32 a.val) (BitVec.ofNat 32 b.val)) 3#32) 0#32))
        (IntOp.addi (IntOp.remsi ArithUnit.host (IntOp.addi (BitVec.ofNat 32 a.val) (BitVec.ofNat 32 b.val)) 3#32) 3#32)
        (IntOp.remsi ArithUnit.host (IntOp.addi (BitVec.ofNat 32 a.val) (BitVec.ofNat 32 b.val)) 3#32)) 0#32) = keepB a.val b.val) ⟨i.val / 64, by omega⟩ ⟨j.val / 64, by omega⟩

theorem keep_at (i : Fin 1024) : keepR (ix1 i) = 1#1 := by
  pointwise [keepR, mask_at]
  rw [Routing.fold_ori]
  exact ⟨0, Finset.mem_univ _, by simp [keepB]⟩

/-! ## The whole reference at an index -/

/-- One query's attention over the keys and values of one head, written out. -/
def scoreF (q : Fin 1024 → Fin 128 → EReal) (k : Fin 1024 → Fin 128 → EReal) (i j : Fin 1024) : EReal :=
  Scalar.select (keepB (i.val / 64) (j.val / 64)) ((∑ e : Fin 128, q i e * k j e) * Ideal.ofBits .f32 0x3DB504F3#32) (Ideal.ofBits .f32 0xCE6E6B28#32)
def expF (q : Fin 1024 → Fin 128 → EReal) (k : Fin 1024 → Fin 128 → EReal) (i j : Fin 1024) : EReal :=
  Ideal.exp (scoreF q k i j - (Finset.univ : Finset (Fin 1024)).fold max (Ideal.ofBits .f32 0xFF800000#32) (fun l => scoreF q k i l))
def attnF (q k v : Fin 1024 → Fin 128 → EReal) (i : Fin 1024) (d : Fin 128) : EReal :=
  ∑ j : Fin 1024, Ideal.div (expF q k i j) (∑ l : Fin 1024, expF q k i l) * v j d

/-- The queries of head `H`. -/
def queryF (x : FVec Ideal S1x1024x1024 .f32) (wq : FVec Ideal S1024x32768 .f32) (H : Fin 256) (i : Fin 1024) (e : Fin 128) : EReal :=
  ∑ k : Fin 1024, x (ix3 0 i k) * wq (ix2 k ⟨H.val * 128 + e.val, by omega⟩)
/-- The context of head `H`. -/
def headR (x : FVec Ideal S1x1024x1024 .f32) (wq : FVec Ideal S1024x32768 .f32) (k v : FVec Ideal S1x1024x256x128 .f32) (H : Fin 256) (i : Fin 1024) (d : Fin 128) : EReal :=
  attnF (queryF x wq H) (fun j e => k (ix4 0 j H e)) (fun j e => v (ix4 0 j H e)) i d

theorem whole_at (x : FVec Ideal S1x1024x1024 .f32) (wq : FVec Ideal S1024x32768 .f32) (k v : FVec Ideal S1x1024x256x128 .f32) (wo : FVec Ideal S32768x1024 .f32) (i n : Fin 1024) :
    outR (ctxR (weightR (expR (scoreR (qR x wq) k))) v) wo (ix3 0 i n)
      = ∑ c : Fin 32768, headR x wq k v ⟨c.val / 128, by omega⟩ i ⟨c.val % 128, by omega⟩ * wo (ix2 c n) := by
  rw [out_at]
  refine Finset.sum_congr rfl fun c _ => ?_
  rw [ctx_at]
  simp only [weight_at _ keep_at, exp_at, score_at, q_at, mask_at]
  rfl

end Cert.AllReduce.Ref

end
-- ==== Proof.KernelAt.lean ====
/-
# The kernel's computations at an index

The projections, one head, and the block mask, each read at an index over the ideal numbers.
-/
module

public import proofs.«01_k».proof.Proof.Prog
public import proofs.«01_k».proof.Proof.RefAt

@[expose] public section

set_option maxRecDepth 16384

noncomputable section

namespace Cert.AllReduce

open Cert.KernelIdeal Cert.KernelIdeal.Gen
open Idealize.ShloMosaic Idealize.ShloMosaic.TcCoe
open Idealize.SL.Sem
open Cert.AllReduce.Ref (keepB attnF expF scoreF)

theorem qProj_at (x : Vec Ideal S1x1024x1024 .f32) (wq : Vec Ideal S1024x1024 .f32) (i n : Fin 1024) :
    qProj (F := Ideal) x wq (ix2 i n) = ∑ k : Fin 1024, (show EReal from x (ix3 0 i k)) * (show EReal from wq (ix2 k n)) := by
  pointwise [qProj]

theorem outProj_at (ctx : Vec Ideal S1024x1024 .bf16) (wo : Vec Ideal S1024x1024 .f32) (i n : Fin 1024) :
    outProj (F := Ideal) ctx wo (ix2 i n) = ∑ k : Fin 1024, (show EReal from ctx (ix2 i k)) * (show EReal from wo (ix2 k n)) := by
  pointwise [outProj]

/-- A position's block of sixty-four, as the kernel computes it. -/
theorem kblk_at : ∀ i : Fin 1024, Scalar.select
      (IntOp.andi
        (IntOp.cmpi CmpIPredicate.ne
          (IntOp.subi (BitVec.setWidth 32 (IntOp.cmpi CmpIPredicate.sgt (BitVec.ofNat 32 i.val) 0#32)) (BitVec.setWidth 32 (IntOp.cmpi CmpIPredicate.slt (BitVec.ofNat 32 i.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32)
    = BitVec.ofNat 32 (i.val / 64) := by decide +kernel

theorem kthree_at : Scalar.select (Scalar.cmpi CmpIPredicate.eq 3#32 0#32) 1#32 3#32 = 3#32 := by decide

theorem kmask_at (i j : Fin 1024) : mask (ix2 i j) = keepB (i.val / 64) (j.val / 64) := by
  pointwise [mask, kblk_at, kthree_at]
  exact (by decide +kernel : ∀ a b : Fin 16,
    IntOp.ori (IntOp.ori (IntOp.cmpi CmpIPredicate.eq (BitVec.ofNat 32 a.val) (BitVec.ofNat 32 b.val)) (IntOp.cmpi CmpIPredicate.eq (BitVec.ofNat 32 b.val) 0#32))
      (IntOp.cmpi CmpIPredicate.eq (Scalar.select (IntOp.andi
          (IntOp.xori (IntOp.cmpi CmpIPredicate.slt (IntOp.remsi ArithUnit.vector (IntOp.addi (BitVec.ofNat 32 a.val) (BitVec.ofNat 32 b.val)) 3#32) 0#32) (Scalar.cmpi CmpIPredicate.slt 3#32 0#32)) (IntOp.cmpi CmpIPredicate.ne (IntOp.remsi ArithUnit.vector (IntOp.addi (BitVec.ofNat 32 a.val) (BitVec.ofNat 32 b.val)) 3#32) 0#32))
        (IntOp.addi (IntOp.remsi ArithUnit.vector (IntOp.addi (BitVec.ofNat 32 a.val) (BitVec.ofNat 32 b.val)) 3#32) 3#32) (IntOp.remsi ArithUnit.vector (IntOp.addi (BitVec.ofNat 32 a.val) (BitVec.ofNat 32 b.val)) 3#32)) 0#32) = keepB a.val b.val) ⟨i.val / 64, by omega⟩ ⟨j.val / 64, by omega⟩

theorem head_at (q : Vec Ideal S1024x128 .bf16) (k v : Vec Ideal S1x1024x1x128 .f32) (i : Fin 1024) (d : Fin 128) :
    headF (F := Ideal) mask q k v (ix2 i d)
      = attnF (fun i e => q (ix2 i e)) (fun j e => k (ix4 0 j 0 e)) (fun j e => v (ix4 0 j 0 e)) i d := by
  pointwise [headF, kmask_at]
  rfl

end Cert.AllReduce

end
-- ==== Proof.Sum.lean ====
/-
# The kernel's result over the ideal numbers

Each device's partial product at an index is the sum over its eight heads' columns; the sum the devices exchange is the sum
over the devices; and the heads' columns of all the devices are the reference's.
-/
module

public import proofs.«01_k».proof.Proof.Reads
public import proofs.«01_k».proof.Proof.KernelAt
public import Idealize.ShloMosaic.Lib.Layout

@[expose] public section

set_option maxRecDepth 16384

noncomputable section

namespace Cert.AllReduce

open Cert.KernelIdeal Cert.KernelIdeal.Gen
open Idealize.ShloMosaic Idealize.ShloMosaic.TcCoe
open Idealize.SL.Sem
open Cert.AllReduce.Ref (keepB attnF expF scoreF queryF)

variable (m : (ℓ : Loc nD τ sig) → Buf (Elt Ideal) ℓ) (c : Dev nD)

/-! ## The loads -/

theorem xC_eq : xC m c = m ((c : Thread nD τ).loc main_arg0) := by
  funext i
  have e : ((win0_0.blk t0_0).view.emb i : S1x1024x1024.Idx) = i := by
    funext a; apply Fin.ext
    fin_cases a <;> exact (Nat.zero_add _).trans (Nat.one_mul _)
  exact congrArg (m ((c : Thread nD τ).loc main_arg0)) e
theorem wqC_eq : wqC m c = m ((c : Thread nD τ).loc main_arg1) := by
  funext i
  have e : ((win0_1.blk t0_0).view.emb i : S1024x1024.Idx) = i := by
    funext a; apply Fin.ext
    fin_cases a <;> exact (Nat.zero_add _).trans (Nat.one_mul _)
  exact congrArg (m ((c : Thread nD τ).loc main_arg1)) e
theorem woC_eq : woC m c = m ((c : Thread nD τ).loc main_arg4) := by
  funext i
  have e : ((win0_2.blk t0_0).view.emb i : S1024x1024.Idx) = i := by
    funext a; apply Fin.ext
    fin_cases a <;> exact (Nat.zero_add _).trans (Nat.one_mul _)
  exact congrArg (m ((c : Thread nD τ).loc main_arg4)) e

theorem head_emb (h : Fin 8) (i : Fin 1024) (e : Fin 128) : ((headR h).emb (ix2 i e : S1024x128.Idx) : S1024x1024.Idx) = ix2 i ⟨h.val * 128 + e.val, by omega⟩ := by
  funext a
  apply Fin.ext
  show (![0, h.val * 128] : Fin 2 → Nat) a + 1 * _ = _
  fin_cases a
  · show 0 + 1 * i.val = i.val; omega
  · show h.val * 128 + 1 * e.val = h.val * 128 + e.val; omega
theorem kvh_emb (s : Fin 2) (h : Fin 8) (j : Fin 1024) (e : Fin 128) : ((kvhR s h).emb (ix4 0 j 0 e : S1x1024x1x128.Idx) : S2x1024x8x128.Idx) = ix4 s j h e := by
  funext a
  apply Fin.ext
  show (![s.val, 0, h.val, 0] : Fin 4 → Nat) a + 1 * _ = _
  fin_cases a
  · show s.val + 1 * 0 = s.val; omega
  · show 0 + 1 * j.val = j.val; omega
  · show h.val + 1 * 0 = h.val; omega
  · show 0 + 1 * e.val = e.val; omega

/-- Head `h` of device `c`, of all the heads. -/
def hd (c : Dev nD) (h : Fin 8) : Fin 256 := ⟨8 * c.val + h.val, by have := c.isLt; have : nD = 32 := rfl; omega⟩

theorem kvSrc_emb (h : Fin 8) (j : Fin 1024) (e : Fin 128) :
    ((Rect.unit (s := S1x1024x256x128) (k0_off1 c) S1x1024x8x128.size (k0_off1_inb c)).emb (Fin.cons ⟨0, Nat.one_pos⟩ (ix3 j h e : S1024x8x128.Idx) : S1x1024x8x128.Idx)
      : S1x1024x256x128.Idx) = ix4 0 j (hd c h) e := by
  have ho : ∀ a : Fin 4, k0_off1 c a = (![0, 0, 8 * c.val, 0] : Fin 4 → Nat) a := fun a => congrFun (k0_off1_eq c) a
  funext a
  apply Fin.ext
  refine (congrArg (· + 1 * (((Fin.cons ⟨0, Nat.one_pos⟩ (ix3 j h e : S1024x8x128.Idx) : S1x1024x8x128.Idx) a).val)) (ho a)).trans ?_
  fin_cases a
  · rfl
  · show 0 + 1 * j.val = j.val; omega
  · show 8 * c.val + 1 * h.val = 8 * c.val + h.val; omega
  · show 0 + 1 * e.val = e.val; omega

/-- A head's queries, keys and values, as loaded. -/
theorem q_load (h : Fin 8) (i : Fin 1024) (e : Fin 128) :
    qM.view.readAt (Elt Ideal) (headR h).toLoadRect (qC m c) (ix2 i e) = qC m c (ix2 i ⟨h.val * 128 + e.val, by omega⟩) :=
  congrArg (qC m c) (head_emb h i e)
theorem k_load (h : Fin 8) (j : Fin 1024) (e : Fin 128) :
    kvM.view.readAt (Elt Ideal) (kvhR 0 h).toLoadRect (kvC m c) (ix4 0 j 0 e) = m ((c : Thread nD τ).loc main_arg2) (ix4 0 j (hd c h) e) := by
  refine (congrArg (kvC m c) (kvh_emb 0 h j e)).trans ?_
  have hx : (fun a : Fin 3 => (ix4 0 j h e : S2x1024x8x128.Idx) a.succ : S1024x8x128.Idx) = ix3 j h e := by
    funext a; fin_cases a <;> rfl
  refine Eq.trans (b := (kvSrc kM c).view.read (Elt Ideal) (m ((c : Thread nD τ).loc main_arg2)) (ix3 j h e)) ?_ ?_
  · exact (show kvC m c (ix4 0 j h e : S2x1024x8x128.Idx) = (kvSrc kM c).view.read (Elt Ideal) (m ((c : Thread nD τ).loc main_arg2)) (fun a : Fin 3 => (ix4 0 j h e : S2x1024x8x128.Idx) a.succ)
      from if_pos rfl).trans (congrArg ((kvSrc kM c).view.read (Elt Ideal) (m ((c : Thread nD τ).loc main_arg2))) hx)
  · show m ((c : Thread nD τ).loc main_arg2) ((Rect.unit (s := S1x1024x256x128) (k0_off1 c) S1x1024x8x128.size (k0_off1_inb c)).emb (Shape.reshapeEquiv _ (ix3 j h e))) = _
    rw [kv1]; exact congrArg (m ((c : Thread nD τ).loc main_arg2)) (kvSrc_emb c h j e)
theorem v_load (h : Fin 8) (j : Fin 1024) (e : Fin 128) :
    kvM.view.readAt (Elt Ideal) (kvhR 1 h).toLoadRect (kvC m c) (ix4 0 j 0 e) = m ((c : Thread nD τ).loc main_arg3) (ix4 0 j (hd c h) e) := by
  refine (congrArg (kvC m c) (kvh_emb 1 h j e)).trans ?_
  have hx : (fun a : Fin 3 => (ix4 1 j h e : S2x1024x8x128.Idx) a.succ : S1024x8x128.Idx) = ix3 j h e := by
    funext a; fin_cases a <;> rfl
  refine Eq.trans (b := (kvSrc vM c).view.read (Elt Ideal) (m ((c : Thread nD τ).loc main_arg3)) (ix3 j h e)) ?_ ?_
  · exact (show kvC m c (ix4 1 j h e : S2x1024x8x128.Idx) = (kvSrc vM c).view.read (Elt Ideal) (m ((c : Thread nD τ).loc main_arg3)) (fun a : Fin 3 => (ix4 1 j h e : S2x1024x8x128.Idx) a.succ)
      from if_neg one_ne_zero).trans (congrArg ((kvSrc vM c).view.read (Elt Ideal) (m ((c : Thread nD τ).loc main_arg3))) hx)
  · show m ((c : Thread nD τ).loc main_arg3) ((Rect.unit (s := S1x1024x256x128) (k0_off1 c) S1x1024x8x128.size (k0_off1_inb c)).emb (Shape.reshapeEquiv _ (ix3 j h e))) = _
    rw [kv1]; exact congrArg (m ((c : Thread nD τ).loc main_arg3)) (kvSrc_emb c h j e)

/-! ## A device's partial product -/

variable (X : FVec Ideal S1x1024x1024 .f32) (WQ : FVec Ideal Cert.ReferenceIdeal.S1024x32768 .f32)
  (K V : FVec Ideal S1x1024x256x128 .f32) (WO : FVec Ideal Cert.ReferenceIdeal.S32768x1024 .f32)

/-- Device `c`'s arguments are the whole arrays' parts. -/
structure Parts : Prop where
  x : m ((c : Thread nD τ).loc main_arg0) = X
  wq : m ((c : Thread nD τ).loc main_arg1) = Layout.block ⟨2, ![1024, 1024]⟩ ⟨2, ![1024, 32768]⟩ 1 32 c WQ
  k : m ((c : Thread nD τ).loc main_arg2) = K
  v : m ((c : Thread nD τ).loc main_arg3) = V
  wo : m ((c : Thread nD τ).loc main_arg4) = Layout.block ⟨2, ![1024, 1024]⟩ ⟨2, ![32768, 1024]⟩ 0 32 c WO

/-- Column (or row) `k` of device `c`'s block, in the whole. -/
def col (c : Dev nD) (k : Fin 1024) : Fin 32768 := ⟨c.val * 1024 + k.val, by have := c.isLt; have : nD = 32 := rfl; omega⟩

theorem cols_at (k n : Fin 1024) :
    Layout.block ⟨2, ![1024, 1024]⟩ ⟨2, ![1024, 32768]⟩ 1 32 c WQ (by decide) (ix2 k n : S1024x1024.Idx) = WQ (ix2 k (col c n)) := by
  refine congrArg WQ ?_
  funext a; apply Fin.ext; fin_cases a <;> rfl
theorem rows_at (k n : Fin 1024) :
    Layout.block ⟨2, ![1024, 1024]⟩ ⟨2, ![32768, 1024]⟩ 0 32 c WO (by decide) (ix2 k n : S1024x1024.Idx) = WO (ix2 (col c k) n) := by
  refine congrArg WO ?_
  funext a; apply Fin.ext; fin_cases a <;> rfl

variable {m c X WQ K V WO}

theorem qC_at (P : Parts m c X WQ K V WO) (i : Fin 1024) (h : Fin 8) (e : Fin 128) :
    qC m c (ix2 i ⟨h.val * 128 + e.val, by omega⟩) = queryF X WQ (hd c h) i e := by
  unfold qC
  rw [xC_eq, wqC_eq, P.x, P.wq]
  refine (qProj_at _ _ i _).trans ?_
  unfold queryF
  refine Finset.sum_congr rfl fun k _ => ?_
  refine congrArg (fun w : EReal => (show EReal from X (ix3 0 i k)) * w) ?_
  refine (cols_at c WQ k _).trans ?_
  refine congrArg (fun n => WQ (ix2 k n)) (Fin.ext ?_)
  show c.val * 1024 + (h.val * 128 + e.val) = (8 * c.val + h.val) * 128 + e.val
  omega

theorem headC_at (P : Parts m c X WQ K V WO) (h : Fin 8) (i : Fin 1024) (d : Fin 128) :
    headC m c h (ix2 i d) = Ref.headR X WQ K V (hd c h) i d := by
  unfold headC Ref.headR
  refine (head_at _ _ _ i d).trans ?_
  have hq : (fun (i : Fin 1024) (e : Fin 128) => qM.view.readAt (Elt Ideal) (headR h).toLoadRect (qC m c) (ix2 i e)) = queryF X WQ (hd c h) := by
    funext i e; exact (q_load m c h i e).trans (qC_at P i h e)
  have hk : (fun (j : Fin 1024) (e : Fin 128) => kvM.view.readAt (Elt Ideal) (kvhR 0 h).toLoadRect (kvC m c) (ix4 0 j 0 e)) = fun j e => K (ix4 0 j (hd c h) e) := by
    funext j e; exact (k_load m c h j e).trans (congrFun P.k _)
  have hv : (fun (j : Fin 1024) (e : Fin 128) => kvM.view.readAt (Elt Ideal) (kvhR 1 h).toLoadRect (kvC m c) (ix4 0 j 0 e)) = fun j e => V (ix4 0 j (hd c h) e) := by
    funext j e; exact (v_load m c h j e).trans (congrFun P.v _)
  exact congr (congr (congr (congr (congrArg attnF hq) hk) hv) rfl) rfl

/-- A column of the whole context. -/
def ctxF (X : FVec Ideal S1x1024x1024 .f32) (WQ : FVec Ideal Cert.ReferenceIdeal.S1024x32768 .f32) (K V : FVec Ideal S1x1024x256x128 .f32)
    (i : Fin 1024) (n : Fin 32768) : EReal :=
  Ref.headR X WQ K V ⟨n.val / 128, by omega⟩ i ⟨n.val % 128, Nat.mod_lt _ (by decide)⟩

theorem ctxC_at (P : Parts m c X WQ K V WO) (i k : Fin 1024) : ctxC m c (ix2 i k : S1024x1024.Idx) = ctxF X WQ K V i (col c k) := by
  refine Eq.trans (b := headC m c ⟨k.val / 128, by omega⟩ (ix2 i ⟨k.val % 128, Nat.mod_lt _ (by decide)⟩)) ?_ ?_
  · refine congrArg (headC m c ⟨k.val / 128, by omega⟩) ?_
    funext a; fin_cases a <;> rfl
  · refine (headC_at P _ i _).trans ?_
    unfold ctxF
    have h1 : hd c ⟨k.val / 128, by omega⟩ = ⟨(col c k).val / 128, by have := (col c k).isLt; omega⟩ := Fin.ext (by show 8 * c.val + k.val / 128 = (c.val * 1024 + k.val) / 128; omega)
    have h2 : (⟨k.val % 128, Nat.mod_lt _ (by decide)⟩ : Fin 128) = ⟨(col c k).val % 128, Nat.mod_lt _ (by decide)⟩ := Fin.ext (by show k.val % 128 = (c.val * 1024 + k.val) % 128; omega)
    rw [h1, h2]

theorem pfC_at (P : Parts m c X WQ K V WO) (i n : Fin 1024) :
    pfC m c (ix2 i n) = ∑ k : Fin 1024, ctxF X WQ K V i (col c k) * (show EReal from WO (ix2 (col c k) n)) := by
  unfold pfC
  rw [woC_eq, P.wo]
  refine (outProj_at _ _ i n).trans ?_
  refine Finset.sum_congr rfl fun k _ => ?_
  exact congr (congrArg (fun a b : EReal => a * b) (ctxC_at P i k)) (rows_at c WO k n)

/-! ## The sum over the devices -/

variable (m c)

/-- Row `a` of device `q`'s rows. -/
def row (q : Dev nD) (a : Fin 32) : Fin 1024 := ⟨32 * q.val + a.val, by have := q.isLt; have : nD = 32 := rfl; omega⟩

theorem rows_emb (q : Dev nD) (a : Fin 32) (n : Fin 1024) : ((rowsR q).emb (ix2 a n : S32x1024.Idx) : S1024x1024.Idx) = ix2 (row q a) n := by
  funext b
  apply Fin.ext
  show (![32 * q.val, 0] : Fin 2 → Nat) b + 1 * _ = _
  fin_cases b
  · show 32 * q.val + 1 * a.val = 32 * q.val + a.val; omega
  · show 0 + 1 * n.val = n.val; omega

theorem src_emb (r : Fin 31) (a : Fin 32) (n : Fin 1024) :
    ((Rect.unit (s := S1024x1024) (k0_off2 (dn c r) (BitVec.ofNat 32 (1 + r.val))) S32x1024.size (k0_off2_inb (dn c r) r)).emb (ix2 a n : S32x1024.Idx) : S1024x1024.Idx)
      = ix2 (row c a) n := by
  have ho : ∀ b : Fin 2, k0_off2 (dn c r) (BitVec.ofNat 32 (1 + r.val)) b = (![32 * c.val, 0] : Fin 2 → Nat) b := fun b =>
    (congrFun (off2_eq (dn c r) r) b).trans (congrArg (fun q : Dev nD => (![32 * q.val, 0] : Fin 2 → Nat) b) (up_dn c r))
  funext b
  apply Fin.ext
  refine (congrArg (· + 1 * ((ix2 a n : S32x1024.Idx) b).val) (ho b)).trans ?_
  fin_cases b
  · show 32 * c.val + 1 * a.val = 32 * c.val + a.val; omega
  · show 0 + 1 * n.val = n.val; omega

theorem slot_at (r : Fin 31) (a : Fin 32) (n : Fin 1024) :
    shapeCast S32x1024 (rsB.view.readAt (Elt Ideal) (slotR r).toLoadRect (rsC m c) : Vec Ideal S1x32x1024 .bf16) shapeCasts_S1x32x1024_S32x1024 (ix2 a n)
      = pfC m (dn c r) (ix2 (row c a) n) := by
  rw [slot_rs]
  exact congrArg (pfC m (dn c r)) (src_emb c r a n)

theorem accOf_at (l : List (Fin 31)) (acc : FVec Ideal S32x1024 .f32) (a : Fin 32) (n : Fin 1024) :
    accOf m c l acc (ix2 a n) = (show EReal from acc (ix2 a n)) + (l.map fun r => (show EReal from pfC m (dn c r) (ix2 (row c a) n))).sum := by
  induction l generalizing acc with
  | nil => exact (add_zero (show EReal from acc (ix2 a n))).symm
  | cons r l ih =>
    refine (ih _).trans ?_
    rw [List.map_cons, List.sum_cons, ← add_assoc]
    refine congrArg (fun t : EReal => t + _) ?_
    exact congrArg (fun t : EReal => (show EReal from acc (ix2 a n)) + t) (slot_at m c r a n)

theorem sum_devs (f : Dev nD → EReal) : f c + (steps.map fun r => f (dn c r)).sum = ∑ d : Dev nD, f d := by
  have hs : (steps.map fun r => f (dn c r)).sum = ∑ r : Fin 31, f (dn c r) := by
    exact (Fin.sum_univ_def fun r => f (dn c r)).symm
  have hi : ∑ r : Fin 31, f (dn c r) = ∑ d ∈ Finset.univ.erase c, f d := by
    refine (Finset.sum_map Finset.univ ⟨dn c, dn_inj c⟩ f).symm.trans (Finset.sum_congr ?_ fun _ _ => rfl)
    ext d
    simp only [Finset.mem_map, Finset.mem_univ, true_and, Finset.mem_erase, and_true, Function.Embedding.coeFn_mk]
    exact ⟨fun ⟨r, hr⟩ => hr ▸ dn_ne c r, fun h => dn_surj c d h⟩
  rw [hs, hi]
  exact Finset.add_sum_erase _ f (Finset.mem_univ c)

theorem accC_at (a : Fin 32) (n : Fin 1024) : accC m c (ix2 a n) = ∑ d : Dev nD, (show EReal from pfC m d (ix2 (row c a) n)) := by
  refine (accOf_at m c steps _ a n).trans ?_
  refine Eq.trans ?_ (sum_devs c fun d => (show EReal from pfC m d (ix2 (row c a) n)))
  refine congrArg (fun t : EReal => t + _) ?_
  exact congrArg (pfC m c) (rows_emb c a n)

theorem outC_at (i n : Fin 1024) : outC m c (ix3 0 i n : S1x1024x1024.Idx) = ∑ d : Dev nD, (show EReal from pfC m d (ix2 i n)) := by
  have hj : (Shape.pair (d := S32x1024.size) ⟨i.val % 32, Nat.mod_lt _ (by decide)⟩ n : S32x1024.Idx) = ix2 ⟨i.val % 32, Nat.mod_lt _ (by decide)⟩ n := by
    funext a; fin_cases a <;> rfl
  have key : ∀ q : Dev nD, q.val = i.val / 32 → accC m q (Shape.pair (d := S32x1024.size) ⟨i.val % 32, Nat.mod_lt _ (by decide)⟩ n : S32x1024.Idx) = ∑ d : Dev nD, (show EReal from pfC m d (ix2 i n)) := by
    intro q hq
    rw [hj]
    refine (accC_at m q _ n).trans ?_
    have e : row q ⟨i.val % 32, Nat.mod_lt _ (by decide)⟩ = i := Fin.ext (by show 32 * q.val + i.val % 32 = i.val; omega)
    rw [e]
  unfold outC
  dsimp only
  split
  · rename_i h
    exact key c (congrArg Fin.val h).symm
  · exact key ⟨i.val / 32, by have : nD = 32 := rfl; omega⟩ rfl

/-- The result of every device is the reference's. -/
theorem outC_eq (P : ∀ d, Parts m d X WQ K V WO) :
    outC m c = Ref.outR (Ref.ctxR (Ref.weightR (Ref.expR (Ref.scoreR (Ref.qR X WQ) K))) V) WO := by
  funext i
  obtain ⟨i, n, rfl⟩ : ∃ a b : Fin 1024, i = (ix3 0 a b : S1x1024x1024.Idx) :=
    ⟨i 1, i 2, funext fun a => by fin_cases a <;> first | rfl | exact Fin.ext (Nat.lt_one_iff.mp (i 0).isLt)⟩
  refine (outC_at m c i n).trans ?_
  refine Eq.trans (α := EReal) ?_ (Ref.whole_at X WQ K V WO i n).symm
  refine Eq.trans (α := EReal) ?_ (Fin.sum_univ_tiles 32 1024 rfl (fun k : Fin 32768 => ctxF X WQ K V i k * (show EReal from WO (ix2 k n)))).symm
  refine Finset.sum_congr rfl fun d _ => ?_
  exact pfC_at (P d) i n

end Cert.AllReduce

end
-- ==== Proof.Value.lean ====
/-
# The kernel's result is the reference's

The array each device's result is written back to ends at `outC`, which is the reference's result of the whole arrays.
-/
module

public import proofs.«01_k».proof.Proof.Frames
public import proofs.«01_k».proof.Proof.RefTerm
public import proofs.«01_k».proof.Proof.Sum
public import Idealize.ShloMosaic.Lib.Pipeline.ValueKit

@[expose] public section

noncomputable section

namespace Cert.AllReduce

open Cert.KernelIdeal Cert.KernelIdeal.Gen
open Idealize.ShloMosaic Idealize.ShloMosaic.TcCoe
open Idealize.SL.Sem

variable (m : (ℓ : Loc nD τ sig) → Buf (Elt Ideal) ℓ)

/-- The write-back leaves the result's array at `outC`. -/
theorem final_out (c : Dev nD) : finalA m c (3 : Fin 4) = outC m c := by
  funext i
  refine ((dats (F := Ideal) m 0 c).arrAt_emb_eq_after_last (3 : Fin 4) t0_0 (by decide +kernel) i).trans ?_
  rfl

theorem algebraic : Cert.algebraic_KernelIdeal_ReferenceIdeal := by
  intro m g m' g' _ hA
  have P : ∀ d, Parts m d (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    fun d => ⟨(hA d).1, (hA d).2.1, (hA d).2.2.1, (hA d).2.2.2.1, (hA d).2.2.2.2⟩
  refine ⟨Cert.ReferenceIdeal.Value.res_main_v44 m' (0 : Dev Cert.ReferenceIdeal.nD), ?_, ?_⟩
  · refine (θ_run defs _ _).mono (fun r h c => ⟨?_, args_kept m h.1 c⟩) (run_main (F := Ideal) m g)
    exact ((h.1 c).1 (3 : Fin 4)).trans ((final_out m c).trans ((outC_eq m c P).trans (Ref.res_eq m' 0).symm))
  · exact (θ_run Cert.ReferenceIdeal.defs _ _).mono (fun r h => h 0) (Cert.ReferenceIdeal.Value.run (F := Ideal) m' g')

end Cert.AllReduce

end
-- ==== Proof.lean ====
/- The claims of proofs.«01_k».proof.Defs, from their proofs in Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllReduce.frame_kernel, Cert.AllReduce.frame_ideal, Cert.AllReduce.frame_reference, trivial, Cert.AllReduce.algebraic⟩

end Cert.Proof

end
